-- ==== Defs.lean ====
def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def Pre_Dwout (m : (ℓ : Loc Cert.Dwout.nD Cert.Dwout.τ Cert.Dwout.sig) → Buf (Elt Bits) ℓ) : Prop :=
  True

def Pre_DwoutIdeal (m : (ℓ : Loc Cert.DwoutIdeal.nD Cert.DwoutIdeal.τ Cert.DwoutIdeal.sig) → Buf (Elt Ideal) ℓ) : Prop :=
  True

def Pre_DwoutRefIdeal (m : (ℓ : Loc Cert.DwoutRefIdeal.nD Cert.DwoutRefIdeal.τ Cert.DwoutRefIdeal.sig) → Buf (Elt Ideal) ℓ) : Prop :=
  True

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6))
      ∧ r.2.sem = fun _ => 0)

def quiescent_Dwout [hDwout : Cert.Dwout.Facts] : Prop :=
  ∀ (m : (ℓ : Loc Cert.Dwout.nD Cert.Dwout.τ Cert.Dwout.sig) → Buf (Elt Bits) ℓ) (g : Dev Cert.Dwout.nD → PrngReg), Pre_Dwout m →
    θ_run (Cert.Dwout.defs (F := Bits)) (onTc (τ := Cert.Dwout.τ) (Cert.Dwout.main (F := Bits))) ⟨m, fun _ => 0, g⟩ (fun r => (∀ c : Dev Cert.Dwout.nD,
      r.2.mem ((c.tc : Thread Cert.Dwout.nD Cert.Dwout.τ).loc Cert.Dwout.main_arg0) = m ((c.tc : Thread Cert.Dwout.nD Cert.Dwout.τ).loc Cert.Dwout.main_arg0)
      ∧ r.2.mem ((c.tc : Thread Cert.Dwout.nD Cert.Dwout.τ).loc Cert.Dwout.main_arg1) = m ((c.tc : Thread Cert.Dwout.nD Cert.Dwout.τ).loc Cert.Dwout.main_arg1)
      ∧ r.2.mem ((c.tc : Thread Cert.Dwout.nD Cert.Dwout.τ).loc Cert.Dwout.main_arg2) = m ((c.tc : Thread Cert.Dwout.nD Cert.Dwout.τ).loc Cert.Dwout.main_arg2)
      ∧ r.2.mem ((c.tc : Thread Cert.Dwout.nD Cert.Dwout.τ).loc Cert.Dwout.main_arg3) = m ((c.tc : Thread Cert.Dwout.nD Cert.Dwout.τ).loc Cert.Dwout.main_arg3)
      ∧ r.2.mem ((c.tc : Thread Cert.Dwout.nD Cert.Dwout.τ).loc Cert.Dwout.main_arg4) = m ((c.tc : Thread Cert.Dwout.nD Cert.Dwout.τ).loc Cert.Dwout.main_arg4)
      ∧ r.2.mem ((c.tc : Thread Cert.Dwout.nD Cert.Dwout.τ).loc Cert.Dwout.main_arg5) = m ((c.tc : Thread Cert.Dwout.nD Cert.Dwout.τ).loc Cert.Dwout.main_arg5)
      ∧ r.2.mem ((c.tc : Thread Cert.Dwout.nD Cert.Dwout.τ).loc Cert.Dwout.main_arg6) = m ((c.tc : Thread Cert.Dwout.nD Cert.Dwout.τ).loc Cert.Dwout.main_arg6)
      ∧ r.2.mem ((c.tc : Thread Cert.Dwout.nD Cert.Dwout.τ).loc Cert.Dwout.main_arg7) = m ((c.tc : Thread Cert.Dwout.nD Cert.Dwout.τ).loc Cert.Dwout.main_arg7)
      ∧ r.2.mem ((c.tc : Thread Cert.Dwout.nD Cert.Dwout.τ).loc Cert.Dwout.main_arg8) = m ((c.tc : Thread Cert.Dwout.nD Cert.Dwout.τ).loc Cert.Dwout.main_arg8)
      ∧ r.2.mem ((c.tc : Thread Cert.Dwout.nD Cert.Dwout.τ).loc Cert.Dwout.main_arg9) = m ((c.tc : Thread Cert.Dwout.nD Cert.Dwout.τ).loc Cert.Dwout.main_arg9)
      ∧ r.2.mem ((c.tc : Thread Cert.Dwout.nD Cert.Dwout.τ).loc Cert.Dwout.main_arg10) = m ((c.tc : Thread Cert.Dwout.nD Cert.Dwout.τ).loc Cert.Dwout.main_arg10)
      ∧ r.2.mem ((c.tc : Thread Cert.Dwout.nD Cert.Dwout.τ).loc Cert.Dwout.main_arg11) = m ((c.tc : Thread Cert.Dwout.nD Cert.Dwout.τ).loc Cert.Dwout.main_arg11))
      ∧ r.2.sem = fun _ => 0)

def quiescent_DwoutIdeal [hDwoutIdeal : Cert.DwoutIdeal.Facts] : Prop :=
  ∀ (m : (ℓ : Loc Cert.DwoutIdeal.nD Cert.DwoutIdeal.τ Cert.DwoutIdeal.sig) → Buf (Elt Ideal) ℓ) (g : Dev Cert.DwoutIdeal.nD → PrngReg), Pre_DwoutIdeal m →
    θ_run (Cert.DwoutIdeal.defs (F := Ideal)) (onTc (τ := Cert.DwoutIdeal.τ) (Cert.DwoutIdeal.main (F := Ideal))) ⟨m, fun _ => 0, g⟩ (fun r => (∀ c : Dev Cert.DwoutIdeal.nD,
      r.2.mem ((c.tc : Thread Cert.DwoutIdeal.nD Cert.DwoutIdeal.τ).loc Cert.DwoutIdeal.main_arg0) = m ((c.tc : Thread Cert.DwoutIdeal.nD Cert.DwoutIdeal.τ).loc Cert.DwoutIdeal.main_arg0)
      ∧ r.2.mem ((c.tc : Thread Cert.DwoutIdeal.nD Cert.DwoutIdeal.τ).loc Cert.DwoutIdeal.main_arg1) = m ((c.tc : Thread Cert.DwoutIdeal.nD Cert.DwoutIdeal.τ).loc Cert.DwoutIdeal.main_arg1)
      ∧ r.2.mem ((c.tc : Thread Cert.DwoutIdeal.nD Cert.DwoutIdeal.τ).loc Cert.DwoutIdeal.main_arg2) = m ((c.tc : Thread Cert.DwoutIdeal.nD Cert.DwoutIdeal.τ).loc Cert.DwoutIdeal.main_arg2)
      ∧ r.2.mem ((c.tc : Thread Cert.DwoutIdeal.nD Cert.DwoutIdeal.τ).loc Cert.DwoutIdeal.main_arg3) = m ((c.tc : Thread Cert.DwoutIdeal.nD Cert.DwoutIdeal.τ).loc Cert.DwoutIdeal.main_arg3)
      ∧ r.2.mem ((c.tc : Thread Cert.DwoutIdeal.nD Cert.DwoutIdeal.τ).loc Cert.DwoutIdeal.main_arg4) = m ((c.tc : Thread Cert.DwoutIdeal.nD Cert.DwoutIdeal.τ).loc Cert.DwoutIdeal.main_arg4)
      ∧ r.2.mem ((c.tc : Thread Cert.DwoutIdeal.nD Cert.DwoutIdeal.τ).loc Cert.DwoutIdeal.main_arg5) = m ((c.tc : Thread Cert.DwoutIdeal.nD Cert.DwoutIdeal.τ).loc Cert.DwoutIdeal.main_arg5)
      ∧ r.2.mem ((c.tc : Thread Cert.DwoutIdeal.nD Cert.DwoutIdeal.τ).loc Cert.DwoutIdeal.main_arg6) = m ((c.tc : Thread Cert.DwoutIdeal.nD Cert.DwoutIdeal.τ).loc Cert.DwoutIdeal.main_arg6)
      ∧ r.2.mem ((c.tc : Thread Cert.DwoutIdeal.nD Cert.DwoutIdeal.τ).loc Cert.DwoutIdeal.main_arg7) = m ((c.tc : Thread Cert.DwoutIdeal.nD Cert.DwoutIdeal.τ).loc Cert.DwoutIdeal.main_arg7)
      ∧ r.2.mem ((c.tc : Thread Cert.DwoutIdeal.nD Cert.DwoutIdeal.τ).loc Cert.DwoutIdeal.main_arg8) = m ((c.tc : Thread Cert.DwoutIdeal.nD Cert.DwoutIdeal.τ).loc Cert.DwoutIdeal.main_arg8)
      ∧ r.2.mem ((c.tc : Thread Cert.DwoutIdeal.nD Cert.DwoutIdeal.τ).loc Cert.DwoutIdeal.main_arg9) = m ((c.tc : Thread Cert.DwoutIdeal.nD Cert.DwoutIdeal.τ).loc Cert.DwoutIdeal.main_arg9)
      ∧ r.2.mem ((c.tc : Thread Cert.DwoutIdeal.nD Cert.DwoutIdeal.τ).loc Cert.DwoutIdeal.main_arg10) = m ((c.tc : Thread Cert.DwoutIdeal.nD Cert.DwoutIdeal.τ).loc Cert.DwoutIdeal.main_arg10)
      ∧ r.2.mem ((c.tc : Thread Cert.DwoutIdeal.nD Cert.DwoutIdeal.τ).loc Cert.DwoutIdeal.main_arg11) = m ((c.tc : Thread Cert.DwoutIdeal.nD Cert.DwoutIdeal.τ).loc Cert.DwoutIdeal.main_arg11))
      ∧ r.2.sem = fun _ => 0)

def quiescent_DwoutRefIdeal [hDwoutRefIdeal : Cert.DwoutRefIdeal.Facts] : Prop :=
  ∀ (m : (ℓ : Loc Cert.DwoutRefIdeal.nD Cert.DwoutRefIdeal.τ Cert.DwoutRefIdeal.sig) → Buf (Elt Ideal) ℓ) (g : Dev Cert.DwoutRefIdeal.nD → PrngReg), Pre_DwoutRefIdeal m →
    θ_run (Cert.DwoutRefIdeal.defs (F := Ideal)) (onTc (τ := Cert.DwoutRefIdeal.τ) (Cert.DwoutRefIdeal.main (F := Ideal))) ⟨m, fun _ => 0, g⟩ (fun r => (∀ c : Dev Cert.DwoutRefIdeal.nD,
      r.2.mem ((c.tc : Thread Cert.DwoutRefIdeal.nD Cert.DwoutRefIdeal.τ).loc Cert.DwoutRefIdeal.main_arg0) = m ((c.tc : Thread Cert.DwoutRefIdeal.nD Cert.DwoutRefIdeal.τ).loc Cert.DwoutRefIdeal.main_arg0)
      ∧ r.2.mem ((c.tc : Thread Cert.DwoutRefIdeal.nD Cert.DwoutRefIdeal.τ).loc Cert.DwoutRefIdeal.main_arg1) = m ((c.tc : Thread Cert.DwoutRefIdeal.nD Cert.DwoutRefIdeal.τ).loc Cert.DwoutRefIdeal.main_arg1)
      ∧ r.2.mem ((c.tc : Thread Cert.DwoutRefIdeal.nD Cert.DwoutRefIdeal.τ).loc Cert.DwoutRefIdeal.main_arg2) = m ((c.tc : Thread Cert.DwoutRefIdeal.nD Cert.DwoutRefIdeal.τ).loc Cert.DwoutRefIdeal.main_arg2)
      ∧ r.2.mem ((c.tc : Thread Cert.DwoutRefIdeal.nD Cert.DwoutRefIdeal.τ).loc Cert.DwoutRefIdeal.main_arg3) = m ((c.tc : Thread Cert.DwoutRefIdeal.nD Cert.DwoutRefIdeal.τ).loc Cert.DwoutRefIdeal.main_arg3)
      ∧ r.2.mem ((c.tc : Thread Cert.DwoutRefIdeal.nD Cert.DwoutRefIdeal.τ).loc Cert.DwoutRefIdeal.main_arg4) = m ((c.tc : Thread Cert.DwoutRefIdeal.nD Cert.DwoutRefIdeal.τ).loc Cert.DwoutRefIdeal.main_arg4)
      ∧ r.2.mem ((c.tc : Thread Cert.DwoutRefIdeal.nD Cert.DwoutRefIdeal.τ).loc Cert.DwoutRefIdeal.main_arg5) = m ((c.tc : Thread Cert.DwoutRefIdeal.nD Cert.DwoutRefIdeal.τ).loc Cert.DwoutRefIdeal.main_arg5)
      ∧ r.2.mem ((c.tc : Thread Cert.DwoutRefIdeal.nD Cert.DwoutRefIdeal.τ).loc Cert.DwoutRefIdeal.main_arg6) = m ((c.tc : Thread Cert.DwoutRefIdeal.nD Cert.DwoutRefIdeal.τ).loc Cert.DwoutRefIdeal.main_arg6)
      ∧ r.2.mem ((c.tc : Thread Cert.DwoutRefIdeal.nD Cert.DwoutRefIdeal.τ).loc Cert.DwoutRefIdeal.main_arg7) = m ((c.tc : Thread Cert.DwoutRefIdeal.nD Cert.DwoutRefIdeal.τ).loc Cert.DwoutRefIdeal.main_arg7)
      ∧ r.2.mem ((c.tc : Thread Cert.DwoutRefIdeal.nD Cert.DwoutRefIdeal.τ).loc Cert.DwoutRefIdeal.main_arg8) = m ((c.tc : Thread Cert.DwoutRefIdeal.nD Cert.DwoutRefIdeal.τ).loc Cert.DwoutRefIdeal.main_arg8)
      ∧ r.2.mem ((c.tc : Thread Cert.DwoutRefIdeal.nD Cert.DwoutRefIdeal.τ).loc Cert.DwoutRefIdeal.main_arg9) = m ((c.tc : Thread Cert.DwoutRefIdeal.nD Cert.DwoutRefIdeal.τ).loc Cert.DwoutRefIdeal.main_arg9)
      ∧ r.2.mem ((c.tc : Thread Cert.DwoutRefIdeal.nD Cert.DwoutRefIdeal.τ).loc Cert.DwoutRefIdeal.main_arg10) = m ((c.tc : Thread Cert.DwoutRefIdeal.nD Cert.DwoutRefIdeal.τ).loc Cert.DwoutRefIdeal.main_arg10)
      ∧ r.2.mem ((c.tc : Thread Cert.DwoutRefIdeal.nD Cert.DwoutRefIdeal.τ).loc Cert.DwoutRefIdeal.main_arg11) = m ((c.tc : Thread Cert.DwoutRefIdeal.nD Cert.DwoutRefIdeal.τ).loc Cert.DwoutRefIdeal.main_arg11))
      ∧ r.2.sem = fun _ => 0)

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)) →
    ∃ (v0 : (c : Dev Cert.MlpIdeal.nD) → Buf (Elt Ideal) ((c.tc : Thread Cert.MlpIdeal.nD Cert.MlpIdeal.τ).loc Cert.MlpIdeal.main_v3_0)) (v1 : (c : Dev Cert.MlpIdeal.nD) → Buf (Elt Ideal) ((c.tc : Thread Cert.MlpIdeal.nD Cert.MlpIdeal.τ).loc Cert.MlpIdeal.main_v3_1)) (v2 : (c : Dev Cert.MlpIdeal.nD) → Buf (Elt Ideal) ((c.tc : Thread Cert.MlpIdeal.nD Cert.MlpIdeal.τ).loc Cert.MlpIdeal.main_v3_2)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v3_0) = v0 c
          ∧ r.2.mem ((c.tc : Thread Cert.MlpIdeal.nD Cert.MlpIdeal.τ).loc Cert.MlpIdeal.main_v3_1) = v1 c
          ∧ r.2.mem ((c.tc : Thread Cert.MlpIdeal.nD Cert.MlpIdeal.τ).loc Cert.MlpIdeal.main_v3_2) = v2 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v0_0) = v0 c
          ∧ r.2.mem ((c.tc : Thread Cert.MlpRefIdeal.nD Cert.MlpRefIdeal.τ).loc Cert.MlpRefIdeal.main_v0_1) = v1 c
          ∧ r.2.mem ((c.tc : Thread Cert.MlpRefIdeal.nD Cert.MlpRefIdeal.τ).loc Cert.MlpRefIdeal.main_v0_2) = v2 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6))

def preserves_Attn_AttnIdeal : Prop :=
  True

def algebraic_AttnIdeal_AttnRefIdeal [hAttnIdeal : Cert.AttnIdeal.Facts] [hAttnRefIdeal : Cert.AttnRefIdeal.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)) →
    ∃ (v0 : (c : Dev Cert.AttnIdeal.nD) → Buf (Elt Ideal) ((c.tc : Thread Cert.AttnIdeal.nD Cert.AttnIdeal.τ).loc Cert.AttnIdeal.main_v7_0)) (v1 : (c : Dev Cert.AttnIdeal.nD) → Buf (Elt Ideal) ((c.tc : Thread Cert.AttnIdeal.nD Cert.AttnIdeal.τ).loc Cert.AttnIdeal.main_v7_1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v7_0) = v0 c
          ∧ r.2.mem ((c.tc : Thread Cert.AttnIdeal.nD Cert.AttnIdeal.τ).loc Cert.AttnIdeal.main_v7_1) = v1 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v0_0) = v0 c
          ∧ r.2.mem ((c.tc : Thread Cert.AttnRefIdeal.nD Cert.AttnRefIdeal.τ).loc Cert.AttnRefIdeal.main_v0_1) = v1 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6))

def preserves_Dwout_DwoutIdeal : Prop :=
  IdealRules.named_const.Statement Cert.DwoutIdeal.κ "inv_d" .f32 0x39B60B61#32 ((1 / 2880 : ℝ) : EReal)

def algebraic_DwoutIdeal_DwoutRefIdeal [hDwoutIdeal : Cert.DwoutIdeal.Facts] [hDwoutRefIdeal : Cert.DwoutRefIdeal.Facts] : Prop :=
  ∀ (m : (ℓ : Loc Cert.DwoutIdeal.nD Cert.DwoutIdeal.τ Cert.DwoutIdeal.sig) → Buf (Elt Ideal) ℓ) (g : Dev Cert.DwoutIdeal.nD → PrngReg)
    (m' : (ℓ : Loc Cert.DwoutRefIdeal.nD Cert.DwoutRefIdeal.τ Cert.DwoutRefIdeal.sig) → Buf (Elt Ideal) ℓ) (g' : Dev Cert.DwoutRefIdeal.nD → PrngReg), Pre_DwoutIdeal m →
    (∀ c : Dev Cert.DwoutIdeal.nD,
      m' ((c.tc : Thread Cert.DwoutRefIdeal.nD Cert.DwoutRefIdeal.τ).loc Cert.DwoutRefIdeal.main_arg0) = m ((c.tc : Thread Cert.DwoutIdeal.nD Cert.DwoutIdeal.τ).loc Cert.DwoutIdeal.main_arg0)
      ∧ m' ((c.tc : Thread Cert.DwoutRefIdeal.nD Cert.DwoutRefIdeal.τ).loc Cert.DwoutRefIdeal.main_arg1) = m ((c.tc : Thread Cert.DwoutIdeal.nD Cert.DwoutIdeal.τ).loc Cert.DwoutIdeal.main_arg1)
      ∧ m' ((c.tc : Thread Cert.DwoutRefIdeal.nD Cert.DwoutRefIdeal.τ).loc Cert.DwoutRefIdeal.main_arg2) = m ((c.tc : Thread Cert.DwoutIdeal.nD Cert.DwoutIdeal.τ).loc Cert.DwoutIdeal.main_arg2)
      ∧ m' ((c.tc : Thread Cert.DwoutRefIdeal.nD Cert.DwoutRefIdeal.τ).loc Cert.DwoutRefIdeal.main_arg3) = m ((c.tc : Thread Cert.DwoutIdeal.nD Cert.DwoutIdeal.τ).loc Cert.DwoutIdeal.main_arg3)
      ∧ m' ((c.tc : Thread Cert.DwoutRefIdeal.nD Cert.DwoutRefIdeal.τ).loc Cert.DwoutRefIdeal.main_arg4) = m ((c.tc : Thread Cert.DwoutIdeal.nD Cert.DwoutIdeal.τ).loc Cert.DwoutIdeal.main_arg4)
      ∧ m' ((c.tc : Thread Cert.DwoutRefIdeal.nD Cert.DwoutRefIdeal.τ).loc Cert.DwoutRefIdeal.main_arg5) = m ((c.tc : Thread Cert.DwoutIdeal.nD Cert.DwoutIdeal.τ).loc Cert.DwoutIdeal.main_arg5)
      ∧ m' ((c.tc : Thread Cert.DwoutRefIdeal.nD Cert.DwoutRefIdeal.τ).loc Cert.DwoutRefIdeal.main_arg6) = m ((c.tc : Thread Cert.DwoutIdeal.nD Cert.DwoutIdeal.τ).loc Cert.DwoutIdeal.main_arg6)
      ∧ m' ((c.tc : Thread Cert.DwoutRefIdeal.nD Cert.DwoutRefIdeal.τ).loc Cert.DwoutRefIdeal.main_arg7) = m ((c.tc : Thread Cert.DwoutIdeal.nD Cert.DwoutIdeal.τ).loc Cert.DwoutIdeal.main_arg7)
      ∧ m' ((c.tc : Thread Cert.DwoutRefIdeal.nD Cert.DwoutRefIdeal.τ).loc Cert.DwoutRefIdeal.main_arg8) = m ((c.tc : Thread Cert.DwoutIdeal.nD Cert.DwoutIdeal.τ).loc Cert.DwoutIdeal.main_arg8)
      ∧ m' ((c.tc : Thread Cert.DwoutRefIdeal.nD Cert.DwoutRefIdeal.τ).loc Cert.DwoutRefIdeal.main_arg9) = m ((c.tc : Thread Cert.DwoutIdeal.nD Cert.DwoutIdeal.τ).loc Cert.DwoutIdeal.main_arg9)
      ∧ m' ((c.tc : Thread Cert.DwoutRefIdeal.nD Cert.DwoutRefIdeal.τ).loc Cert.DwoutRefIdeal.main_arg10) = m ((c.tc : Thread Cert.DwoutIdeal.nD Cert.DwoutIdeal.τ).loc Cert.DwoutIdeal.main_arg10)
      ∧ m' ((c.tc : Thread Cert.DwoutRefIdeal.nD Cert.DwoutRefIdeal.τ).loc Cert.DwoutRefIdeal.main_arg11) = m ((c.tc : Thread Cert.DwoutIdeal.nD Cert.DwoutIdeal.τ).loc Cert.DwoutIdeal.main_arg11)) →
    ∃ (v0 : (c : Dev Cert.DwoutIdeal.nD) → Buf (Elt Ideal) ((c.tc : Thread Cert.DwoutIdeal.nD Cert.DwoutIdeal.τ).loc Cert.DwoutIdeal.main_v4_0)) (v1 : (c : Dev Cert.DwoutIdeal.nD) → Buf (Elt Ideal) ((c.tc : Thread Cert.DwoutIdeal.nD Cert.DwoutIdeal.τ).loc Cert.DwoutIdeal.main_v4_1)) (v2 : (c : Dev Cert.DwoutIdeal.nD) → Buf (Elt Ideal) ((c.tc : Thread Cert.DwoutIdeal.nD Cert.DwoutIdeal.τ).loc Cert.DwoutIdeal.main_v4_2)),
      θ_run (Cert.DwoutIdeal.defs (F := Ideal)) (onTc (τ := Cert.DwoutIdeal.τ) (Cert.DwoutIdeal.main (F := Ideal))) ⟨m, fun _ => 0, g⟩ (fun r => ∀ c : Dev Cert.DwoutIdeal.nD,
          r.2.mem ((c.tc : Thread Cert.DwoutIdeal.nD Cert.DwoutIdeal.τ).loc Cert.DwoutIdeal.main_v4_0) = v0 c
          ∧ r.2.mem ((c.tc : Thread Cert.DwoutIdeal.nD Cert.DwoutIdeal.τ).loc Cert.DwoutIdeal.main_v4_1) = v1 c
          ∧ r.2.mem ((c.tc : Thread Cert.DwoutIdeal.nD Cert.DwoutIdeal.τ).loc Cert.DwoutIdeal.main_v4_2) = v2 c
          ∧ r.2.mem ((c.tc : Thread Cert.DwoutIdeal.nD Cert.DwoutIdeal.τ).loc Cert.DwoutIdeal.main_arg0) = m ((c.tc : Thread Cert.DwoutIdeal.nD Cert.DwoutIdeal.τ).loc Cert.DwoutIdeal.main_arg0)
          ∧ r.2.mem ((c.tc : Thread Cert.DwoutIdeal.nD Cert.DwoutIdeal.τ).loc Cert.DwoutIdeal.main_arg1) = m ((c.tc : Thread Cert.DwoutIdeal.nD Cert.DwoutIdeal.τ).loc Cert.DwoutIdeal.main_arg1)
          ∧ r.2.mem ((c.tc : Thread Cert.DwoutIdeal.nD Cert.DwoutIdeal.τ).loc Cert.DwoutIdeal.main_arg2) = m ((c.tc : Thread Cert.DwoutIdeal.nD Cert.DwoutIdeal.τ).loc Cert.DwoutIdeal.main_arg2)
          ∧ r.2.mem ((c.tc : Thread Cert.DwoutIdeal.nD Cert.DwoutIdeal.τ).loc Cert.DwoutIdeal.main_arg3) = m ((c.tc : Thread Cert.DwoutIdeal.nD Cert.DwoutIdeal.τ).loc Cert.DwoutIdeal.main_arg3)
          ∧ r.2.mem ((c.tc : Thread Cert.DwoutIdeal.nD Cert.DwoutIdeal.τ).loc Cert.DwoutIdeal.main_arg4) = m ((c.tc : Thread Cert.DwoutIdeal.nD Cert.DwoutIdeal.τ).loc Cert.DwoutIdeal.main_arg4)
          ∧ r.2.mem ((c.tc : Thread Cert.DwoutIdeal.nD Cert.DwoutIdeal.τ).loc Cert.DwoutIdeal.main_arg5) = m ((c.tc : Thread Cert.DwoutIdeal.nD Cert.DwoutIdeal.τ).loc Cert.DwoutIdeal.main_arg5)
          ∧ r.2.mem ((c.tc : Thread Cert.DwoutIdeal.nD Cert.DwoutIdeal.τ).loc Cert.DwoutIdeal.main_arg6) = m ((c.tc : Thread Cert.DwoutIdeal.nD Cert.DwoutIdeal.τ).loc Cert.DwoutIdeal.main_arg6)
          ∧ r.2.mem ((c.tc : Thread Cert.DwoutIdeal.nD Cert.DwoutIdeal.τ).loc Cert.DwoutIdeal.main_arg7) = m ((c.tc : Thread Cert.DwoutIdeal.nD Cert.DwoutIdeal.τ).loc Cert.DwoutIdeal.main_arg7)
          ∧ r.2.mem ((c.tc : Thread Cert.DwoutIdeal.nD Cert.DwoutIdeal.τ).loc Cert.DwoutIdeal.main_arg8) = m ((c.tc : Thread Cert.DwoutIdeal.nD Cert.DwoutIdeal.τ).loc Cert.DwoutIdeal.main_arg8)
          ∧ r.2.mem ((c.tc : Thread Cert.DwoutIdeal.nD Cert.DwoutIdeal.τ).loc Cert.DwoutIdeal.main_arg9) = m ((c.tc : Thread Cert.DwoutIdeal.nD Cert.DwoutIdeal.τ).loc Cert.DwoutIdeal.main_arg9)
          ∧ r.2.mem ((c.tc : Thread Cert.DwoutIdeal.nD Cert.DwoutIdeal.τ).loc Cert.DwoutIdeal.main_arg10) = m ((c.tc : Thread Cert.DwoutIdeal.nD Cert.DwoutIdeal.τ).loc Cert.DwoutIdeal.main_arg10)
          ∧ r.2.mem ((c.tc : Thread Cert.DwoutIdeal.nD Cert.DwoutIdeal.τ).loc Cert.DwoutIdeal.main_arg11) = m ((c.tc : Thread Cert.DwoutIdeal.nD Cert.DwoutIdeal.τ).loc Cert.DwoutIdeal.main_arg11))
      ∧ θ_run (Cert.DwoutRefIdeal.defs (F := Ideal)) (onTc (τ := Cert.DwoutRefIdeal.τ) (Cert.DwoutRefIdeal.main (F := Ideal))) ⟨m', fun _ => 0, g'⟩ (fun r => ∀ c : Dev Cert.DwoutRefIdeal.nD,
          r.2.mem ((c.tc : Thread Cert.DwoutRefIdeal.nD Cert.DwoutRefIdeal.τ).loc Cert.DwoutRefIdeal.main_v4_0) = v0 c
          ∧ r.2.mem ((c.tc : Thread Cert.DwoutRefIdeal.nD Cert.DwoutRefIdeal.τ).loc Cert.DwoutRefIdeal.main_v4_1) = v1 c
          ∧ r.2.mem ((c.tc : Thread Cert.DwoutRefIdeal.nD Cert.DwoutRefIdeal.τ).loc Cert.DwoutRefIdeal.main_v4_2) = v2 c
          ∧ r.2.mem ((c.tc : Thread Cert.DwoutRefIdeal.nD Cert.DwoutRefIdeal.τ).loc Cert.DwoutRefIdeal.main_arg0) = m' ((c.tc : Thread Cert.DwoutRefIdeal.nD Cert.DwoutRefIdeal.τ).loc Cert.DwoutRefIdeal.main_arg0)
          ∧ r.2.mem ((c.tc : Thread Cert.DwoutRefIdeal.nD Cert.DwoutRefIdeal.τ).loc Cert.DwoutRefIdeal.main_arg1) = m' ((c.tc : Thread Cert.DwoutRefIdeal.nD Cert.DwoutRefIdeal.τ).loc Cert.DwoutRefIdeal.main_arg1)
          ∧ r.2.mem ((c.tc : Thread Cert.DwoutRefIdeal.nD Cert.DwoutRefIdeal.τ).loc Cert.DwoutRefIdeal.main_arg2) = m' ((c.tc : Thread Cert.DwoutRefIdeal.nD Cert.DwoutRefIdeal.τ).loc Cert.DwoutRefIdeal.main_arg2)
          ∧ r.2.mem ((c.tc : Thread Cert.DwoutRefIdeal.nD Cert.DwoutRefIdeal.τ).loc Cert.DwoutRefIdeal.main_arg3) = m' ((c.tc : Thread Cert.DwoutRefIdeal.nD Cert.DwoutRefIdeal.τ).loc Cert.DwoutRefIdeal.main_arg3)
          ∧ r.2.mem ((c.tc : Thread Cert.DwoutRefIdeal.nD Cert.DwoutRefIdeal.τ).loc Cert.DwoutRefIdeal.main_arg4) = m' ((c.tc : Thread Cert.DwoutRefIdeal.nD Cert.DwoutRefIdeal.τ).loc Cert.DwoutRefIdeal.main_arg4)
          ∧ r.2.mem ((c.tc : Thread Cert.DwoutRefIdeal.nD Cert.DwoutRefIdeal.τ).loc Cert.DwoutRefIdeal.main_arg5) = m' ((c.tc : Thread Cert.DwoutRefIdeal.nD Cert.DwoutRefIdeal.τ).loc Cert.DwoutRefIdeal.main_arg5)
          ∧ r.2.mem ((c.tc : Thread Cert.DwoutRefIdeal.nD Cert.DwoutRefIdeal.τ).loc Cert.DwoutRefIdeal.main_arg6) = m' ((c.tc : Thread Cert.DwoutRefIdeal.nD Cert.DwoutRefIdeal.τ).loc Cert.DwoutRefIdeal.main_arg6)
          ∧ r.2.mem ((c.tc : Thread Cert.DwoutRefIdeal.nD Cert.DwoutRefIdeal.τ).loc Cert.DwoutRefIdeal.main_arg7) = m' ((c.tc : Thread Cert.DwoutRefIdeal.nD Cert.DwoutRefIdeal.τ).loc Cert.DwoutRefIdeal.main_arg7)
          ∧ r.2.mem ((c.tc : Thread Cert.DwoutRefIdeal.nD Cert.DwoutRefIdeal.τ).loc Cert.DwoutRefIdeal.main_arg8) = m' ((c.tc : Thread Cert.DwoutRefIdeal.nD Cert.DwoutRefIdeal.τ).loc Cert.DwoutRefIdeal.main_arg8)
          ∧ r.2.mem ((c.tc : Thread Cert.DwoutRefIdeal.nD Cert.DwoutRefIdeal.τ).loc Cert.DwoutRefIdeal.main_arg9) = m' ((c.tc : Thread Cert.DwoutRefIdeal.nD Cert.DwoutRefIdeal.τ).loc Cert.DwoutRefIdeal.main_arg9)
          ∧ r.2.mem ((c.tc : Thread Cert.DwoutRefIdeal.nD Cert.DwoutRefIdeal.τ).loc Cert.DwoutRefIdeal.main_arg10) = m' ((c.tc : Thread Cert.DwoutRefIdeal.nD Cert.DwoutRefIdeal.τ).loc Cert.DwoutRefIdeal.main_arg10)
          ∧ r.2.mem ((c.tc : Thread Cert.DwoutRefIdeal.nD Cert.DwoutRefIdeal.τ).loc Cert.DwoutRefIdeal.main_arg11) = m' ((c.tc : Thread Cert.DwoutRefIdeal.nD Cert.DwoutRefIdeal.τ).loc Cert.DwoutRefIdeal.main_arg11))

def Claim : Prop :=
  ∃ (hMlp : Cert.Mlp.Facts) (hMlpIdeal : Cert.MlpIdeal.Facts) (hMlpRefIdeal : Cert.MlpRefIdeal.Facts) (hAttn : Cert.Attn.Facts) (hAttnIdeal : Cert.AttnIdeal.Facts) (hAttnRefIdeal : Cert.AttnRefIdeal.Facts) (hDwout : Cert.Dwout.Facts) (hDwoutIdeal : Cert.DwoutIdeal.Facts) (hDwoutRefIdeal : Cert.DwoutRefIdeal.Facts),
    quiescent_Mlp (hMlp := hMlp)
    ∧ quiescent_MlpIdeal (hMlpIdeal := hMlpIdeal)
    ∧ quiescent_MlpRefIdeal (hMlpRefIdeal := hMlpRefIdeal)
    ∧ quiescent_Attn (hAttn := hAttn)
    ∧ quiescent_AttnIdeal (hAttnIdeal := hAttnIdeal)
    ∧ quiescent_AttnRefIdeal (hAttnRefIdeal := hAttnRefIdeal)
    ∧ quiescent_Dwout (hDwout := hDwout)
    ∧ quiescent_DwoutIdeal (hDwoutIdeal := hDwoutIdeal)
    ∧ quiescent_DwoutRefIdeal (hDwoutRefIdeal := hDwoutRefIdeal)
    ∧ preserves_Mlp_MlpIdeal
    ∧ algebraic_MlpIdeal_MlpRefIdeal (hMlpIdeal := hMlpIdeal) (hMlpRefIdeal := hMlpRefIdeal)
    ∧ preserves_Attn_AttnIdeal
    ∧ algebraic_AttnIdeal_AttnRefIdeal (hAttnIdeal := hAttnIdeal) (hAttnRefIdeal := hAttnRefIdeal)
    ∧ preserves_Dwout_DwoutIdeal
    ∧ algebraic_DwoutIdeal_DwoutRefIdeal (hDwoutIdeal := hDwoutIdeal) (hDwoutRefIdeal := hDwoutRefIdeal)
-- ==== Mlp.lean ====
abbrev S1536x7680 : Shape := ⟨2, ![1536, 7680]⟩
abbrev S6x256 : Shape := ⟨2, ![6, 256]⟩
abbrev S6x256x2880 : Shape := ⟨3, ![6, 256, 2880]⟩
abbrev S2880 : Shape := ⟨1, ![2880]⟩
abbrev S2880x7680 : Shape := ⟨2, ![2880, 7680]⟩
abbrev S7680 : Shape := ⟨1, ![7680]⟩
abbrev S6x2880x256 : Shape := ⟨3, ![6, 2880, 256]⟩
abbrev S1x2880 : Shape := ⟨2, ![1, 2880]⟩
abbrev S1x7680 : Shape := ⟨2, ![1, 7680]⟩
abbrev S2880x1536 : Shape := ⟨2, ![2880, 1536]⟩
abbrev S1536x512 : Shape := ⟨2, ![1536, 512]⟩
abbrev S2880x512 : Shape := ⟨2, ![2880, 512]⟩
abbrev S1x512 : Shape := ⟨2, ![1, 512]⟩
abbrev S1536x128 : Shape := ⟨2, ![1536, 128]⟩
abbrev S2880x128 : Shape := ⟨2, ![2880, 128]⟩
abbrev S1x256 : Shape := ⟨2, ![1, 256]⟩
abbrev S128x256 : Shape := ⟨2, ![128, 256]⟩
abbrev S256x128 : Shape := ⟨2, ![256, 128]⟩
abbrev S1x2880x256 : Shape := ⟨3, ![1, 2880, 256]⟩
abbrev S2880x256 : Shape := ⟨2, ![2880, 256]⟩
abbrev S128x2880 : Shape := ⟨2, ![128, 2880]⟩
abbrev S576x1536 : Shape := ⟨2, ![576, 1536]⟩
abbrev S576x512 : Shape := ⟨2, ![576, 512]⟩
abbrev S576x128 : Shape := ⟨2, ![576, 128]⟩

abbrev nBuf : Space → Nat
  | .hbm => 13
  | .vmem => 18
  | .smem => 0
  | _ => 0

abbrev bufTy : (tb : Table) → Fin (tcTables nBuf tb) → BufTy
  | .hbm, ⟨0, _⟩ => ⟨S1536x7680, .f32⟩
  | .hbm, ⟨1, _⟩ => ⟨S6x256, .f32⟩
  | .hbm, ⟨2, _⟩ => ⟨S6x256x2880, .fp8e4m3⟩
  | .hbm, ⟨3, _⟩ => ⟨S6x256, .f32⟩
  | .hbm, ⟨4, _⟩ => ⟨S2880, .f32⟩
  | .hbm, ⟨5, _⟩ => ⟨S2880x7680, .fp8e4m3⟩
  | .hbm, ⟨6, _⟩ => ⟨S7680, .f32⟩
  | .hbm, ⟨7, _⟩ => ⟨S6x2880x256, .fp8e4m3⟩
  | .hbm, ⟨8, _⟩ => ⟨S1x2880, .f32⟩
  | .hbm, ⟨9, _⟩ => ⟨S1x7680, .f32⟩
  | .hbm, ⟨10, _⟩ => ⟨S1536x7680, .fp8e5m2⟩
  | .hbm, ⟨11, _⟩ => ⟨S2880x7680, .bf16⟩
  | .hbm, ⟨12, _⟩ => ⟨S2880x1536, .f32⟩
  | .local _ .vmem, ⟨0, _⟩ => ⟨S1536x512, .f32⟩
  | .local _ .vmem, ⟨1, _⟩ => ⟨S1536x512, .f32⟩
  | .local _ .vmem, ⟨2, _⟩ => ⟨S6x256, .f32⟩
  | .local _ .vmem, ⟨3, _⟩ => ⟨S6x2880x256, .fp8e4m3⟩
  | .local _ .vmem, ⟨4, _⟩ => ⟨S6x256, .f32⟩
  | .local _ .vmem, ⟨5, _⟩ => ⟨S2880x512, .fp8e4m3⟩
  | .local _ .vmem, ⟨6, _⟩ => ⟨S2880x512, .fp8e4m3⟩
  | .local _ .vmem, ⟨7, _⟩ => ⟨S1x512, .f32⟩
  | .local _ .vmem, ⟨8, _⟩ => ⟨S1x512, .f32⟩
  | .local _ .vmem, ⟨9, _⟩ => ⟨S1x2880, .f32⟩
  | .local _ .vmem, ⟨10, _⟩ => ⟨S1536x512, .fp8e5m2⟩
  | .local _ .vmem, ⟨11, _⟩ => ⟨S1536x512, .fp8e5m2⟩
  | .local _ .vmem, ⟨12, _⟩ => ⟨S2880x512, .bf16⟩
  | .local _ .vmem, ⟨13, _⟩ => ⟨S2880x512, .bf16⟩
  | .local _ .vmem, ⟨14, _⟩ => ⟨S2880x1536, .f32⟩
  | .local _ .vmem, ⟨15, _⟩ => ⟨S2880x1536, .bf16⟩
  | .local _ .vmem, ⟨16, _⟩ => ⟨S1536x128, .f32⟩
  | .local _ .vmem, ⟨17, _⟩ => ⟨S2880x128, .f32⟩
  | _, _ => ⟨S1536x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1536x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S6x2880x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2880x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2880 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1536x512 .fp8e5m2 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2880x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S2880x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== MlpRefIdeal.lean ====
abbrev S1536x7680 : Shape := ⟨2, ![1536, 7680]⟩
abbrev S6x256 : Shape := ⟨2, ![6, 256]⟩
abbrev S6x256x2880 : Shape := ⟨3, ![6, 256, 2880]⟩
abbrev S2880 : Shape := ⟨1, ![2880]⟩
abbrev S2880x7680 : Shape := ⟨2, ![2880, 7680]⟩
abbrev S7680 : Shape := ⟨1, ![7680]⟩
abbrev S2880x1536 : Shape := ⟨2, ![2880, 1536]⟩
abbrev S1536x1 : Shape := ⟨2, ![1536, 1]⟩
abbrev S6x256x1 : Shape := ⟨3, ![6, 256, 1]⟩
abbrev S1536x2880 : Shape := ⟨2, ![1536, 2880]⟩
abbrev S2880x1 : Shape := ⟨2, ![2880, 1]⟩
abbrev S1x7680 : Shape := ⟨2, ![1, 7680]⟩

abbrev nBuf : Space → Nat
  | .hbm => 10
  | .vmem => 10
  | .smem => 0
  | _ => 0

abbrev bufTy : (tb : Table) → Fin (tcTables nBuf tb) → BufTy
  | .hbm, ⟨0, _⟩ => ⟨S1536x7680, .f32⟩
  | .hbm, ⟨1, _⟩ => ⟨S6x256, .f32⟩
  | .hbm, ⟨2, _⟩ => ⟨S6x256x2880, .fp8e4m3⟩
  | .hbm, ⟨3, _⟩ => ⟨S6x256, .f32⟩
  | .hbm, ⟨4, _⟩ => ⟨S2880, .f32⟩
  | .hbm, ⟨5, _⟩ => ⟨S2880x7680, .fp8e4m3⟩
  | .hbm, ⟨6, _⟩ => ⟨S7680, .f32⟩
  | .hbm, ⟨7, _⟩ => ⟨S1536x7680, .fp8e5m2⟩
  | .hbm, ⟨8, _⟩ => ⟨S2880x7680, .bf16⟩
  | .hbm, ⟨9, _⟩ => ⟨S2880x1536, .f32⟩
  | .local _ .vmem, ⟨0, _⟩ => ⟨S1536x7680, .f32⟩
  | .local _ .vmem, ⟨1, _⟩ => ⟨S6x256, .f32⟩
  | .local _ .vmem, ⟨2, _⟩ => ⟨S6x256x2880, .fp8e4m3⟩
  | .local _ .vmem, ⟨3, _⟩ => ⟨S6x256, .f32⟩
  | .local _ .vmem, ⟨4, _⟩ => ⟨S2880, .f32⟩
  | .local _ .vmem, ⟨5, _⟩ => ⟨S2880x7680, .fp8e4m3⟩
  | .local _ .vmem, ⟨6, _⟩ => ⟨S7680, .f32⟩
  | .local _ .vmem, ⟨7, _⟩ => ⟨S1536x7680, .fp8e5m2⟩
  | .local _ .vmem, ⟨8, _⟩ => ⟨S2880x7680, .bf16⟩
  | .local _ .vmem, ⟨9, _⟩ => ⟨S2880x1536, .f32⟩
  | _, _ => ⟨S1536x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S1536x7680 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x256x2880 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2880 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2880x7680 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S7680 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1536x7680 .fp8e5m2 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2880x7680 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2880x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Attn.lean ====
abbrev S6x256x3x18x160 : Shape := ⟨5, ![6, 256, 3, 18, 160]⟩
abbrev S6x256 : Shape := ⟨2, ![6, 256]⟩
abbrev S6x256x2880 : Shape := ⟨3, ![6, 256, 2880]⟩
abbrev S2880 : Shape := ⟨1, ![2880]⟩
abbrev S2880x3x18x160 : Shape := ⟨4, ![2880, 3, 18, 160]⟩
abbrev S3x18x160 : Shape := ⟨3, ![3, 18, 160]⟩
abbrev S6x2880x256 : Shape := ⟨3, ![6, 2880, 256]⟩
abbrev S6x3x18x160x256 : Shape := ⟨5, ![6, 3, 18, 160, 256]⟩
abbrev S6x8640x256 : Shape := ⟨3, ![6, 8640, 256]⟩
abbrev S3x18x160x2880 : Shape := ⟨4, ![3, 18, 160, 2880]⟩
abbrev S8640x2880 : Shape := ⟨2, ![8640, 2880]⟩
abbrev S1x2880 : Shape := ⟨2, ![1, 2880]⟩
abbrev S1x8640 : Shape := ⟨2, ![1, 8640]⟩
abbrev S2880x1536 : Shape := ⟨2, ![2880, 1536]⟩
abbrev S6x512x256 : Shape := ⟨3, ![6, 512, 256]⟩
abbrev S512x2880 : Shape := ⟨2, ![512, 2880]⟩
abbrev S1x512 : Shape := ⟨2, ![1, 512]⟩
abbrev S2880x512 : Shape := ⟨2, ![2880, 512]⟩
abbrev S1x2880x256 : Shape := ⟨3, ![1, 2880, 256]⟩
abbrev S2880x256 : Shape := ⟨2, ![2880, 256]⟩
abbrev S512x1 : Shape := ⟨2, ![512, 1]⟩
abbrev S1x512x256 : Shape := ⟨3, ![1, 512, 256]⟩
abbrev S512x256 : Shape := ⟨2, ![512, 256]⟩
abbrev S576x256 : Shape := ⟨2, ![576, 256]⟩
abbrev S576x512 : Shape := ⟨2, ![576, 512]⟩
abbrev S1x256 : Shape := ⟨2, ![1, 256]⟩
abbrev S512x1536 : Shape := ⟨2, ![512, 1536]⟩

abbrev nBuf : Space → Nat
  | .hbm => 16
  | .vmem => 15
  | .smem => 0
  | _ => 0

abbrev bufTy : (tb : Table) → Fin (tcTables nBuf tb) → BufTy
  | .hbm, ⟨0, _⟩ => ⟨S6x256x3x18x160, .fp8e5m2⟩
  | .hbm, ⟨1, _⟩ => ⟨S6x256, .f32⟩
  | .hbm, ⟨2, _⟩ => ⟨S6x256x2880, .fp8e4m3⟩
  | .hbm, ⟨3, _⟩ => ⟨S6x256, .f32⟩
  | .hbm, ⟨4, _⟩ => ⟨S2880, .f32⟩
  | .hbm, ⟨5, _⟩ => ⟨S2880x3x18x160, .fp8e4m3⟩
  | .hbm, ⟨6, _⟩ => ⟨S3x18x160, .f32⟩
  | .hbm, ⟨7, _⟩ => ⟨S6x2880x256, .fp8e4m3⟩
  | .hbm, ⟨8, _⟩ => ⟨S6x3x18x160x256, .fp8e5m2⟩
  | .hbm, ⟨9, _⟩ => ⟨S6x8640x256, .fp8e5m2⟩
  | .hbm, ⟨10, _⟩ => ⟨S3x18x160x2880, .fp8e4m3⟩
  | .hbm, ⟨11, _⟩ => ⟨S8640x2880, .fp8e4m3⟩
  | .hbm, ⟨12, _⟩ => ⟨S1x2880, .f32⟩
  | .hbm, ⟨13, _⟩ => ⟨S1x8640, .f32⟩
  | .hbm, ⟨14, _⟩ => ⟨S8640x2880, .bf16⟩
  | .hbm, ⟨15, _⟩ => ⟨S2880x1536, .f32⟩
  | .local _ .vmem, ⟨0, _⟩ => ⟨S6x512x256, .fp8e5m2⟩
  | .local _ .vmem, ⟨1, _⟩ => ⟨S6x512x256, .fp8e5m2⟩
  | .local _ .vmem, ⟨2, _⟩ => ⟨S6x256, .f32⟩
  | .local _ .vmem, ⟨3, _⟩ => ⟨S512x2880, .fp8e4m3⟩
  | .local _ .vmem, ⟨4, _⟩ => ⟨S512x2880, .fp8e4m3⟩
  | .local _ .vmem, ⟨5, _⟩ => ⟨S1x512, .f32⟩
  | .local _ .vmem, ⟨6, _⟩ => ⟨S1x512, .f32⟩
  | .local _ .vmem, ⟨7, _⟩ => ⟨S6x2880x256, .fp8e4m3⟩
  | .local _ .vmem, ⟨8, _⟩ => ⟨S6x256, .f32⟩
  | .local _ .vmem, ⟨9, _⟩ => ⟨S1x2880, .f32⟩
  | .local _ .vmem, ⟨10, _⟩ => ⟨S512x2880, .bf16⟩
  | .local _ .vmem, ⟨11, _⟩ => ⟨S512x2880, .bf16⟩
  | .local _ .vmem, ⟨12, _⟩ => ⟨S2880x1536, .f32⟩
  | .local _ .vmem, ⟨13, _⟩ => ⟨S2880x1536, .fp8e4m3⟩
  | .local _ .vmem, ⟨14, _⟩ => ⟨S2880x512, .bf16⟩
  | _, _ => ⟨S6x256x3x18x160, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12

abbrev nD : Nat := 1
abbrev τ : Topo := Topo.v7x

variable {F : FTy → Type} [FloatOps F]

abbrev grid0 : Pipeline.Grid := ⟨1, ![17], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S6x512x256 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2880 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S6x2880x256 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S6x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2880 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2880 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2880x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== AttnRefIdeal.lean ====
abbrev S6x256x3x18x160 : Shape := ⟨5, ![6, 256, 3, 18, 160]⟩
abbrev S6x256 : Shape := ⟨2, ![6, 256]⟩
abbrev S6x256x2880 : Shape := ⟨3, ![6, 256, 2880]⟩
abbrev S2880 : Shape := ⟨1, ![2880]⟩
abbrev S2880x3x18x160 : Shape := ⟨4, ![2880, 3, 18, 160]⟩
abbrev S3x18x160 : Shape := ⟨3, ![3, 18, 160]⟩
abbrev S8640x2880 : Shape := ⟨2, ![8640, 2880]⟩
abbrev S2880x1536 : Shape := ⟨2, ![2880, 1536]⟩
abbrev S6x256x1 : Shape := ⟨3, ![6, 256, 1]⟩
abbrev S1536x2880 : Shape := ⟨2, ![1536, 2880]⟩
abbrev S6x256x1x1x1 : Shape := ⟨5, ![6, 256, 1, 1, 1]⟩
abbrev S1536x8640 : Shape := ⟨2, ![1536, 8640]⟩
abbrev S1x2880 : Shape := ⟨2, ![1, 2880]⟩
abbrev S1x3x18x160 : Shape := ⟨4, ![1, 3, 18, 160]⟩
abbrev S2880x8640 : Shape := ⟨2, ![2880, 8640]⟩

abbrev nBuf : Space → Nat
  | .hbm => 9
  | .vmem => 9
  | .smem => 0
  | _ => 0

abbrev bufTy : (tb : Table) → Fin (tcTables nBuf tb) → BufTy
  | .hbm, ⟨0, _⟩ => ⟨S6x256x3x18x160, .fp8e5m2⟩
  | .hbm, ⟨1, _⟩ => ⟨S6x256, .f32⟩
  | .hbm, ⟨2, _⟩ => ⟨S6x256x2880, .fp8e4m3⟩
  | .hbm, ⟨3, _⟩ => ⟨S6x256, .f32⟩
  | .hbm, ⟨4, _⟩ => ⟨S2880, .f32⟩
  | .hbm, ⟨5, _⟩ => ⟨S2880x3x18x160, .fp8e4m3⟩
  | .hbm, ⟨6, _⟩ => ⟨S3x18x160, .f32⟩
  | .hbm, ⟨7, _⟩ => ⟨S8640x2880, .bf16⟩
  | .hbm, ⟨8, _⟩ => ⟨S2880x1536, .f32⟩
  | .local _ .vmem, ⟨0, _⟩ => ⟨S6x256x3x18x160, .fp8e5m2⟩
  | .local _ .vmem, ⟨1, _⟩ => ⟨S6x256, .f32⟩
  | .local _ .vmem, ⟨2, _⟩ => ⟨S6x256x2880, .fp8e4m3⟩
  | .local _ .vmem, ⟨3, _⟩ => ⟨S6x256, .f32⟩
  | .local _ .vmem, ⟨4, _⟩ => ⟨S2880, .f32⟩
  | .local _ .vmem, ⟨5, _⟩ => ⟨S2880x3x18x160, .fp8e4m3⟩
  | .local _ .vmem, ⟨6, _⟩ => ⟨S3x18x160, .f32⟩
  | .local _ .vmem, ⟨7, _⟩ => ⟨S8640x2880, .bf16⟩
  | .local _ .vmem, ⟨8, _⟩ => ⟨S2880x1536, .f32⟩
  | _, _ => ⟨S6x256x3x18x160, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S6x256x3x18x160 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x256x2880 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2880 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2880x3x18x160 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x18x160 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8640x2880 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2880x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Dwout.lean ====
abbrev S6x256x2880 : Shape := ⟨3, ![6, 256, 2880]⟩
abbrev S6x256 : Shape := ⟨2, ![6, 256]⟩
abbrev S6x256x7680 : Shape := ⟨3, ![6, 256, 7680]⟩
abbrev S2880 : Shape := ⟨1, ![2880]⟩
abbrev S2880x1536 : Shape := ⟨2, ![2880, 1536]⟩
abbrev S6x2880x256 : Shape := ⟨3, ![6, 2880, 256]⟩
abbrev S1536x7680 : Shape := ⟨2, ![1536, 7680]⟩
abbrev S1x2880 : Shape := ⟨2, ![1, 2880]⟩
abbrev S2880x7680 : Shape := ⟨2, ![2880, 7680]⟩
abbrev S1536x512 : Shape := ⟨2, ![1536, 512]⟩
abbrev S2880x128 : Shape := ⟨2, ![2880, 128]⟩
abbrev S2880x512 : Shape := ⟨2, ![2880, 512]⟩
abbrev S1x2880x128 : Shape := ⟨3, ![1, 2880, 128]⟩
abbrev S1x256 : Shape := ⟨2, ![1, 256]⟩
abbrev S1x2880x256 : Shape := ⟨3, ![1, 2880, 256]⟩
abbrev S2880x256 : Shape := ⟨2, ![2880, 256]⟩
abbrev S128x2880 : Shape := ⟨2, ![128, 2880]⟩
abbrev S576x1536 : Shape := ⟨2, ![576, 1536]⟩
abbrev S576x512 : Shape := ⟨2, ![576, 512]⟩
abbrev S6x128 : Shape := ⟨2, ![6, 128]⟩
abbrev S128 : Shape := ⟨1, ![128]⟩
abbrev S1x128 : Shape := ⟨2, ![1, 128]⟩

abbrev nBuf : Space → Nat
  | .hbm => 19
  | .vmem => 23
  | .smem => 0
  | _ => 0

abbrev bufTy : (tb : Table) → Fin (tcTables nBuf tb) → BufTy
  | .hbm, ⟨0, _⟩ => ⟨S6x256x2880, .fp8e5m2⟩
  | .hbm, ⟨1, _⟩ => ⟨S6x256, .f32⟩
  | .hbm, ⟨2, _⟩ => ⟨S6x256x7680, .fp8e4m3⟩
  | .hbm, ⟨3, _⟩ => ⟨S6x256, .f32⟩
  | .hbm, ⟨4, _⟩ => ⟨S6x256x2880, .fp8e4m3⟩
  | .hbm, ⟨5, _⟩ => ⟨S6x256, .f32⟩
  | .hbm, ⟨6, _⟩ => ⟨S6x256, .f32⟩
  | .hbm, ⟨7, _⟩ => ⟨S6x256, .f32⟩
  | .hbm, ⟨8, _⟩ => ⟨S6x256, .f32⟩
  | .hbm, ⟨9, _⟩ => ⟨S2880, .f32⟩
  | .hbm, ⟨10, _⟩ => ⟨S2880x1536, .f32⟩
  | .hbm, ⟨11, _⟩ => ⟨S2880x1536, .f32⟩
  | .hbm, ⟨12, _⟩ => ⟨S6x2880x256, .fp8e5m2⟩
  | .hbm, ⟨13, _⟩ => ⟨S6x2880x256, .fp8e4m3⟩
  | .hbm, ⟨14, _⟩ => ⟨S1536x7680, .fp8e4m3⟩
  | .hbm, ⟨15, _⟩ => ⟨S1x2880, .f32⟩
  | .hbm, ⟨16, _⟩ => ⟨S2880x7680, .bf16⟩
  | .hbm, ⟨17, _⟩ => ⟨S6x2880x256, .bf16⟩
  | .hbm, ⟨18, _⟩ => ⟨S1x2880, .f32⟩
  | .local _ .vmem, ⟨0, _⟩ => ⟨S6x2880x256, .fp8e5m2⟩
  | .local _ .vmem, ⟨1, _⟩ => ⟨S6x256, .f32⟩
  | .local _ .vmem, ⟨2, _⟩ => ⟨S1536x512, .fp8e4m3⟩
  | .local _ .vmem, ⟨3, _⟩ => ⟨S1536x512, .fp8e4m3⟩
  | .local _ .vmem, ⟨4, _⟩ => ⟨S6x256, .f32⟩
  | .local _ .vmem, ⟨5, _⟩ => ⟨S6x2880x256, .fp8e4m3⟩
  | .local _ .vmem, ⟨6, _⟩ => ⟨S6x256, .f32⟩
  | .local _ .vmem, ⟨7, _⟩ => ⟨S6x256, .f32⟩
  | .local _ .vmem, ⟨8, _⟩ => ⟨S6x256, .f32⟩
  | .local _ .vmem, ⟨9, _⟩ => ⟨S6x256, .f32⟩
  | .local _ .vmem, ⟨10, _⟩ => ⟨S1x2880, .f32⟩
  | .local _ .vmem, ⟨11, _⟩ => ⟨S2880x128, .f32⟩
  | .local _ .vmem, ⟨12, _⟩ => ⟨S2880x128, .f32⟩
  | .local _ .vmem, ⟨13, _⟩ => ⟨S2880x128, .f32⟩
  | .local _ .vmem, ⟨14, _⟩ => ⟨S2880x128, .f32⟩
  | .local _ .vmem, ⟨15, _⟩ => ⟨S2880x512, .bf16⟩
  | .local _ .vmem, ⟨16, _⟩ => ⟨S2880x512, .bf16⟩
  | .local _ .vmem, ⟨17, _⟩ => ⟨S1x2880x128, .bf16⟩
  | .local _ .vmem, ⟨18, _⟩ => ⟨S1x2880x128, .bf16⟩
  | .local _ .vmem, ⟨19, _⟩ => ⟨S1x2880, .f32⟩
  | .local _ .vmem, ⟨20, _⟩ => ⟨S2880x1536, .bf16⟩
  | .local _ .vmem, ⟨21, _⟩ => ⟨S2880x128, .f32⟩
  | .local _ .vmem, ⟨22, _⟩ => ⟨S2880x128, .f32⟩
  | _, _ => ⟨S6x256x2880, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4_0 : Ref sig .tc := ⟨.hbm, 16, rfl⟩
abbrev main_v4_1 : Ref sig .tc := ⟨.hbm, 17, rfl⟩
abbrev main_v4_2 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19

abbrev nD : Nat := 1
abbrev τ : Topo := Topo.v7x

variable {F : FTy → Type} [FloatOps F]

abbrev grid0 : Pipeline.Grid := ⟨1, ![15], ![false]⟩

def k0_cond2 (i : grid0.Coords) : BitVec 1 :=
  let arg0 : BitVec 32 := BitVec.ofNat 32 (i 0).val
  let c12_i32 : BitVec 32 := 12#32
  let v33 : BitVec 1 := Scalar.cmpi .slt arg0 c12_i32
  let v34 : BitVec 32 := Scalar.extui v33
  let c0_i32_30 : BitVec 32 := 0#32
  let v35 : BitVec 1 := Scalar.cmpi .ne v34 c0_i32_30
  v35

def k0_mult1 (i : grid0.Coords) : BitVec 32 :=
  let arg0 : BitVec 32 := BitVec.ofNat 32 (i 0).val
  let c2_i32_37 : BitVec 32 := 2#32
  let c0_i32_38 : BitVec 32 := 0#32
  let v56 : BitVec 1 := Scalar.cmpi .eq c2_i32_37 c0_i32_38
  let c1_i32_39 : BitVec 32 := 1#32
  let v57 : BitVec 32 := Scalar.select v56 c1_i32_39 c2_i32_37
  let v58 : BitVec 32 := Scalar.remsi arg0 v57
  let c0_i32_41 : BitVec 32 := 0#32
  let v60 : BitVec 1 := Scalar.cmpi .slt v58 c0_i32_41
  let c0_i32_42 : BitVec 32 := 0#32
  let v61 : BitVec 1 := Scalar.cmpi .slt v57 c0_i32_42
  let v62 : BitVec 1 := Scalar.xori v60 v61
  let c0_i32_40 : BitVec 32 := 0#32
  let v59 : BitVec 1 := Scalar.cmpi .ne v58 c0_i32_40
  let v63 : BitVec 1 := Scalar.andi v62 v59
  let v64 : BitVec 32 := Scalar.addi v58 v57
  let v65 : BitVec 32 := Scalar.select v63 v64 v58
  let c128_i32 : BitVec 32 := 128#32
  let v66 : BitVec 32 := Scalar.muli v65 c128_i32
  v66
def k0_off1 (i : grid0.Coords) : Fin 2 → Nat :=
  let c0_45 : Index := 0#32
  let arg0 : BitVec 32 := BitVec.ofNat 32 (i 0).val
  let c2_i32_37 : BitVec 32 := 2#32
  let c0_i32_38 : BitVec 32 := 0#32
  let v56 : BitVec 1 := Scalar.cmpi .eq c2_i32_37 c0_i32_38
  let c1_i32_39 : BitVec 32 := 1#32
  let v57 : BitVec 32 := Scalar.select v56 c1_i32_39 c2_i32_37
  let v58 : BitVec 32 := Scalar.remsi arg0 v57
  let c0_i32_41 : BitVec 32 := 0#32
  let v60 : BitVec 1 := Scalar.cmpi .slt v58 c0_i32_41
  let c0_i32_42 : BitVec 32 := 0#32
  let v61 : BitVec 1 := Scalar.cmpi .slt v57 c0_i32_42
  let v62 : BitVec 1 := Scalar.xori v60 v61
  let c0_i32_40 : BitVec 32 := 0#32
  let v59 : BitVec 1 := Scalar.cmpi .ne v58 c0_i32_40
  let v63 : BitVec 1 := Scalar.andi v62 v59
  let v64 : BitVec 32 := Scalar.addi v58 v57
  let v65 : BitVec 32 := Scalar.select v63 v64 v58
  let c128_i32 : BitVec 32 := 128#32
  let v66 : BitVec 32 := Scalar.muli v65 c128_i32
  let v67 : BitVec 32 := v66
  let v72 : Index := Scalar.indexCast v67
  ![0, v72.toNat]
def k0_off2 (i : grid0.Coords) : Fin 3 → Nat :=
  let arg0 : BitVec 32 := BitVec.ofNat 32 (i 0).val
  let c0_i32_32 : BitVec 32 := 0#32
  let v40 : BitVec 1 := Scalar.cmpi .sgt arg0 c0_i32_32
  let v41 : BitVec 32 := Scalar.extui v40
  let c0_i32_33 : BitVec 32 := 0#32
  let v42 : BitVec 1 := Scalar.cmpi .slt arg0 c0_i32_33
  let v43 : BitVec 32 := Scalar.extui v42
  let v44 : BitVec 32 := Scalar.subi v41 v43
  let c2_i32 : BitVec 32 := 2#32
  let c0_i32_34 : BitVec 32 := 0#32
  let v45 : BitVec 1 := Scalar.cmpi .sgt c2_i32 c0_i32_34
  let v46 : BitVec 32 := Scalar.extui v45
  let c0_i32_35 : BitVec 32 := 0#32
  let v47 : BitVec 1 := Scalar.cmpi .slt c2_i32 c0_i32_35
  let v48 : BitVec 32 := Scalar.extui v47
  let v49 : BitVec 32 := Scalar.subi v46 v48
  let v50 : BitVec 1 := Scalar.cmpi .ne v44 v49
  let v51 : BitVec 32 := Scalar.remsi arg0 c2_i32
  let c0_i32_36 : BitVec 32 := 0#32
  let v52 : BitVec 1 := Scalar.cmpi .ne v51 c0_i32_36
  let v53 : BitVec 1 := Scalar.andi v50 v52
  let v39 : BitVec 32 := Scalar.divsi arg0 c2_i32
  let c1_i32 : BitVec 32 := 1#32
  let v54 : BitVec 32 := Scalar.subi v39 c1_i32
  let v55 : BitVec 32 := Scalar.select v53 v54 v39
  let v90 : Index := Scalar.indexCast v55
  let c0_53 : Index := 0#32
  let c2_i32_37 : BitVec 32 := 2#32
  let c0_i32_38 : BitVec 32 := 0#32
  let v56 : BitVec 1 := Scalar.cmpi .eq c2_i32_37 c0_i32_38
  let c1_i32_39 : BitVec 32 := 1#32
  let v57 : BitVec 32 := Scalar.select v56 c1_i32_39 c2_i32_37
  let v58 : BitVec 32 := Scalar.remsi arg0 v57
  let c0_i32_41 : BitVec 32 := 0#32
  let v60 : BitVec 1 := Scalar.cmpi .slt v58 c0_i32_41
  let c0_i32_42 : BitVec 32 := 0#32
  let v61 : BitVec 1 := Scalar.cmpi .slt v57 c0_i32_42
  let v62 : BitVec 1 := Scalar.xori v60 v61
  let c0_i32_40 : BitVec 32 := 0#32
  let v59 : BitVec 1 := Scalar.cmpi .ne v58 c0_i32_40
  let v63 : BitVec 1 := Scalar.andi v62 v59
  let v64 : BitVec 32 := Scalar.addi v58 v57
  let v65 : BitVec 32 := Scalar.select v63 v64 v58
  let c128_i32 : BitVec 32 := 128#32
  let v66 : BitVec 32 := Scalar.muli v65 c128_i32
  let v67 : BitVec 32 := v66
  let v91 : Index := Scalar.indexCast v67
  ![v90.toNat, 0, v91.toNat]
def k0_cond3 (i : grid0.Coords) : BitVec 1 :=
  let arg0 : BitVec 32 := BitVec.ofNat 32 (i 0).val
  let c14_i32 : BitVec 32 := 14#32
  let v36 : BitVec 1 := Scalar.cmpi .eq arg0 c14_i32
  let v37 : BitVec 32 := Scalar.extui v36
  let c0_i32_31 : BitVec 32 := 0#32
  let v38 : BitVec 1 := Scalar.cmpi .ne v37 c0_i32_31
  v38

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c11_i32 : BitVec 32 := 11#32
  let v0 : BitVec 32 := Scalar.minsi arg0 c11_i32
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let c11_i32 : BitVec 32 := 11#32
  let v0 : BitVec 32 := Scalar.minsi arg0 c11_i32
  let c0_i32 : BitVec 32 := 0#32
  let c0_i32_0 : BitVec 32 := 0#32
  ![c0_i32.toNat, v0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 3 → Nat :=
  let arg0 : BitVec 32 := BitVec.ofNat 32 (i 0).val
  let c11_i32 : BitVec 32 := 11#32
  let v0 : BitVec 32 := Scalar.minsi arg0 c11_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c11_i32_4 : BitVec 32 := 11#32
  let v18 : BitVec 32 := Scalar.minsi arg0 c11_i32_4
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, c0_i32_11.toNat, v28.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S6x2880x256 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S6x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1536x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S6x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x2880x256 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S6x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S6x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S6x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S6x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2880 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2880x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2880x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2880x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x2880x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x2880 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== DwoutIdeal.lean ====
variable {F : FTy → Type} [FloatOps F] [Named F]
def κ : String → Option EReal := fun
  | "inv_d" => some ((1 / 2880 : ℝ) : EReal)
  | _ => none
-- ==== DwoutRefIdeal.lean ====
abbrev S6x256x2880 : Shape := ⟨3, ![6, 256, 2880]⟩
abbrev S6x256 : Shape := ⟨2, ![6, 256]⟩
abbrev S6x256x7680 : Shape := ⟨3, ![6, 256, 7680]⟩
abbrev S2880 : Shape := ⟨1, ![2880]⟩
abbrev S2880x1536 : Shape := ⟨2, ![2880, 1536]⟩
abbrev S1536x2880 : Shape := ⟨2, ![1536, 2880]⟩
abbrev S2880x7680 : Shape := ⟨2, ![2880, 7680]⟩
abbrev S6x2880x256 : Shape := ⟨3, ![6, 2880, 256]⟩
abbrev S1x2880 : Shape := ⟨2, ![1, 2880]⟩
abbrev S6x256x1 : Shape := ⟨3, ![6, 256, 1]⟩
abbrev S1536x7680 : Shape := ⟨2, ![1536, 7680]⟩
abbrev S1x1x2880 : Shape := ⟨3, ![1, 1, 2880]⟩

abbrev nBuf : Space → Nat
  | .hbm => 19
  | .vmem => 15
  | .smem => 0
  | _ => 0

abbrev bufTy : (tb : Table) → Fin (tcTables nBuf tb) → BufTy
  | .hbm, ⟨0, _⟩ => ⟨S6x256x2880, .fp8e5m2⟩
  | .hbm, ⟨1, _⟩ => ⟨S6x256, .f32⟩
  | .hbm, ⟨2, _⟩ => ⟨S6x256x7680, .fp8e4m3⟩
  | .hbm, ⟨3, _⟩ => ⟨S6x256, .f32⟩
  | .hbm, ⟨4, _⟩ => ⟨S6x256x2880, .fp8e4m3⟩
  | .hbm, ⟨5, _⟩ => ⟨S6x256, .f32⟩
  | .hbm, ⟨6, _⟩ => ⟨S6x256, .f32⟩
  | .hbm, ⟨7, _⟩ => ⟨S6x256, .f32⟩
  | .hbm, ⟨8, _⟩ => ⟨S6x256, .f32⟩
  | .hbm, ⟨9, _⟩ => ⟨S2880, .f32⟩
  | .hbm, ⟨10, _⟩ => ⟨S2880x1536, .f32⟩
  | .hbm, ⟨11, _⟩ => ⟨S2880x1536, .f32⟩
  | .hbm, ⟨12, _⟩ => ⟨S1536x2880, .f32⟩
  | .hbm, ⟨13, _⟩ => ⟨S6x256x2880, .f32⟩
  | .hbm, ⟨14, _⟩ => ⟨S1536x2880, .f32⟩
  | .hbm, ⟨15, _⟩ => ⟨S6x256x2880, .f32⟩
  | .hbm, ⟨16, _⟩ => ⟨S2880x7680, .bf16⟩
  | .hbm, ⟨17, _⟩ => ⟨S6x2880x256, .bf16⟩
  | .hbm, ⟨18, _⟩ => ⟨S1x2880, .f32⟩
  | .local _ .vmem, ⟨0, _⟩ => ⟨S6x256x2880, .fp8e5m2⟩
  | .local _ .vmem, ⟨1, _⟩ => ⟨S6x256, .f32⟩
  | .local _ .vmem, ⟨2, _⟩ => ⟨S6x256x7680, .fp8e4m3⟩
  | .local _ .vmem, ⟨3, _⟩ => ⟨S6x256, .f32⟩
  | .local _ .vmem, ⟨4, _⟩ => ⟨S6x256x2880, .fp8e4m3⟩
  | .local _ .vmem, ⟨5, _⟩ => ⟨S6x256, .f32⟩
  | .local _ .vmem, ⟨6, _⟩ => ⟨S6x256, .f32⟩
  | .local _ .vmem, ⟨7, _⟩ => ⟨S6x256, .f32⟩
  | .local _ .vmem, ⟨8, _⟩ => ⟨S6x256, .f32⟩
  | .local _ .vmem, ⟨9, _⟩ => ⟨S2880, .f32⟩
  | .local _ .vmem, ⟨10, _⟩ => ⟨S6x256x2880, .f32⟩
  | .local _ .vmem, ⟨11, _⟩ => ⟨S6x256x2880, .f32⟩
  | .local _ .vmem, ⟨12, _⟩ => ⟨S2880x7680, .bf16⟩
  | .local _ .vmem, ⟨13, _⟩ => ⟨S6x2880x256, .bf16⟩
  | .local _ .vmem, ⟨14, _⟩ => ⟨S1x2880, .f32⟩
  | _, _ => ⟨S6x256x2880, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4_0 : Ref sig .tc := ⟨.hbm, 16, rfl⟩
abbrev main_v4_1 : Ref sig .tc := ⟨.hbm, 17, rfl⟩
abbrev main_v4_2 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S6x256x2880 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x256x7680 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x256x2880 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2880 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S6x256x2880 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S6x256x2880 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2880x7680 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S6x2880x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x2880 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Proof.Mlp.State.lean ====
module

public import proofs.«01_k».proof.Proof.Gen.MlpIdeal.Value
public import Idealize.ShloMosaic.Lib.Pipeline.ValueKit
public import Idealize.ShloMosaic.Lib.Pipeline.ReadBack
public import Idealize.ShloMosaic.Lib.Pointwise

@[expose] public section

set_option maxRecDepth 16384
noncomputable section
open Idealize.ShloMosaic Idealize.ShloMosaic.TcCoe Idealize.SL.Sem
open Idealize.ShloMosaic.Pipeline (Dat)
namespace Cert.MlpIdeal.Hand
open Cert.MlpIdeal Cert.MlpIdeal.Gen
variable (m : (ℓ : Loc nD τ sig) → Buf (Elt Ideal) ℓ)

/-- A vector of 128 lanes repeated four times, read at a lane. -/
theorem wide4 (g : Fin 128 → EReal) (f : Fin 512) :
    (if h : f.val < 128 then g ⟨f.val, h⟩ else if h : f.val - 128 < 128 then g ⟨f.val - 128, h⟩
      else if h : f.val - 128 - 128 < 128 then g ⟨f.val - 128 - 128, h⟩ else g ⟨f.val - 128 - 128 - 128, by omega⟩)
      = g ⟨f.val % 128, by omega⟩ := by
  split_ifs <;> (congr 1; apply Fin.ext; dsimp only; omega)

/-- One code: the scaled value held inside the format's range. -/
def code (x i : EReal) : EReal :=
  min (Scalar.ofBits (F := Ideal) .f32 0x47600000#32) (max (Scalar.ofBits (F := Ideal) .f32 0xC7600000#32) (x * i))

theorem pay21_at (ic : FVec Ideal S1536x128 .f32) (x0 : FVec Ideal S1536x512 .f32) (r : Fin 1536) (f : Fin 512) :
    k0_pay21 (F := Ideal) ic x0 (ix2 r f) = code (x0 (ix2 r f)) (ic (ix2 r ⟨f.val % 128, by omega⟩)) := by
  rw [← wide4 (fun l => ic (ix2 r l)) f]
  pointwise [k0_pay21, code]

/-- One element of a block of the weight gradient. -/
def DW (a : Fin 1536 → EReal) (b : Fin 1536 → EReal) (g : EReal) : EReal := (∑ k, a k * b k) * g

/-- One element of the accumulated input gradient after a block. -/
def DH (acc : EReal) (w s b : Fin 512 → EReal) : EReal := acc + ∑ k, (w k * s k) * b k

theorem pay27_at (a : FVec Ideal S576x1536 .bf16) (b : FVec Ideal S1536x512 .fp8e5m2) (g : FVec Ideal S576x128 .f32) (r : Fin 576) (f : Fin 512) :
    k0_pay27 (F := Ideal) a b g (ix2 r f) = DW (fun k => a (ix2 r k)) (fun k => b (ix2 k f)) (g (ix2 r ⟨f.val % 128, by omega⟩)) := by
  rw [← wide4 (fun l => g (ix2 r l)) f]
  pointwise [k0_pay27, DW]

theorem pay30_at (a : FVec Ideal S576x1536 .bf16) (b : FVec Ideal S1536x512 .fp8e5m2) (g : FVec Ideal S576x128 .f32) (r : Fin 576) (f : Fin 512) :
    k0_pay30 (F := Ideal) (k0_pay29 (F := Ideal) a b) g (ix2 r f) = DW (fun k => a (ix2 r k)) (fun k => b (ix2 k f)) (g (ix2 r ⟨f.val % 128, by omega⟩)) := by
  rw [← wide4 (fun l => g (ix2 r l)) f]
  pointwise [k0_pay30, k0_pay29, DW]

theorem pay32_at (a : FVec Ideal S576x1536 .bf16) (b : FVec Ideal S1536x512 .fp8e5m2) (g : FVec Ideal S576x128 .f32) (r : Fin 576) (f : Fin 512) :
    k0_pay32 (F := Ideal) a b g (ix2 r f) = DW (fun k => a (ix2 r k)) (fun k => b (ix2 k f)) (g (ix2 r ⟨f.val % 128, by omega⟩)) := by
  rw [← wide4 (fun l => g (ix2 r l)) f]
  pointwise [k0_pay32, DW]

theorem pay2_at (a : FVec Ideal S576x1536 .bf16) (b : FVec Ideal S1536x512 .fp8e5m2) (g : FVec Ideal S576x128 .f32) (r : Fin 576) (f : Fin 512) :
    k0_pay2 (F := Ideal) a b g (ix2 r f) = DW (fun k => a (ix2 r k)) (fun k => b (ix2 k f)) (g (ix2 r ⟨f.val % 128, by omega⟩)) := by
  rw [← wide4 (fun l => g (ix2 r l)) f]
  pointwise [k0_pay2, DW]

theorem pay26_at (s : FVec Ideal S1x512 .f32) (w : FVec Ideal S576x512 .fp8e4m3) (acc : FVec Ideal S576x1536 .f32) (b : FVec Ideal S1536x512 .fp8e5m2) (r : Fin 576) (t : Fin 1536) :
    k0_pay26 (F := Ideal) (k0_pay24 s w) (k0_pay25 acc) b (ix2 r t) = DH (acc (ix2 r t)) (fun k => w (ix2 r k)) (fun k => s (ix2 (0 : Fin 1) k)) (fun k => b (ix2 t k)) := by
  pointwise [k0_pay26, k0_pay24, k0_pay25, k0_pay22, DH]

theorem pay28_at (s : FVec Ideal S1x512 .f32) (w : FVec Ideal S576x512 .fp8e4m3) (acc : FVec Ideal S576x1536 .f32) (b : FVec Ideal S1536x512 .fp8e5m2) (r : Fin 576) (t : Fin 1536) :
    k0_pay28 (F := Ideal) (k0_pay22 s) w acc b (ix2 r t) = DH (acc (ix2 r t)) (fun k => w (ix2 r k)) (fun k => s (ix2 (0 : Fin 1) k)) (fun k => b (ix2 t k)) := by
  pointwise [k0_pay28, k0_pay22, DH]

theorem pay31_at (s : FVec Ideal S1x512 .f32) (w : FVec Ideal S576x512 .fp8e4m3) (acc : FVec Ideal S576x1536 .f32) (b : FVec Ideal S1536x512 .fp8e5m2) (r : Fin 576) (t : Fin 1536) :
    k0_pay31 (F := Ideal) (k0_pay22 s) w acc b (ix2 r t) = DH (acc (ix2 r t)) (fun k => w (ix2 r k)) (fun k => s (ix2 (0 : Fin 1) k)) (fun k => b (ix2 t k)) := by
  pointwise [k0_pay31, k0_pay22, DH]

theorem pay1_at (s : FVec Ideal S1x512 .f32) (w : FVec Ideal S576x512 .fp8e4m3) (acc : FVec Ideal S576x1536 .f32) (b : FVec Ideal S1536x512 .fp8e5m2) (r : Fin 576) (t : Fin 1536) :
    k0_pay1 (F := Ideal) (k0_pay33 (k0_pay22 s) w) (k0_pay34 acc) b (ix2 r t) = DH (acc (ix2 r t)) (fun k => w (ix2 r k)) (fun k => s (ix2 (0 : Fin 1) k)) (fun k => b (ix2 t k)) := by
  pointwise [k0_pay1, k0_pay33, k0_pay34, k0_pay22, DH]

theorem pay3_at (s : FVec Ideal S1x512 .f32) (w : FVec Ideal S576x512 .fp8e4m3) (acc : FVec Ideal S576x1536 .f32) (b : FVec Ideal S1536x512 .fp8e5m2) (r : Fin 576) (t : Fin 1536) :
    k0_pay3 (F := Ideal) (k0_pay22 s) w acc b (ix2 r t) = DH (acc (ix2 r t)) (fun k => w (ix2 r k)) (fun k => s (ix2 (0 : Fin 1) k)) (fun k => b (ix2 t k)) := by
  pointwise [k0_pay3, k0_pay22, DH]

/-- Pieces under an index that a later piece holds do not matter there. -/
theorem canon_drop {Val : EltTy → Type} [∀ e, Nonempty (Val e)] {s : Shape} {e : EltTy} (L' : List (View.Piece Val s e)) (y : s.Idx) :
    ∀ (L : List (View.Piece Val s e)), (∃ p ∈ L, y ∈ p.1.set) → View.canon (L ++ L') y = View.canon L y
  | [], h => by obtain ⟨p, hp, _⟩ := h; exact absurd hp List.not_mem_nil
  | p :: L, h => by
    by_cases hy : y ∈ p.1.set
    · obtain ⟨r, w⟩ := p
      obtain ⟨x, rfl⟩ : ∃ x, r.emb x = y := r.exists_idx_of_mem hy
      rw [List.cons_append, View.canon_cons_emb, View.canon_cons_emb]
    · have h' : ∃ p ∈ L, y ∈ p.1.set := by
        obtain ⟨q, hq, hqy⟩ := h
        rcases List.mem_cons.mp hq with rfl | hq
        · exact absurd hqy hy
        · exact ⟨q, hq, hqy⟩
      rw [List.cons_append, View.canon_cons_of_not_mem p _ hy, View.canon_cons_of_not_mem p _ hy]
      exact canon_drop L' y L h'

/-- A load of a whole buffer after stores reads what they left. -/
theorem readCov_whole {sig : RefSig} {κ : Kind} {sp : Space} {s : Shape} {e : EltTy} {Val : EltTy → Type} [∀ e, Nonempty (Val e)]
    (v : View sig κ sp s e) (L : List (View.Piece Val s e)) {off : Fin s.rank → ℕ} (inb : ∀ a, off a + s.size a ≤ s.size a) (h : ∀ a, off a = 0) :
    v.readCov L (Rect.unit off (no_index s.size) inb).toLoadRect = View.canon L :=
  (View.readCov_eq_canon' v L _).trans (View.ld_unit_zero (funext h) inb _)

/-- A load of rows `o …` of a matrix, read at a row and a column. -/
theorem ld_rows {H W n : ℕ} {e : EltTy} {Val : EltTy → Type} (X : (⟨2, ![H, W]⟩ : Shape).Idx → Val e) (o : ℕ)
    (inb : ∀ a, (![o, 0] : Fin 2 → ℕ) a + (![n, W] : Fin 2 → ℕ) a ≤ (⟨2, ![H, W]⟩ : Shape).size a) (x : Fin n) (k : Fin W) (r : Fin H)
    (h : r.val = o + x.val) : View.ld X (Rect.unit (s := ⟨2, ![H, W]⟩) ![o, 0] ![n, W] inb) (ix2 x k) = X (ix2 r k) := by
  refine congrArg X (funext fun a => Fin.ext ?_)
  fin_cases a
  · show o + 1 * x.val = r.val
    omega
  · show 0 + 1 * k.val = k.val
    omega

theorem DH_congr {acc acc' : EReal} {w w' s b : Fin 512 → EReal} (h : acc = acc') (hw : ∀ k, w k = w' k) : DH acc w s b = DH acc' w' s b := by
  obtain rfl : w = w' := funext hw
  rw [h]

theorem DW_congr {a a' b : Fin 1536 → EReal} {g g' : EReal} (ha : ∀ k, a k = a' k) (hg : g = g') : DW a b g = DW a' b g' := by
  obtain rfl : a = a' := funext ha
  rw [hg]

/-- The zero fill. -/
theorem pay20_at (j : S2880x1536.Idx) : k0_pay20 (F := Ideal) j = 0 := by
  pointwise [k0_pay20]

/-- The scratches a later point finds are those the point before left. -/
theorem scratch_B (c : Dev nD) (t : Fin cfg0.N) (h : ¬ t.val % 15 = 0) :
    (outsAt0 m c t.val t.isLt).2.2.2 = (outsAt0 m c (t.val - 1) (Nat.lt_of_le_of_lt (Nat.sub_le _ _) t.isLt)).2.2.2 := by
  rw [outsAt0_B m c t h]; rfl

theorem codes_B (c : Dev nD) (t : Fin cfg0.N) (h : ¬ t.val % 15 = 0) :
    (outsAt0 m c t.val t.isLt).1 = k0_pay21 (outsAt0 m c t.val t.isLt).2.2.2.2.1 (iblk m c 0 t) := by
  rw [scratch_B m c t h]
  rw [outsAt0_B m c t h]; frame_out
  rw [read_unread_whole]

theorem codes_A (c : Dev nD) (t : Fin cfg0.N) (h : t.val % 15 = 0) :
    (outsAt0 m c t.val t.isLt).1 = k0_pay21 (outsAt0 m c t.val t.isLt).2.2.2.2.1 (iblk m c 0 t) := by
  generalize hI : (outsAt0 m c t.val t.isLt).2.2.2.2.1 = I
  rw [outsAt0_A m c t h] at hI; frame_out at hI
  rw [outsAt0_A m c t h]; frame_out
  simp (discharger := decide) only [↓readCov_whole]
  rw [hI]

theorem dw_B (c : Dev nD) (t : Fin cfg0.N) (h : ¬ t.val % 15 = 0) (r : Fin 2880) (f : Fin 512) :
    (outsAt0 m c t.val t.isLt).2.1 (ix2 r f) =
      DW (fun k => (outsAt0 m c t.val t.isLt).2.2.2.1 (ix2 r k))
        (fun k => k0_pay21 (outsAt0 m c t.val t.isLt).2.2.2.2.1 (iblk m c 0 t) (ix2 k f))
        ((outsAt0 m c t.val t.isLt).2.2.2.2.2 (ix2 r ⟨f.val % 128, by omega⟩)) := by
  rw [scratch_B m c t h]
  rw [outsAt0_B m c t h]; frame_out; simp only [read_unread_whole]
  canon_tiles x hx
  case piece0 =>
    idx_vars x
    obtain rfl : f = x1 := Fin.ext hx1
    exact (pay2_at _ _ _ _ _).trans (DW_congr (fun k => ld_rows _ _ _ _ _ _ hx0) (ld_rows _ _ _ _ _ _ hx0))
  case piece1 =>
    idx_vars x
    obtain rfl : f = x1 := Fin.ext hx1
    exact (pay32_at _ _ _ _ _).trans (DW_congr (fun k => ld_rows _ _ _ _ _ _ hx0) (ld_rows _ _ _ _ _ _ hx0))
  case piece2 =>
    idx_vars x
    obtain rfl : f = x1 := Fin.ext hx1
    exact (pay30_at _ _ _ _ _).trans (DW_congr (fun k => ld_rows _ _ _ _ _ _ hx0) (ld_rows _ _ _ _ _ _ hx0))
  case piece3 =>
    idx_vars x
    obtain rfl : f = x1 := Fin.ext hx1
    exact (pay27_at _ _ _ _ _).trans (DW_congr (fun k => ld_rows _ _ _ _ _ _ hx0) (ld_rows _ _ _ _ _ _ hx0))
  case piece4 =>
    idx_vars x
    obtain rfl : f = x1 := Fin.ext hx1
    exact (pay27_at _ _ _ _ _).trans (DW_congr (fun k => ld_rows _ _ _ _ _ _ (hx0.trans (Nat.zero_add _).symm)) (ld_rows _ _ _ _ _ _ (hx0.trans (Nat.zero_add _).symm)))

theorem dw_A (c : Dev nD) (t : Fin cfg0.N) (h : t.val % 15 = 0) (r : Fin 2880) (f : Fin 512) :
    (outsAt0 m c t.val t.isLt).2.1 (ix2 r f) =
      DW (fun k => (outsAt0 m c t.val t.isLt).2.2.2.1 (ix2 r k))
        (fun k => k0_pay21 (outsAt0 m c t.val t.isLt).2.2.2.2.1 (iblk m c 0 t) (ix2 k f))
        ((outsAt0 m c t.val t.isLt).2.2.2.2.2 (ix2 r ⟨f.val % 128, by omega⟩)) := by
  generalize hL : (outsAt0 m c t.val t.isLt).2.2.2.1 = L
  generalize hI : (outsAt0 m c t.val t.isLt).2.2.2.2.1 = I
  generalize hG : (outsAt0 m c t.val t.isLt).2.2.2.2.2 = G
  rw [outsAt0_A m c t h] at hL hI hG
  frame_out at hL; frame_out at hI; frame_out at hG
  rw [outsAt0_A m c t h]; frame_open
  simp (discharger := decide) only [↓View.readCov_skip, ↓View.readCov_fill]
  frame_out
  simp (discharger := decide) only [↓readCov_whole]
  simp only [View.readCov_eq_canon', hL, hI, hG]
  clear hL hI hG
  canon_tiles x hx
  case piece0 =>
    idx_vars x
    obtain rfl : f = x1 := Fin.ext hx1
    exact (pay2_at _ _ _ _ _).trans (DW_congr (fun k => ld_rows _ _ _ _ _ _ hx0) (ld_rows _ _ _ _ _ _ hx0))
  case piece1 =>
    idx_vars x
    obtain rfl : f = x1 := Fin.ext hx1
    exact (pay32_at _ _ _ _ _).trans (DW_congr (fun k => ld_rows _ _ _ _ _ _ hx0) (ld_rows _ _ _ _ _ _ hx0))
  case piece2 =>
    idx_vars x
    obtain rfl : f = x1 := Fin.ext hx1
    exact (pay30_at _ _ _ _ _).trans (DW_congr (fun k => ld_rows _ _ _ _ _ _ hx0) (ld_rows _ _ _ _ _ _ hx0))
  case piece3 =>
    idx_vars x
    obtain rfl : f = x1 := Fin.ext hx1
    exact (pay27_at _ _ _ _ _).trans (DW_congr (fun k => ld_rows _ _ _ _ _ _ hx0) (ld_rows _ _ _ _ _ _ hx0))
  case piece4 =>
    idx_vars x
    obtain rfl : f = x1 := Fin.ext hx1
    exact (pay27_at _ _ _ _ _).trans (DW_congr (fun k => ld_rows _ _ _ _ _ _ (hx0.trans (Nat.zero_add _).symm)) (ld_rows _ _ _ _ _ _ (hx0.trans (Nat.zero_add _).symm)))

theorem dh_A (c : Dev nD) (t : Fin cfg0.N) (h : t.val % 15 = 0) (r : Fin 2880) (s : Fin 1536) :
    (outsAt0 m c t.val t.isLt).2.2.1 (ix2 r s) =
      DH 0 (fun k => iblk m c 4 t (ix2 r k)) (fun k => iblk m c 5 t (ix2 (0 : Fin 1) k))
        (fun k => k0_pay21 (outsAt0 m c t.val t.isLt).2.2.2.2.1 (iblk m c 0 t) (ix2 s k)) := by
  generalize hI : (outsAt0 m c t.val t.isLt).2.2.2.2.1 = I
  rw [outsAt0_A m c t h] at hI
  frame_out at hI
  rw [outsAt0_A m c t h]; frame_open
  simp (discharger := decide) only [↓View.readCov_skip, ↓View.readCov_fill]
  frame_out
  simp (discharger := decide) only [↓readCov_whole]
  simp only [View.readCov_eq_canon', hI]
  clear hI
  refine (canon_drop [_] _ [_, _, _, _, _] ?_).trans ?_
  · refine View.cover_of_tiledL (s := S2880x1536) _ ![576, 1536] ?_ _
    sl_kernel_rfl
  canon_tiles x hx
  case piece0 =>
    idx_vars x
    obtain rfl : s = x1 := Fin.ext hx1
    exact (pay3_at _ _ _ _ _ _).trans (DH_congr (pay20_at _) fun k => ld_rows _ _ _ _ _ _ hx0)
  case piece1 =>
    idx_vars x
    obtain rfl : s = x1 := Fin.ext hx1
    exact (pay1_at _ _ _ _ _ _).trans (DH_congr (pay20_at _) fun k => ld_rows _ _ _ _ _ _ hx0)
  case piece2 =>
    idx_vars x
    obtain rfl : s = x1 := Fin.ext hx1
    exact (pay31_at _ _ _ _ _ _).trans (DH_congr (pay20_at _) fun k => ld_rows _ _ _ _ _ _ hx0)
  case piece3 =>
    idx_vars x
    obtain rfl : s = x1 := Fin.ext hx1
    exact (pay28_at _ _ _ _ _ _).trans (DH_congr (pay20_at _) fun k => ld_rows _ _ _ _ _ _ hx0)
  case piece4 =>
    idx_vars x
    obtain rfl : s = x1 := Fin.ext hx1
    exact (pay26_at _ _ _ _ _ _).trans (DH_congr (pay20_at _) fun k => ld_rows _ _ _ _ _ _ (hx0.trans (Nat.zero_add _).symm))

theorem dh_B (c : Dev nD) (t : Fin cfg0.N) (h : ¬ t.val % 15 = 0) (r : Fin 2880) (s : Fin 1536) :
    (outsAt0 m c t.val t.isLt).2.2.1 (ix2 r s) =
      DH ((outsAt0 m c (t.val - 1) (Nat.lt_of_le_of_lt (Nat.sub_le _ _) t.isLt)).2.2.1 (ix2 r s))
        (fun k => iblk m c 4 t (ix2 r k)) (fun k => iblk m c 5 t (ix2 (0 : Fin 1) k))
        (fun k => k0_pay21 (outsAt0 m c t.val t.isLt).2.2.2.2.1 (iblk m c 0 t) (ix2 s k)) := by
  rw [scratch_B m c t h]
  rw [outsAt0_B m c t h]; frame_out; simp only [read_unread_whole]
  canon_tiles x hx
  case piece0 =>
    idx_vars x
    obtain rfl : s = x1 := Fin.ext hx1
    exact (pay3_at _ _ _ _ _ _).trans (DH_congr (ld_rows _ _ _ _ _ _ hx0) fun k => ld_rows _ _ _ _ _ _ hx0)
  case piece1 =>
    idx_vars x
    obtain rfl : s = x1 := Fin.ext hx1
    exact (pay1_at _ _ _ _ _ _).trans (DH_congr (ld_rows _ _ _ _ _ _ hx0) fun k => ld_rows _ _ _ _ _ _ hx0)
  case piece2 =>
    idx_vars x
    obtain rfl : s = x1 := Fin.ext hx1
    exact (pay31_at _ _ _ _ _ _).trans (DH_congr (ld_rows _ _ _ _ _ _ hx0) fun k => ld_rows _ _ _ _ _ _ hx0)
  case piece3 =>
    idx_vars x
    obtain rfl : s = x1 := Fin.ext hx1
    exact (pay28_at _ _ _ _ _ _).trans (DH_congr (ld_rows _ _ _ _ _ _ hx0) fun k => ld_rows _ _ _ _ _ _ hx0)
  case piece4 =>
    idx_vars x
    obtain rfl : s = x1 := Fin.ext hx1
    exact (pay26_at _ _ _ _ _ _).trans (DH_congr (ld_rows _ _ _ _ _ _ (hx0.trans (Nat.zero_add _).symm)) fun k => ld_rows _ _ _ _ _ _ (hx0.trans (Nat.zero_add _).symm))
end Cert.MlpIdeal.Hand
-- ==== Proof.Mlp.Close.lean ====
module

public import proofs.«01_k».proof.Proof.Mlp.State
public import Idealize.ShloMosaic.Lib.Pipeline.ValueKit
public import Idealize.ShloMosaic.Lib.Pipeline.ReadBack
public import Idealize.ShloMosaic.Lib.Pointwise

@[expose] public section

set_option maxRecDepth 16384
noncomputable section
open Idealize.ShloMosaic Idealize.ShloMosaic.TcCoe Idealize.SL.Sem
open Idealize.ShloMosaic.Pipeline (Dat)
namespace Cert.MlpIdeal.Hand
open Cert.MlpIdeal Cert.MlpIdeal.Gen
variable (m : (ℓ : Loc nD τ sig) → Buf (Elt Ideal) ℓ)

/-- The left operand of the weight gradient: a token's values by its two scales. -/
def lhsE (x1 : FVec Ideal S6x256 .f32) (x2 : FVec Ideal S6x2880x256 .fp8e4m3) (x3 : FVec Ideal S6x256 .f32) (d : Fin 2880) (t : Fin 1536) : EReal :=
  x2 (ix3 ⟨t.val / 256, by omega⟩ d ⟨t.val % 256, by omega⟩) *
    (x3 (ix2 ⟨t.val / 256, by omega⟩ ⟨t.val % 256, by omega⟩) * x1 (ix2 ⟨t.val / 256, by omega⟩ ⟨t.val % 256, by omega⟩))

theorem L_A (c : Dev nD) (t : Fin cfg0.N) (h : t.val % 15 = 0) (d : Fin 2880) (s : Fin 1536) :
    (outsAt0 m c t.val t.isLt).2.2.2.1 (ix2 d s) = lhsE (iblk m c 1 t) (iblk m c 2 t) (iblk m c 3 t) d s := by
  rw [outsAt0_A m c t h]; frame_out
  canon_tiles x hx
  all_goals (unfold lhsE; idx_vars x; open_payloads; pointwise)
  all_goals blk_point
theorem I_A (c : Dev nD) (t : Fin cfg0.N) (h : t.val % 15 = 0) (s : Fin 1536) (l : Fin 128) :
    (outsAt0 m c t.val t.isLt).2.2.2.2.1 (ix2 s l) = Ideal.div 1 (iblk m c 1 t (ix2 ⟨s.val / 256, by omega⟩ ⟨s.val % 256, by omega⟩)) := by
  rw [outsAt0_A m c t h]; frame_out
  canon_tiles x hx
  all_goals (idx_vars x; open_payloads; pointwise)
  all_goals blk_point
theorem G_A (c : Dev nD) (t : Fin cfg0.N) (h : t.val % 15 = 0) (d : Fin 2880) (l : Fin 128) :
    (outsAt0 m c t.val t.isLt).2.2.2.2.2 (ix2 d l) = iblk m c 6 t (ix2 (0 : Fin 1) d) := by
  rw [outsAt0_A m c t h]; frame_out
  pointwise [k0_pay19]

theorem idx : ∀ t : Fin cfg0.N, win0_0.index t = ![0, t.val] ∧ win0_1.index t = ![0, 0] ∧ win0_2.index t = ![0, 0, 0] ∧ win0_3.index t = ![0, 0] ∧
    win0_4.index t = ![0, t.val] ∧ win0_5.index t = ![0, t.val] ∧ win0_6.index t = ![0, 0] ∧ win0_7.index t = ![0, t.val] ∧ win0_8.index t = ![0, t.val] ∧ win0_9.index t = ![0, 0] :=
  (by decide +kernel : ∀ t : Fin grid0.N, _)

theorem x0_at (c : Dev nD) (t : Fin cfg0.N) (s : Fin 1536) (k : Fin 512) (g : Fin 7680) (hg : g.val = t.val * 512 + k.val) :
    iblk m c 0 t (ix2 s k) = m ((c : Thread nD τ).loc main_arg0) (ix2 s g) := by
  blk_ext [iblk, V, idx t]
theorem x1_at (c : Dev nD) (t : Fin cfg0.N) (b : Fin 6) (s : Fin 256) :
    iblk m c 1 t (ix2 b s) = m ((c : Thread nD τ).loc main_arg1) (ix2 b s) := by
  blk_ext [iblk, V, idx t]
theorem x2_at (c : Dev nD) (t : Fin cfg0.N) (b : Fin 6) (d : Fin 2880) (s : Fin 256) :
    iblk m c 2 t (ix3 b d s) = m ((c : Thread nD τ).loc main_arg2) (ix3 b s d) := by
  have e : iblk m c 2 t (ix3 b d s) = V m c main_v0 (ix3 b d s) := by blk_ext [iblk, idx t]
  rw [e]; entry_read; pointwise
theorem x3_at (c : Dev nD) (t : Fin cfg0.N) (b : Fin 6) (s : Fin 256) :
    iblk m c 3 t (ix2 b s) = m ((c : Thread nD τ).loc main_arg3) (ix2 b s) := by
  blk_ext [iblk, V, idx t]
theorem x4_at (c : Dev nD) (t : Fin cfg0.N) (d : Fin 2880) (k : Fin 512) (g : Fin 7680) (hg : g.val = t.val * 512 + k.val) :
    iblk m c 4 t (ix2 d k) = m ((c : Thread nD τ).loc main_arg5) (ix2 d g) := by
  blk_ext [iblk, V, idx t]
theorem x5_at (c : Dev nD) (t : Fin cfg0.N) (k : Fin 512) (g : Fin 7680) (hg : g.val = t.val * 512 + k.val) :
    iblk m c 5 t (ix2 (0 : Fin 1) k) = m ((c : Thread nD τ).loc main_arg6) (ix1 g) := by
  have e : iblk m c 5 t (ix2 (0 : Fin 1) k) = V m c main_v2 (ix2 (0 : Fin 1) g) := by blk_ext [iblk, idx t]
  rw [e]; entry_read; pointwise
theorem x6_at (c : Dev nD) (t : Fin cfg0.N) (d : Fin 2880) :
    iblk m c 6 t (ix2 (0 : Fin 1) d) = m ((c : Thread nD τ).loc main_arg4) (ix1 d) := by
  have e : iblk m c 6 t (ix2 (0 : Fin 1) d) = V m c main_v1 (ix2 (0 : Fin 1) d) := by blk_ext [iblk, idx t]
  rw [e]; entry_read; pointwise

/-! ## What every point leaves -/

/-- A token's value by its two scales, read off the argument arrays. -/
def lhsM (a1 : FVec Ideal S6x256 .f32) (a2 : FVec Ideal S6x256x2880 .fp8e4m3) (a3 : FVec Ideal S6x256 .f32) (d : Fin 2880) (s : Fin 1536) : EReal :=
  a2 (ix3 ⟨s.val / 256, by omega⟩ ⟨s.val % 256, by omega⟩ d) *
      (a3 (ix2 ⟨s.val / 256, by omega⟩ ⟨s.val % 256, by omega⟩) * a1 (ix2 ⟨s.val / 256, by omega⟩ ⟨s.val % 256, by omega⟩))

theorem L_at (c : Dev nD) (n : ℕ) (hn : n < cfg0.N) (d : Fin 2880) (s : Fin 1536) :
    (outsAt0 m c n hn).2.2.2.1 (ix2 d s) = lhsM (m ((c : Thread nD τ).loc main_arg1)) (m ((c : Thread nD τ).loc main_arg2)) (m ((c : Thread nD τ).loc main_arg3)) d s := by
  have hN : n < 15 := lt_of_lt_of_eq hn N_0
  induction n with
  | zero =>
    rw [L_A m c ⟨0, hn⟩ rfl, lhsE, x1_at, x2_at, x3_at, lhsM]
  | succ n ih =>
    rw [scratch_B m c ⟨n + 1, hn⟩ (by dsimp only; omega)]
    exact ih (by omega) (by omega)

theorem I_at (c : Dev nD) (n : ℕ) (hn : n < cfg0.N) (s : Fin 1536) (l : Fin 128) :
    (outsAt0 m c n hn).2.2.2.2.1 (ix2 s l) = Ideal.div 1 (m ((c : Thread nD τ).loc main_arg1) (ix2 ⟨s.val / 256, by omega⟩ ⟨s.val % 256, by omega⟩)) := by
  have hN : n < 15 := lt_of_lt_of_eq hn N_0
  induction n with
  | zero =>
    rw [I_A m c ⟨0, hn⟩ rfl, x1_at]
  | succ n ih =>
    rw [scratch_B m c ⟨n + 1, hn⟩ (by dsimp only; omega)]
    exact ih (by omega) (by omega)

theorem G_at (c : Dev nD) (n : ℕ) (hn : n < cfg0.N) (d : Fin 2880) (l : Fin 128) :
    (outsAt0 m c n hn).2.2.2.2.2 (ix2 d l) = m ((c : Thread nD τ).loc main_arg4) (ix1 d) := by
  have hN : n < 15 := lt_of_lt_of_eq hn N_0
  induction n with
  | zero =>
    rw [G_A m c ⟨0, hn⟩ rfl, x6_at]
  | succ n ih =>
    rw [scratch_B m c ⟨n + 1, hn⟩ (by dsimp only; omega)]
    exact ih (by omega) (by omega)

/-- The codes, element by element. -/
def codesE (a0 : FVec Ideal S1536x7680 .f32) (a1 : FVec Ideal S6x256 .f32) (s : Fin 1536) (g : Fin 7680) : EReal :=
  code (a0 (ix2 s g)) (Ideal.div 1 (a1 (ix2 ⟨s.val / 256, by omega⟩ ⟨s.val % 256, by omega⟩)))

/-- The codes of a point's block. -/
theorem C_at (c : Dev nD) (t : Fin cfg0.N) (s : Fin 1536) (k : Fin 512) (g : Fin 7680) (hg : g.val = t.val * 512 + k.val) :
    k0_pay21 (outsAt0 m c t.val t.isLt).2.2.2.2.1 (iblk m c 0 t) (ix2 s k) =
      codesE (m ((c : Thread nD τ).loc main_arg0)) (m ((c : Thread nD τ).loc main_arg1)) s g := by
  rw [pay21_at, I_at, x0_at m c t s k g hg, codesE]

theorem codes_out (c : Dev nD) (t : Fin cfg0.N) (s : Fin 1536) (k : Fin 512) (g : Fin 7680) (hg : g.val = t.val * 512 + k.val) :
    (outsAt0 m c t.val t.isLt).1 (ix2 s k) = codesE (m ((c : Thread nD τ).loc main_arg0)) (m ((c : Thread nD τ).loc main_arg1)) s g := by
  rw [← C_at m c t s k g hg]
  by_cases h : t.val % 15 = 0
  · rw [codes_A m c t h]
  · rw [codes_B m c t h]

/-- The weight gradient, element by element. -/
def dwE (a0 : FVec Ideal S1536x7680 .f32) (a1 : FVec Ideal S6x256 .f32) (a2 : FVec Ideal S6x256x2880 .fp8e4m3) (a3 : FVec Ideal S6x256 .f32) (a4 : FVec Ideal S2880 .f32)
    (d : Fin 2880) (g : Fin 7680) : EReal :=
  (∑ s : Fin 1536, lhsM a1 a2 a3 d s * codesE a0 a1 s g) * a4 (ix1 d)

theorem dw_out (c : Dev nD) (t : Fin cfg0.N) (d : Fin 2880) (k : Fin 512) (g : Fin 7680) (hg : g.val = t.val * 512 + k.val) :
    (outsAt0 m c t.val t.isLt).2.1 (ix2 d k) = dwE (m ((c : Thread nD τ).loc main_arg0)) (m ((c : Thread nD τ).loc main_arg1)) (m ((c : Thread nD τ).loc main_arg2))
      (m ((c : Thread nD τ).loc main_arg3)) (m ((c : Thread nD τ).loc main_arg4)) d g := by
  have e := fun h => dw_A m c t h d k
  have e' := fun h => dw_B m c t h d k
  rw [(em (t.val % 15 = 0)).elim e e', DW, dwE, G_at]
  congr 1
  refine Finset.sum_congr rfl fun s _ => ?_
  rw [L_at, C_at m c t s k g hg]

/-- One term of the input gradient. -/
def dhT (a0 : FVec Ideal S1536x7680 .f32) (a1 : FVec Ideal S6x256 .f32) (a5 : FVec Ideal S2880x7680 .fp8e4m3) (a6 : FVec Ideal S7680 .f32)
    (d : Fin 2880) (s : Fin 1536) (g : Fin 7680) : EReal :=
  a5 (ix2 d g) * a6 (ix1 g) * codesE a0 a1 s g

/-- The input gradient, element by element. -/
def dhE (a0 : FVec Ideal S1536x7680 .f32) (a1 : FVec Ideal S6x256 .f32) (a5 : FVec Ideal S2880x7680 .fp8e4m3) (a6 : FVec Ideal S7680 .f32)
    (d : Fin 2880) (s : Fin 1536) : EReal :=
  ∑ g : Fin 7680, dhT a0 a1 a5 a6 d s g

/-- The input gradient after `n + 1` blocks of 512 columns. -/
theorem dh_at (c : Dev nD) (d : Fin 2880) (s : Fin 1536) (n : ℕ) (hn : n < cfg0.N) :
    (outsAt0 m c n hn).2.2.1 (ix2 d s) = ∑ u : Fin (n + 1), ∑ k : Fin 512,
      (if h : u.val * 512 + k.val < 7680 then dhT (m ((c : Thread nD τ).loc main_arg0)) (m ((c : Thread nD τ).loc main_arg1)) (m ((c : Thread nD τ).loc main_arg5)) (m ((c : Thread nD τ).loc main_arg6)) d s ⟨u.val * 512 + k.val, h⟩ else 0) := by
  have hN : n < 15 := lt_of_lt_of_eq hn N_0
  have key : ∀ (t : Fin cfg0.N) (acc : EReal), DH acc (fun k => iblk m c 4 t (ix2 d k)) (fun k => iblk m c 5 t (ix2 (0 : Fin 1) k))
        (fun k => k0_pay21 (outsAt0 m c t.val t.isLt).2.2.2.2.1 (iblk m c 0 t) (ix2 s k)) = acc + ∑ k : Fin 512,
      (if h : t.val * 512 + k.val < 7680 then dhT (m ((c : Thread nD τ).loc main_arg0)) (m ((c : Thread nD τ).loc main_arg1)) (m ((c : Thread nD τ).loc main_arg5)) (m ((c : Thread nD τ).loc main_arg6)) d s ⟨t.val * 512 + k.val, h⟩ else 0) := by
    intro t acc
    have ht : t.val < 15 := lt_of_lt_of_eq t.isLt N_0
    unfold DH
    congr 1
    refine Finset.sum_congr rfl fun k _ => ?_
    have hk : t.val * 512 + k.val < 7680 := by omega
    rw [dif_pos hk]
    exact congrArg₂ (fun a b : EReal => a * b) (congrArg₂ (fun a b : EReal => a * b) (x4_at m c t d k ⟨_, hk⟩ rfl) (x5_at m c t k ⟨_, hk⟩ rfl)) (C_at m c t s k ⟨_, hk⟩ rfl)
  induction n with
  | zero =>
    rw [dh_A m c ⟨0, hn⟩ rfl, key ⟨0, hn⟩, zero_add, Fin.sum_univ_one]
    rfl
  | succ n ih =>
    rw [dh_B m c ⟨n + 1, hn⟩ (by dsimp only; omega), key ⟨n + 1, hn⟩]
    refine Eq.trans ?_ (Fin.sum_univ_castSucc _).symm
    refine congrArg₂ (· + ·) ?_ rfl
    exact ih (by omega) (by omega)

theorem dh_out (c : Dev nD) (t : Fin cfg0.N) (h : t.val = 14) (d : Fin 2880) (s : Fin 1536) :
    (outsAt0 m c t.val t.isLt).2.2.1 (ix2 d s) = dhE (m ((c : Thread nD τ).loc main_arg0)) (m ((c : Thread nD τ).loc main_arg1)) (m ((c : Thread nD τ).loc main_arg5))
      (m ((c : Thread nD τ).loc main_arg6)) d s := by
  rw [dh_at]
  obtain ⟨n, hn⟩ := t
  obtain rfl : n = 14 := h
  unfold dhE
  rw [Fin.sum_univ_tiles 15 512 (by norm_num) (dhT _ _ _ _ d s)]
  refine Finset.sum_congr rfl fun u _ => Finset.sum_congr rfl fun k _ => ?_
  have hu : u.val < 15 := u.isLt
  exact dif_pos (by omega)

end Cert.MlpIdeal.Hand
-- ==== Proof.Mlp.Final.lean ====
module

public import proofs.«01_k».proof.Proof.Mlp.Close
public import Idealize.ShloMosaic.Lib.Pipeline.ValueKit
public import Idealize.ShloMosaic.Lib.Pipeline.ReadBack
public import Idealize.ShloMosaic.Lib.Pointwise

@[expose] public section

set_option maxRecDepth 16384
noncomputable section
open Idealize.ShloMosaic Idealize.ShloMosaic.TcCoe Idealize.SL.Sem
open Idealize.ShloMosaic.Pipeline (Dat)
namespace Cert.MlpIdeal.Hand
open Cert.MlpIdeal Cert.MlpIdeal.Gen
variable (m : (ℓ : Loc nD τ sig) → Buf (Elt Ideal) ℓ)

theorem point7 (c : Dev nD) (t : Fin cfg0.N) (y : S1536x512.Idx) (j : S1536x7680.Idx) (h0 : (j 0).val = (y 0).val) (h1 : (j 1).val = t.val * 512 + (y 1).val) :
    (outsAt0 m c t.val t.isLt).1 y = codesE (m ((c : Thread nD τ).loc main_arg0)) (m ((c : Thread nD τ).loc main_arg1)) (j 0) (j 1) := by
  idx_vars y
  idx_vars j
  obtain rfl : j0 = y0 := Fin.ext h0
  skip
  exact codes_out m c t _ _ _ h1

theorem final7 (c : Dev nD) : (dats m 0 c).arrAt 7 (cfgs 0).N = fun j => codesE (m ((c : Thread nD τ).loc main_arg0)) (m ((c : Thread nD τ).loc main_arg1)) (j 0) (j 1) := by
  refine (dats m 0 c).arrAt_eq_of_covers 7 _ (by decide +kernel) fun t hf y => ?_
  blk_simp
  rw [after0_7]
  exact point7 m c t y _ (by blk_simp [idx t]) (by blk_simp [idx t])

theorem point8 (c : Dev nD) (t : Fin cfg0.N) (y : S2880x512.Idx) (j : S2880x7680.Idx) (h0 : (j 0).val = (y 0).val) (h1 : (j 1).val = t.val * 512 + (y 1).val) :
    (outsAt0 m c t.val t.isLt).2.1 y = dwE (m ((c : Thread nD τ).loc main_arg0)) (m ((c : Thread nD τ).loc main_arg1)) (m ((c : Thread nD τ).loc main_arg2)) (m ((c : Thread nD τ).loc main_arg3)) (m ((c : Thread nD τ).loc main_arg4)) (j 0) (j 1) := by
  idx_vars y
  idx_vars j
  obtain rfl : j0 = y0 := Fin.ext h0
  skip
  exact dw_out m c t _ _ _ h1

theorem final8 (c : Dev nD) : (dats m 0 c).arrAt 8 (cfgs 0).N = fun j => dwE (m ((c : Thread nD τ).loc main_arg0)) (m ((c : Thread nD τ).loc main_arg1)) (m ((c : Thread nD τ).loc main_arg2)) (m ((c : Thread nD τ).loc main_arg3)) (m ((c : Thread nD τ).loc main_arg4)) (j 0) (j 1) := by
  refine (dats m 0 c).arrAt_eq_of_covers 8 _ (by decide +kernel) fun t hf y => ?_
  blk_simp
  rw [after0_8]
  exact point8 m c t y _ (by blk_simp [idx t]) (by blk_simp [idx t])

theorem point9 (c : Dev nD) (t : Fin cfg0.N) (h : t.val = 14) (y : S2880x1536.Idx) (j : S2880x1536.Idx) (h0 : (j 0).val = (y 0).val) (h1 : (j 1).val = (y 1).val) :
    (outsAt0 m c t.val t.isLt).2.2.1 y = dhE (m ((c : Thread nD τ).loc main_arg0)) (m ((c : Thread nD τ).loc main_arg1)) (m ((c : Thread nD τ).loc main_arg5)) (m ((c : Thread nD τ).loc main_arg6)) (j 0) (j 1) := by
  idx_vars y
  idx_vars j
  obtain rfl : j0 = y0 := Fin.ext h0
  obtain rfl : j1 = y1 := Fin.ext h1
  exact dh_out m c t h _ _

theorem final9 (c : Dev nD) : (dats m 0 c).arrAt 9 (cfgs 0).N = fun j => dhE (m ((c : Thread nD τ).loc main_arg0)) (m ((c : Thread nD τ).loc main_arg1)) (m ((c : Thread nD τ).loc main_arg5)) (m ((c : Thread nD τ).loc main_arg6)) (j 0) (j 1) := by
  refine (dats m 0 c).arrAt_eq_of_covers 9 _ (by decide +kernel) fun t hf y => ?_
  blk_simp
  rw [after0_9]
  exact point9 m c t ((by have := (flush0_9 t).mp hf; have := t.isLt; have : cfg0.N = 15 := N_0; omega)) y _ (by blk_simp [idx t]) (by blk_simp [idx t])

end Cert.MlpIdeal.Hand
-- ==== Proof.Mlp.Ref.lean ====
module

public import proofs.«01_k».proof.Proof.Gen.MlpRefIdeal.Value
public import proofs.«01_k».proof.Proof.Mlp.Close
public import Idealize.ShloMosaic.Lib.Pipeline.ValueKit
public import Idealize.ShloMosaic.Lib.Pipeline.ReadBack
public import Idealize.ShloMosaic.Lib.Pointwise

@[expose] public section

set_option maxRecDepth 16384
noncomputable section
open Idealize.ShloMosaic Idealize.ShloMosaic.TcCoe Idealize.SL.Sem
namespace Cert.MlpRefIdeal.Hand
open Cert.MlpRefIdeal Cert.MlpRefIdeal.Gen
open Cert.MlpIdeal.Hand (codesE dwE dhE code lhsM dhT)

/-- The two groupings of a term's four factors. -/
theorem term_eq (a b c d : EReal) : a * b * (d * c) = a * (b * c) * d := by ac_rfl

theorem ref7 (a0 : FVec Ideal S1536x7680 .f32) (a1 : FVec Ideal S6x256 .f32) (a2 : FVec Ideal S6x256x2880 .fp8e4m3) (a3 : FVec Ideal S6x256 .f32) (a4 : FVec Ideal S2880 .f32) (a5 : FVec Ideal S2880x7680 .fp8e4m3) (a6 : FVec Ideal S7680 .f32) (s : Fin 1536) (g : Fin 7680) :
    Cert.MlpRefIdeal.Value.G7 (F := Ideal) a0 a1 a2 a3 a4 a5 a6 (ix2 s g) = codesE a0 a1 s g := by
  rw [← Cert.MlpRefIdeal.Value.out7_eq]
  frame_out
  pointwise [k0_pay3, k0_pay2, codesE, code]
theorem ref8 (a0 : FVec Ideal S1536x7680 .f32) (a1 : FVec Ideal S6x256 .f32) (a2 : FVec Ideal S6x256x2880 .fp8e4m3) (a3 : FVec Ideal S6x256 .f32) (a4 : FVec Ideal S2880 .f32) (a5 : FVec Ideal S2880x7680 .fp8e4m3) (a6 : FVec Ideal S7680 .f32) (s : Fin 2880) (g : Fin 7680) :
    Cert.MlpRefIdeal.Value.G8 (F := Ideal) a0 a1 a2 a3 a4 a5 a6 (ix2 s g) = dwE a0 a1 a2 a3 a4 s g := by
  rw [← Cert.MlpRefIdeal.Value.out8_eq]
  frame_out
  pointwise [k0_pay5, k0_pay2, k0_pay3]
  show _ = (∑ x, lhsM a1 a2 a3 s x * codesE a0 a1 x g) * a4 (ix1 s)
  rw [mul_comm]
  refine congrArg (fun z : EReal => z * a4 (ix1 s)) (Finset.sum_congr rfl fun x _ => ?_)
  unfold lhsM codesE code
  exact term_eq _ _ _ _
theorem ref9 (a0 : FVec Ideal S1536x7680 .f32) (a1 : FVec Ideal S6x256 .f32) (a2 : FVec Ideal S6x256x2880 .fp8e4m3) (a3 : FVec Ideal S6x256 .f32) (a4 : FVec Ideal S2880 .f32) (a5 : FVec Ideal S2880x7680 .fp8e4m3) (a6 : FVec Ideal S7680 .f32) (s : Fin 2880) (g : Fin 1536) :
    Cert.MlpRefIdeal.Value.G9 (F := Ideal) a0 a1 a2 a3 a4 a5 a6 (ix2 s g) = dhE a0 a1 a5 a6 s g := by
  rw [← Cert.MlpRefIdeal.Value.out9_eq]
  frame_out
  pointwise [k0_pay1, k0_pay2, k0_pay3, k0_pay4]
  rfl
end Cert.MlpRefIdeal.Hand
-- ==== Proof.Mlp.Claim.lean ====
module

public import proofs.«01_k».proof.Defs
public import proofs.«01_k».proof.Proof.Mlp.Final
public import proofs.«01_k».proof.Proof.Mlp.Ref
public import Idealize.ShloMosaic.Lib.Claim

@[expose] public section

noncomputable section
open Idealize.ShloMosaic Idealize.ShloMosaic.TcCoe Idealize.SL.Sem
namespace Cert.MlpIdeal.Hand

/-- Kernel and reference end with the same three arrays. -/
theorem algebraic : Cert.algebraic_MlpIdeal_MlpRefIdeal (hMlpIdeal := Cert.MlpIdeal.Gen.facts) (hMlpRefIdeal := Cert.MlpRefIdeal.Gen.facts) := by
  intro m g m' g' _ hag
  refine ⟨_, _, _, (θ_run _ _ _).mono (fun r h c => h c) (Cert.MlpIdeal.Value.run_blocks m g), (θ_run _ _ _).mono (fun r h c => ?_) (Cert.MlpRefIdeal.Value.run m' g')⟩
  obtain ⟨h7, h8, h9, hk⟩ := h c
  obtain ⟨e0, e1, e2, e3, e4, e5, e6⟩ := hag c
  refine ⟨h7.trans ?_, h8.trans ?_, h9.trans ?_, hk⟩
  · rw [e0, e1, e2, e3, e4, e5, e6]
    refine Eq.trans ?_ (final7 m c).symm
    funext j
    idx_vars j
    exact Cert.MlpRefIdeal.Hand.ref7 _ _ _ _ _ _ _ j0 j1
  · rw [e0, e1, e2, e3, e4, e5, e6]
    refine Eq.trans ?_ (final8 m c).symm
    funext j
    idx_vars j
    exact Cert.MlpRefIdeal.Hand.ref8 _ _ _ _ _ _ _ j0 j1
  · rw [e0, e1, e2, e3, e4, e5, e6]
    refine Eq.trans ?_ (final9 m c).symm
    funext j
    idx_vars j
    exact Cert.MlpRefIdeal.Hand.ref9 _ _ _ _ _ _ _ j0 j1

end Cert.MlpIdeal.Hand
-- ==== Proof.Attn.Runs.lean ====
/- What the runs of the attention call share: the frame from a run that forgets some windows, the condition in
   closed form, the staging and scratch buffers by name. -/
module

public import proofs.«01_k».proof.Proof.Gen.Attn.Frame
public import proofs.«01_k».proof.Proof.Gen.Attn.Skeleton
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Attn.Hand

open Cert.Attn Cert.Attn.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Attn`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((hA c 1).trans (V_main_arg1 m c)),
      ((h c).2 main_arg2 (Pipeline.mem_restRefs_of main_arg2 (by decide) (by decide))).trans (V_main_arg2 m c),
      (Pipeline.RDat.FramePost.arr_in h c 5 rfl).trans ((hA c 5).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 17 = 0 :=
  (fun t => by
    have ht : t.val < 17 := Nat.lt_of_lt_of_eq t.isLt N_0
    have e0 : (grid0.coords t 0).val = t.val / 1 % 17 := Pipeline.Grid.coords_val t 0 (by decide) rfl
    simp only [cond0_0, e0]
    word_cmp
   : ∀ t : Fin grid0.N, cond0_0 (grid0.coords t) ↔ t.val % 17 = 0)

/-! ## The kernel body on any staging memrefs: a subtype the run finds -/

/-- Each window's current staging memref at point `t`, spelled as the pipeline passes it (`bodyAt0`), and its wholeness. -/
abbrev ms0_0 (t : Fin cfg0.N) : Memref sig .tc .vmem S6x512x256 .fp8e5m2 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S6x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x2880 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S6x2880x256 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S6x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2880 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x2880 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2880x1536 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S2880x1536 .fp8e4m3 := Memref.whole cc0_scratch0
abbrev scM0_1 : Memref sig .tc .vmem S2880x512 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Attn.Hand

end
-- ==== Proof.Attn.RunA.lean ====
/- The whole-body run of the attention call in case A. -/
module

public import proofs.«01_k».proof.Proof.Attn.Runs

@[expose] public section

-- membership in a rectangle of production extents (`View.cover_of_tiled`): the elaborator's structural look
-- recurses once per coordinate of the long axes
set_option maxRecDepth 16384

noncomputable section

namespace Cert.Attn.Hand

open Cert.Attn Cert.Attn.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE A (`scf.if` 0 taken: points 0): on whole staging memrefs — the inputs' at their contents,
    the FORGOTTEN outputs' (7, 8) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S6x512x256 .fp8e5m2) (harg1 : arg1.IsWhole) (arg2 : Memref sig .tc .vmem S6x256 .f32) (harg2 : arg2.IsWhole) (arg3 : Memref sig .tc .vmem S512x2880 .fp8e4m3) (harg3 : arg3.IsWhole) (arg4 : Memref sig .tc .vmem S1x512 .f32) (harg4 : arg4.IsWhole) (arg5 : Memref sig .tc .vmem S6x2880x256 .fp8e4m3) (harg5 : arg5.IsWhole) (arg6 : Memref sig .tc .vmem S6x256 .f32) (harg6 : arg6.IsWhole) (arg7 : Memref sig .tc .vmem S1x2880 .f32) (harg7 : arg7.IsWhole) (arg8 : Memref sig .tc .vmem S512x2880 .bf16) (harg8 : arg8.IsWhole) (arg9 : Memref sig .tc .vmem S2880x1536 .f32) (harg9 : arg9.IsWhole) (arg10 : Memref sig .tc .vmem S2880x1536 .fp8e4m3) (harg10 : arg10.IsWhole) (arg11 : Memref sig .tc .vmem S2880x512 .bf16) (harg11 : arg11.IsWhole) (hc0 : cond0_0 i)
    (x0 : Vec F S6x512x256 .fp8e5m2) (x1 : Vec F S6x256 .f32) (x2 : Vec F S512x2880 .fp8e4m3) (x3 : Vec F S1x512 .f32) (x4 : Vec F S6x2880x256 .fp8e4m3) (x5 : Vec F S6x256 .f32) (x6 : Vec F S1x2880 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_attn_grads i arg1 harg1 arg2 harg2 arg3 harg3 arg4 harg4 arg5 harg5 arg6 harg6 arg7 harg7 arg8 harg8 arg9 harg9 arg10 harg10 arg11 harg11) K := by
    intro E K
    simp only [cc0_attn_grads_eq_skeleton]; unfold cc0_attn_grads_skel
    simp only [k0_part2_eq_skeleton, k0_part1_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [H8]
    · iexists _, _; isplitr; swap; · iexact H8
      ipureintro; rfl
    isplitl [HS0]
    · iexists _, _; isplitr; swap; · iexact HS0
      ipureintro; rfl
    iexists _, _; isplitr; swap; · iexact HS1
    ipureintro; rfl

end Cert.Attn.Hand

end
-- ==== Proof.Attn.RunB.lean ====
/- The whole-body run of the attention call in case B. -/
module

public import proofs.«01_k».proof.Proof.Attn.RunA

@[expose] public section

-- membership in a rectangle of production extents (`View.cover_of_tiled`): the elaborator's structural look
-- recurses once per coordinate of the long axes
set_option maxRecDepth 16384

noncomputable section

namespace Cert.Attn.Hand

open Cert.Attn Cert.Attn.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE B (`scf.if` 0 not taken: points 1, 2, … 16: 16 of 17): on whole staging memrefs — the inputs' at their contents,
    the FORGOTTEN outputs' (7, 8) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S6x512x256 .fp8e5m2) (harg1 : arg1.IsWhole) (arg2 : Memref sig .tc .vmem S6x256 .f32) (harg2 : arg2.IsWhole) (arg3 : Memref sig .tc .vmem S512x2880 .fp8e4m3) (harg3 : arg3.IsWhole) (arg4 : Memref sig .tc .vmem S1x512 .f32) (harg4 : arg4.IsWhole) (arg5 : Memref sig .tc .vmem S6x2880x256 .fp8e4m3) (harg5 : arg5.IsWhole) (arg6 : Memref sig .tc .vmem S6x256 .f32) (harg6 : arg6.IsWhole) (arg7 : Memref sig .tc .vmem S1x2880 .f32) (harg7 : arg7.IsWhole) (arg8 : Memref sig .tc .vmem S512x2880 .bf16) (harg8 : arg8.IsWhole) (arg9 : Memref sig .tc .vmem S2880x1536 .f32) (harg9 : arg9.IsWhole) (arg10 : Memref sig .tc .vmem S2880x1536 .fp8e4m3) (harg10 : arg10.IsWhole) (arg11 : Memref sig .tc .vmem S2880x512 .bf16) (harg11 : arg11.IsWhole) (hc0 : ¬cond0_0 i)
    (x0 : Vec F S6x512x256 .fp8e5m2) (x1 : Vec F S6x256 .f32) (x2 : Vec F S512x2880 .fp8e4m3) (x3 : Vec F S1x512 .f32) (x4 : Vec F S6x2880x256 .fp8e4m3) (x5 : Vec F S6x256 .f32) (x6 : Vec F S1x2880 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_attn_grads i arg1 harg1 arg2 harg2 arg3 harg3 arg4 harg4 arg5 harg5 arg6 harg6 arg7 harg7 arg8 harg8 arg9 harg9 arg10 harg10 arg11 harg11) K := by
    intro E K
    simp only [cc0_attn_grads_eq_skeleton]; unfold cc0_attn_grads_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [H8]
    · iexists _, _; isplitr; swap; · iexact H8
      ipureintro; rfl
    isplitl [HS0]
    · iexists _, _; isplitr; swap; · iexact HS0
      ipureintro; rfl
    iexists _, _; isplitr; swap; · iexact HS1
    ipureintro; rfl

end Cert.Attn.Hand

end
-- ==== Proof.Attn.Frame.lean ====
/- The frame of the attention call. The contents of the outputs, and of the staging buffers of the three inputs
   whose last block overhangs its array, are stated nowhere; every argument array ends as it began. -/
module

public import proofs.«01_k».proof.Proof.Attn.RunB
public import Idealize.ShloMosaic.Lib.Claim

@[expose] public section

-- membership in a rectangle of production extents (`View.cover_of_tiled`): the elaborator's structural look
-- recurses once per coordinate of the long axes
set_option maxRecDepth 16384

noncomputable section

namespace Cert.Attn.Hand

open Cert.Attn Cert.Attn.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (7, 8): nothing reads what the kernel leaves in them, so nothing
    of it is named (Lib/Pipeline/Dat.lean `Dat.toRForget`). -/
def forgets0 : Fin 9 → Bool := fun w => w.val == 0 || w.val == 2 || w.val == 3 || w.val == 7 || w.val == 8

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, h⟩ => Pipeline.Dat.unnamed (cfg := cfg0) ⟨0, h⟩ t
    | ⟨1, _⟩ => iblk m c 1 t
    | ⟨2, h⟩ => Pipeline.Dat.unnamed (cfg := cfg0) ⟨2, h⟩ t
    | ⟨3, h⟩ => Pipeline.Dat.unnamed (cfg := cfg0) ⟨3, h⟩ t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_1 (c : Dev nD) (t : Fin cfg0.N) : (dats m 0 c).after 1 t = iblk m c 1 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-- Each input's current staging buffer holds its block at every point, fetched there or not (`beforeK_W_of`). -/
theorem before0_1 (c : Dev nD) (t : Fin cfg0.N) (d) : (dats m 0 c).before 1 t d = iblk m c 1 t :=
  before0_1_of m (dats m 0 c) (A_eq m c 1) (after0_1 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare d)
    ∗ (∃ d, owns (c : Thread nD τ) (ms0_1 t) fullShare ((dats m 0 c).before 1 t d))
    ∗ (∃ d, owns (c : Thread nD τ) (ms0_2 t) fullShare d)
    ∗ (∃ d, owns (c : Thread nD τ) (ms0_3 t) fullShare d)
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d))

/-- and what it returns. -/
def bodyPost (c : Dev nD) (t : Fin cfg0.N) : sProp 𝕄 :=
  iprop((dats m 0 c).Φ t.succ ∗ (dats m 0 c).owesAt () t.succ
    ∗ (∃ d, owns (c : Thread nD τ) (ms0_0 t) fullShare d)
    ∗ owns (c : Thread nD τ) (ms0_1 t) fullShare ((dats m 0 c).after 1 t)
    ∗ (∃ d, owns (c : Thread nD τ) (ms0_2 t) fullShare d)
    ∗ (∃ d, owns (c : Thread nD τ) (ms0_3 t) fullShare d)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare d)
    ∗ (∃ d, owns (c : Thread nD τ) (ms0_8 t) fullShare d))

set_option maxHeartbeats 1600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_1, before0_4, before0_5, before0_6]
  rw [show (dats m 0 c).Φ t.succ = (dats m 0 c).Φ t.castSucc from rfl,
    show (dats m 0 c).owesAt () t.succ = (dats m 0 c).owesAt () t.castSucc from rfl,
    after0_1, after0_4, after0_5, after0_6]
  rw [show (dats m 0 c).Φ t.castSucc = Pipeline.ΦA spec0 c from rfl, PhiA0_eq]
  have hN : t.val < 17 := lt_of_lt_of_eq t.isLt (show cfg0.N = 17 from N_0)
  by_cases h0 : t.val % 17 = 0
  · iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_A c (grid0.coords t) _ _ _ _ _ _ _ _ _ _ _ _ _ _ _ _ _ _ _ _ _ _ ((hcond0_0 t).mpr h0) (d0) (iblk m c 1 t) (d2) (d3) (iblk m c 4 t) (iblk m c 5 t) (iblk m c 6 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS0]; · iexact HS0
    isplitl [HS1]; · iexact HS1
    iintro ⟨H0, H1, H2, H3, H4, H5, H6, H7, H8, HS0, HS1⟩
    isplitl [HS0 HS1 Hg]
    · isplitl [HS0 HS1]
      · isplitl [HS0]
        · iexact HS0
        iexact HS1
      iexact Hg
    isplitl [Ho]; · iexact Ho
    isplitl [H0]; · iexists _; iexact H0
    isplitl [H1]; · iexact H1
    isplitl [H2]; · iexists _; iexact H2
    isplitl [H3]; · iexists _; iexact H3
    isplitl [H4]; · iexact H4
    isplitl [H5]; · iexact H5
    isplitl [H6]; · iexact H6
    isplitl [H7]; · iexact H7
    iexact H8
  · iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_B c (grid0.coords t) _ _ _ _ _ _ _ _ _ _ _ _ _ _ _ _ _ _ _ _ _ _ (fun h => h0 ((hcond0_0 t).mp h)) (d0) (iblk m c 1 t) (d2) (d3) (iblk m c 4 t) (iblk m c 5 t) (iblk m c 6 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS0]; · iexact HS0
    isplitl [HS1]; · iexact HS1
    iintro ⟨H0, H1, H2, H3, H4, H5, H6, H7, H8, HS0, HS1⟩
    isplitl [HS0 HS1 Hg]
    · isplitl [HS0 HS1]
      · isplitl [HS0]
        · iexact HS0
        iexact HS1
      iexact Hg
    isplitl [Ho]; · iexact Ho
    isplitl [H0]; · iexists _; iexact H0
    isplitl [H1]; · iexact H1
    isplitl [H2]; · iexists _; iexact H2
    isplitl [H3]; · iexists _; iexact H3
    isplitl [H4]; · iexact H4
    isplitl [H5]; · iexact H5
    isplitl [H6]; · iexact H6
    isplitl [H7]; · iexact H7
    iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 7, 8) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (fun c => (dats m 0 c).toRForget forgets0) (A_eq m) (run_main m ρ)

/-- THE FRAME: `Cert.quiescent_Attn`'s statement (Defs.lean) at any `F` — Proof.lean cites it at `Bits`:
    `theorem Cert.Proof.claim : Cert.Claim := ⟨Cert.Attn.Gen.facts, fun m ρ _ => Cert.Attn.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Attn.Hand

end
-- ==== Proof.AttnIdeal.Runs.lean ====
/- What the runs of the attention call share: the condition in closed form, the staging and scratch buffers by
   name, and what the buffers of the clipped inputs hold. -/
module

public import proofs.«01_k».proof.Proof.Gen.AttnIdeal.Frame
public import proofs.«01_k».proof.Proof.Gen.AttnIdeal.Skeleton
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.AttnIdeal.Hand

open Cert.AttnIdeal Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 17 = 0 :=
  (fun t => by
    have ht : t.val < 17 := Nat.lt_of_lt_of_eq t.isLt N_0
    have e0 : (grid0.coords t 0).val = t.val / 1 % 17 := Pipeline.Grid.coords_val t 0 (by decide) rfl
    simp only [cond0_0, e0]
    word_cmp
   : ∀ t : Fin grid0.N, cond0_0 (grid0.coords t) ↔ t.val % 17 = 0)

/-! ## The kernel body on any staging memrefs: a subtype the run finds -/

/-- One staging buffer of output window 7, through which its contents are stated (`View.read_writes_of_cover`: the
    choice does not matter). -/
abbrev VO0_7 : View sig .tc .vmem S512x2880 .bf16 := (Memref.whole cc0_stg7_0 : Memref sig .tc .vmem S512x2880 .bf16).view
/-- One staging buffer of output window 8, through which its contents are stated (`View.read_writes_of_cover`: the
    choice does not matter). -/
abbrev VO0_8 : View sig .tc .vmem S2880x1536 .f32 := (Memref.whole cc0_stg8_0 : Memref sig .tc .vmem S2880x1536 .f32).view
/-- Each window's current staging memref at point `t`, spelled as the pipeline passes it (`bodyAt0`), and its wholeness. -/
abbrev ms0_0 (t : Fin cfg0.N) : Memref sig .tc .vmem S6x512x256 .fp8e5m2 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S6x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x2880 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S6x2880x256 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S6x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2880 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x2880 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2880x1536 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S2880x1536 .fp8e4m3 := Memref.whole cc0_scratch0
abbrev scM0_1 : Memref sig .tc .vmem S2880x512 .bf16 := Memref.whole cc0_scratch1
/-- The scratch `arg10` the kernel carries between points, as a view: what it holds is stated through it. -/
abbrev VS0_0 : View sig .tc .vmem S2880x1536 .fp8e4m3 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## The inputs whose last block overhangs its array -/

/-- What such a staging buffer holds at a point if what lies past the array's end is `d`. -/
def XD0_0 (c : Dev nD) (t : Fin cfg0.N) (d : Vec F S6x512x256 .fp8e5m2) : Vec F S6x512x256 .fp8e5m2 :=
  win0_0.fill (grid0.coords t) d (iblk m c 0 t)
def XD0_2 (c : Dev nD) (t : Fin cfg0.N) (d : Vec F S512x2880 .fp8e4m3) : Vec F S512x2880 .fp8e4m3 :=
  win0_2.fill (grid0.coords t) d (iblk m c 2 t)
def XD0_3 (c : Dev nD) (t : Fin cfg0.N) (d : Vec F S1x512 .f32) : Vec F S1x512 .f32 :=
  win0_3.fill (grid0.coords t) d (iblk m c 3 t)
/-- The same with zeros past the end: the contents the proof names. -/
def X0_0 (c : Dev nD) (t : Fin cfg0.N) : Vec F S6x512x256 .fp8e5m2 := XD0_0 m c t (fun _ => Scalar.ofBits .fp8e5m2 0#8)
def X0_2 (c : Dev nD) (t : Fin cfg0.N) : Vec F S512x2880 .fp8e4m3 := XD0_2 m c t (fun _ => Scalar.ofBits .fp8e4m3 0#8)
def X0_3 (c : Dev nD) (t : Fin cfg0.N) : Vec F S1x512 .f32 := XD0_3 m c t (fun _ => Scalar.ofBits .f32 0#32)

theorem before0_0_of {c : Dev nD} (dat : Dat τ (Elt F) Unit ℕ (UR sig nD τ) ℕ cfg0 c) (hA : dat.A 0 = V m c (Pipeline.arrRef spec0 0))
    (t : Fin cfg0.N) (d) : dat.before 0 t d = XD0_0 m c t d := by
  unfold Dat.before; rw [if_pos ((by decide +kernel : ∀ t : Fin grid0.N, win0_0.fetch t = true) t)]
  unfold Dat.fetched Dat.blockOf XD0_0 iblk; rw [hA]
theorem before0_2_of {c : Dev nD} (dat : Dat τ (Elt F) Unit ℕ (UR sig nD τ) ℕ cfg0 c) (hA : dat.A 2 = V m c (Pipeline.arrRef spec0 2))
    (t : Fin cfg0.N) (d) : dat.before 2 t d = XD0_2 m c t d := by
  unfold Dat.before; rw [if_pos ((by decide +kernel : ∀ t : Fin grid0.N, win0_2.fetch t = true) t)]
  unfold Dat.fetched Dat.blockOf XD0_2 iblk; rw [hA]
theorem before0_3_of {c : Dev nD} (dat : Dat τ (Elt F) Unit ℕ (UR sig nD τ) ℕ cfg0 c) (hA : dat.A 3 = V m c (Pipeline.arrRef spec0 3))
    (t : Fin cfg0.N) (d) : dat.before 3 t d = XD0_3 m c t d := by
  unfold Dat.before; rw [if_pos ((by decide +kernel : ∀ t : Fin grid0.N, win0_3.fetch t = true) t)]
  unfold Dat.fetched Dat.blockOf XD0_3 iblk; rw [hA]

end Cert.AttnIdeal.Hand

end
-- ==== Proof.AttnIdeal.RunA.lean ====
/- The whole-body run of the attention call in case A, with what it stores. -/
module

public import proofs.«01_k».proof.Proof.AttnIdeal.Runs

@[expose] public section

-- membership in a rectangle of production extents (`View.cover_of_tiled`): the elaborator's structural look
-- recurses once per coordinate of the long axes
set_option maxRecDepth 16384

noncomputable section

namespace Cert.AttnIdeal.Hand

open Cert.AttnIdeal Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S6x512x256 .fp8e5m2) (harg1 : arg1.IsWhole) (arg2 : Memref sig .tc .vmem S6x256 .f32) (harg2 : arg2.IsWhole) (arg3 : Memref sig .tc .vmem S512x2880 .fp8e4m3) (harg3 : arg3.IsWhole) (arg4 : Memref sig .tc .vmem S1x512 .f32) (harg4 : arg4.IsWhole) (arg5 : Memref sig .tc .vmem S6x2880x256 .fp8e4m3) (harg5 : arg5.IsWhole) (arg6 : Memref sig .tc .vmem S6x256 .f32) (harg6 : arg6.IsWhole) (arg7 : Memref sig .tc .vmem S1x2880 .f32) (harg7 : arg7.IsWhole) (arg8 : Memref sig .tc .vmem S512x2880 .bf16) (harg8 : arg8.IsWhole) (arg9 : Memref sig .tc .vmem S2880x1536 .f32) (harg9 : arg9.IsWhole) (arg10 : Memref sig .tc .vmem S2880x1536 .fp8e4m3) (harg10 : arg10.IsWhole) (arg11 : Memref sig .tc .vmem S2880x512 .bf16) (harg11 : arg11.IsWhole) (hc0 : cond0_0 i)
    (x0 : Vec F S6x512x256 .fp8e5m2) (x1 : Vec F S6x256 .f32) (x2 : Vec F S512x2880 .fp8e4m3) (x3 : Vec F S1x512 .f32) (x4 : Vec F S6x2880x256 .fp8e4m3) (x5 : Vec F S6x256 .f32) (x6 : Vec F S1x2880 .f32) :
    Σ' (L7 : List (View.Piece (Elt F) S512x2880 .bf16)), Σ' (L8 : List (View.Piece (Elt F) S2880x1536 .f32)), Σ' (LS0 : List (View.Piece (Elt F) S2880x1536 .fp8e4m3)), { LT1 : List (View.Piece (Elt F) S2880x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LT1)) -∗ K ⟨⟩))
          ⊢ wp frame (wpE (defs₀ (F := F)) Variants.none c none) E (cc0_attn_grads i arg1 harg1 arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0_attn_grads_eq_skeleton]; unfold cc0_attn_grads_skel
    simp only [k0_part2_eq_skeleton, k0_part1_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [HS0]; · iexists _; iexact HS0
    iexists _; iexact HS1

end Cert.AttnIdeal.Hand

end
-- ==== Proof.AttnIdeal.RunB.lean ====
/- The whole-body run of the attention call in case B, with what it stores. -/
module

public import proofs.«01_k».proof.Proof.AttnIdeal.RunA

@[expose] public section

-- membership in a rectangle of production extents (`View.cover_of_tiled`): the elaborator's structural look
-- recurses once per coordinate of the long axes
set_option maxRecDepth 16384

noncomputable section

namespace Cert.AttnIdeal.Hand

open Cert.AttnIdeal Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, … 16: 16 of 17), WITH the
    proof that on whole staging memrefs — the inputs' at their contents, the outputs it reads before covering (8) at their running contents `xo·`, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S6x512x256 .fp8e5m2) (harg1 : arg1.IsWhole) (arg2 : Memref sig .tc .vmem S6x256 .f32) (harg2 : arg2.IsWhole) (arg3 : Memref sig .tc .vmem S512x2880 .fp8e4m3) (harg3 : arg3.IsWhole) (arg4 : Memref sig .tc .vmem S1x512 .f32) (harg4 : arg4.IsWhole) (arg5 : Memref sig .tc .vmem S6x2880x256 .fp8e4m3) (harg5 : arg5.IsWhole) (arg6 : Memref sig .tc .vmem S6x256 .f32) (harg6 : arg6.IsWhole) (arg7 : Memref sig .tc .vmem S1x2880 .f32) (harg7 : arg7.IsWhole) (arg8 : Memref sig .tc .vmem S512x2880 .bf16) (harg8 : arg8.IsWhole) (arg9 : Memref sig .tc .vmem S2880x1536 .f32) (harg9 : arg9.IsWhole) (arg10 : Memref sig .tc .vmem S2880x1536 .fp8e4m3) (harg10 : arg10.IsWhole) (arg11 : Memref sig .tc .vmem S2880x512 .bf16) (harg11 : arg11.IsWhole) (hc0 : ¬cond0_0 i)
    (x0 : Vec F S6x512x256 .fp8e5m2) (x1 : Vec F S6x256 .f32) (x2 : Vec F S512x2880 .fp8e4m3) (x3 : Vec F S1x512 .f32) (x4 : Vec F S6x2880x256 .fp8e4m3) (x5 : Vec F S6x256 .f32) (x6 : Vec F S1x2880 .f32) (xo8 : Vec F S2880x1536 .f32) (xs0 : Vec F S2880x1536 .fp8e4m3) :
    Σ' (L7 : List (View.Piece (Elt F) S512x2880 .bf16)), Σ' (L8 : List (View.Piece (Elt F) S2880x1536 .f32)), Σ' (LS0 : List (View.Piece (Elt F) S2880x1536 .fp8e4m3)), { LT1 : List (View.Piece (Elt F) S2880x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xo8 ∗ owns (c : Thread nD τ) arg10 fullShare xs0 ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ owns (c : Thread nD τ) arg10 fullShare xs0 ∗ (∃ f, arg11.view.loc (c : Thread nD τ) ↦[arg11.view.set]{fullShare} arg11.view.writes (Elt F) f LT1)) -∗ K ⟨⟩))
          ⊢ wp frame (wpE (defs₀ (F := F)) Variants.none c none) E (cc0_attn_grads i arg1 harg1 arg2 harg2 arg3 harg3 arg4 harg4 arg5 harg5 arg6 harg6 arg7 harg7 arg8 harg8 arg9 harg9 arg10 harg10 arg11 harg11) K } := by
  refine ⟨?_, ?_, [], ?_, fun E K => ?run⟩
  case run =>
    simp only [cc0_attn_grads_eq_skeleton]; unfold cc0_attn_grads_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [HS0]
    · iexists _; isplitr; · ipureintro; exact harg10.read_unread _
      iexact HS0
    iexists _; iexact HS1

end Cert.AttnIdeal.Hand

end
-- ==== Proof.AttnIdeal.Outs.lean ====
/- What each case of the attention call leaves in the outputs and in the scratch it carries, and what they hold after
   each point. -/
module

public import proofs.«01_k».proof.Proof.AttnIdeal.RunB
public import Idealize.ShloMosaic.Lib.Claim
public import Idealize.ShloMosaic.Lib.Pipeline.ValueKit
public import Idealize.ShloMosaic.Lib.Pipeline.ReadBack
public import Idealize.ShloMosaic.Lib.Pointwise

@[expose] public section

-- membership in a rectangle of production extents (`View.cover_of_tiled`): the elaborator's structural look
-- recurses once per coordinate of the long axes
set_option maxRecDepth 16384

noncomputable section

namespace Cert.AttnIdeal.Hand

open Cert.AttnIdeal Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)
/-- Case A's pieces for output 7 tile its block (1 store of `S512x2880`, checked by the kernel's evaluation: Lib/Ring.lean `Piece.tiledL`, linear in the pieces, through a loop's `@[irreducible]` trip theorem too), so they cover it. -/
theorem cover0_A_7 (c : Dev nD) (i : grid0.Coords) (arg1 : Memref sig .tc .vmem S6x512x256 .fp8e5m2) (harg1 : arg1.IsWhole) (arg2 : Memref sig .tc .vmem S6x256 .f32) (harg2 : arg2.IsWhole) (arg3 : Memref sig .tc .vmem S512x2880 .fp8e4m3) (harg3 : arg3.IsWhole) (arg4 : Memref sig .tc .vmem S1x512 .f32) (harg4 : arg4.IsWhole) (arg5 : Memref sig .tc .vmem S6x2880x256 .fp8e4m3) (harg5 : arg5.IsWhole) (arg6 : Memref sig .tc .vmem S6x256 .f32) (harg6 : arg6.IsWhole) (arg7 : Memref sig .tc .vmem S1x2880 .f32) (harg7 : arg7.IsWhole) (arg8 : Memref sig .tc .vmem S512x2880 .bf16) (harg8 : arg8.IsWhole) (arg9 : Memref sig .tc .vmem S2880x1536 .f32) (harg9 : arg9.IsWhole) (arg10 : Memref sig .tc .vmem S2880x1536 .fp8e4m3) (harg10 : arg10.IsWhole) (arg11 : Memref sig .tc .vmem S2880x512 .bf16) (harg11 : arg11.IsWhole) (hc0 : cond0_0 i)
    (x0 : Vec Ideal S6x512x256 .fp8e5m2) (x1 : Vec Ideal S6x256 .f32) (x2 : Vec Ideal S512x2880 .fp8e4m3) (x3 : Vec Ideal S1x512 .f32) (x4 : Vec Ideal S6x2880x256 .fp8e4m3) (x5 : Vec Ideal S6x256 .f32) (x6 : Vec Ideal S1x2880 .f32) (y : S512x2880.Idx) :
    ∃ pc ∈ (kernelRun0_A c i arg1 harg1 arg2 harg2 arg3 harg3 arg4 harg4 arg5 harg5 arg6 harg6 arg7 harg7 arg8 harg8 arg9 harg9 arg10 harg10 arg11 harg11 hc0 x0 x1 x2 x3 x4 x5 x6).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 x0 x1 x2 x3 x4 x5 x6).1 S512x2880.size (by sl_kernel_rfl) y

/-- What case A leaves in output 7's staging buffer: its pieces read back over junk. -/
def out0_A_7 (c : Dev nD) (i : grid0.Coords) (arg1 : Memref sig .tc .vmem S6x512x256 .fp8e5m2) (harg1 : arg1.IsWhole) (arg2 : Memref sig .tc .vmem S6x256 .f32) (harg2 : arg2.IsWhole) (arg3 : Memref sig .tc .vmem S512x2880 .fp8e4m3) (harg3 : arg3.IsWhole) (arg4 : Memref sig .tc .vmem S1x512 .f32) (harg4 : arg4.IsWhole) (arg5 : Memref sig .tc .vmem S6x2880x256 .fp8e4m3) (harg5 : arg5.IsWhole) (arg6 : Memref sig .tc .vmem S6x256 .f32) (harg6 : arg6.IsWhole) (arg7 : Memref sig .tc .vmem S1x2880 .f32) (harg7 : arg7.IsWhole) (arg8 : Memref sig .tc .vmem S512x2880 .bf16) (harg8 : arg8.IsWhole) (arg9 : Memref sig .tc .vmem S2880x1536 .f32) (harg9 : arg9.IsWhole) (arg10 : Memref sig .tc .vmem S2880x1536 .fp8e4m3) (harg10 : arg10.IsWhole) (arg11 : Memref sig .tc .vmem S2880x512 .bf16) (harg11 : arg11.IsWhole) (hc0 : cond0_0 i)
    (x0 : Vec Ideal S6x512x256 .fp8e5m2) (x1 : Vec Ideal S6x256 .f32) (x2 : Vec Ideal S512x2880 .fp8e4m3) (x3 : Vec Ideal S1x512 .f32) (x4 : Vec Ideal S6x2880x256 .fp8e4m3) (x5 : Vec Ideal S6x256 .f32) (x6 : Vec Ideal S1x2880 .f32) : Vec Ideal S512x2880 .bf16 :=
  VO0_7.read (Elt Ideal) (VO0_7.writes (Elt Ideal) VO0_7.junk (kernelRun0_A c i arg1 harg1 arg2 harg2 arg3 harg3 arg4 harg4 arg5 harg5 arg6 harg6 arg7 harg7 arg8 harg8 arg9 harg9 arg10 harg10 arg11 harg11 hc0 x0 x1 x2 x3 x4 x5 x6).1)

/-- Case A's pieces for output 8 are of SEVERAL sizes (31 stores of `S2880x1536`, `S576x256`): cut into blocks of `![576, 256]` they tile its block (checked by the kernel's evaluation: Lib/Ring.lean `Piece.tiledBy`), so they cover it. -/
theorem cover0_A_8 (c : Dev nD) (i : grid0.Coords) (arg1 : Memref sig .tc .vmem S6x512x256 .fp8e5m2) (harg1 : arg1.IsWhole) (arg2 : Memref sig .tc .vmem S6x256 .f32) (harg2 : arg2.IsWhole) (arg3 : Memref sig .tc .vmem S512x2880 .fp8e4m3) (harg3 : arg3.IsWhole) (arg4 : Memref sig .tc .vmem S1x512 .f32) (harg4 : arg4.IsWhole) (arg5 : Memref sig .tc .vmem S6x2880x256 .fp8e4m3) (harg5 : arg5.IsWhole) (arg6 : Memref sig .tc .vmem S6x256 .f32) (harg6 : arg6.IsWhole) (arg7 : Memref sig .tc .vmem S1x2880 .f32) (harg7 : arg7.IsWhole) (arg8 : Memref sig .tc .vmem S512x2880 .bf16) (harg8 : arg8.IsWhole) (arg9 : Memref sig .tc .vmem S2880x1536 .f32) (harg9 : arg9.IsWhole) (arg10 : Memref sig .tc .vmem S2880x1536 .fp8e4m3) (harg10 : arg10.IsWhole) (arg11 : Memref sig .tc .vmem S2880x512 .bf16) (harg11 : arg11.IsWhole) (hc0 : cond0_0 i)
    (x0 : Vec Ideal S6x512x256 .fp8e5m2) (x1 : Vec Ideal S6x256 .f32) (x2 : Vec Ideal S512x2880 .fp8e4m3) (x3 : Vec Ideal S1x512 .f32) (x4 : Vec Ideal S6x2880x256 .fp8e4m3) (x5 : Vec Ideal S6x256 .f32) (x6 : Vec Ideal S1x2880 .f32) (y : S2880x1536.Idx) :
    ∃ pc ∈ (kernelRun0_A c i arg1 harg1 arg2 harg2 arg3 harg3 arg4 harg4 arg5 harg5 arg6 harg6 arg7 harg7 arg8 harg8 arg9 harg9 arg10 harg10 arg11 harg11 hc0 x0 x1 x2 x3 x4 x5 x6).2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 hc0 x0 x1 x2 x3 x4 x5 x6).2.1 ![576, 256] (by sl_kernel_rfl) y

/-- What case A leaves in output 8's staging buffer: its pieces read back over junk. -/
def out0_A_8 (c : Dev nD) (i : grid0.Coords) (arg1 : Memref sig .tc .vmem S6x512x256 .fp8e5m2) (harg1 : arg1.IsWhole) (arg2 : Memref sig .tc .vmem S6x256 .f32) (harg2 : arg2.IsWhole) (arg3 : Memref sig .tc .vmem S512x2880 .fp8e4m3) (harg3 : arg3.IsWhole) (arg4 : Memref sig .tc .vmem S1x512 .f32) (harg4 : arg4.IsWhole) (arg5 : Memref sig .tc .vmem S6x2880x256 .fp8e4m3) (harg5 : arg5.IsWhole) (arg6 : Memref sig .tc .vmem S6x256 .f32) (harg6 : arg6.IsWhole) (arg7 : Memref sig .tc .vmem S1x2880 .f32) (harg7 : arg7.IsWhole) (arg8 : Memref sig .tc .vmem S512x2880 .bf16) (harg8 : arg8.IsWhole) (arg9 : Memref sig .tc .vmem S2880x1536 .f32) (harg9 : arg9.IsWhole) (arg10 : Memref sig .tc .vmem S2880x1536 .fp8e4m3) (harg10 : arg10.IsWhole) (arg11 : Memref sig .tc .vmem S2880x512 .bf16) (harg11 : arg11.IsWhole) (hc0 : cond0_0 i)
    (x0 : Vec Ideal S6x512x256 .fp8e5m2) (x1 : Vec Ideal S6x256 .f32) (x2 : Vec Ideal S512x2880 .fp8e4m3) (x3 : Vec Ideal S1x512 .f32) (x4 : Vec Ideal S6x2880x256 .fp8e4m3) (x5 : Vec Ideal S6x256 .f32) (x6 : Vec Ideal S1x2880 .f32) : Vec Ideal S2880x1536 .f32 :=
  VO0_8.read (Elt Ideal) (VO0_8.writes (Elt Ideal) VO0_8.junk (kernelRun0_A c i arg1 harg1 arg2 harg2 arg3 harg3 arg4 harg4 arg5 harg5 arg6 harg6 arg7 harg7 arg8 harg8 arg9 harg9 arg10 harg10 arg11 harg11 hc0 x0 x1 x2 x3 x4 x5 x6).2.1)

/-- Case A's pieces for scratch `arg10`, which the kernel carries between points, cover it: 6 pieces of `S2880x256` tiling it (Lib/Ring.lean `Piece.tiledL`). -/
theorem scover0_A_0 (c : Dev nD) (i : grid0.Coords) (arg1 : Memref sig .tc .vmem S6x512x256 .fp8e5m2) (harg1 : arg1.IsWhole) (arg2 : Memref sig .tc .vmem S6x256 .f32) (harg2 : arg2.IsWhole) (arg3 : Memref sig .tc .vmem S512x2880 .fp8e4m3) (harg3 : arg3.IsWhole) (arg4 : Memref sig .tc .vmem S1x512 .f32) (harg4 : arg4.IsWhole) (arg5 : Memref sig .tc .vmem S6x2880x256 .fp8e4m3) (harg5 : arg5.IsWhole) (arg6 : Memref sig .tc .vmem S6x256 .f32) (harg6 : arg6.IsWhole) (arg7 : Memref sig .tc .vmem S1x2880 .f32) (harg7 : arg7.IsWhole) (arg8 : Memref sig .tc .vmem S512x2880 .bf16) (harg8 : arg8.IsWhole) (arg9 : Memref sig .tc .vmem S2880x1536 .f32) (harg9 : arg9.IsWhole) (arg10 : Memref sig .tc .vmem S2880x1536 .fp8e4m3) (harg10 : arg10.IsWhole) (arg11 : Memref sig .tc .vmem S2880x512 .bf16) (harg11 : arg11.IsWhole) (hc0 : cond0_0 i)
    (x0 : Vec Ideal S6x512x256 .fp8e5m2) (x1 : Vec Ideal S6x256 .f32) (x2 : Vec Ideal S512x2880 .fp8e4m3) (x3 : Vec Ideal S1x512 .f32) (x4 : Vec Ideal S6x2880x256 .fp8e4m3) (x5 : Vec Ideal S6x256 .f32) (x6 : Vec Ideal S1x2880 .f32) (y : S2880x1536.Idx) :
    ∃ pc ∈ (kernelRun0_A c i arg1 harg1 arg2 harg2 arg3 harg3 arg4 harg4 arg5 harg5 arg6 harg6 arg7 harg7 arg8 harg8 arg9 harg9 arg10 harg10 arg11 harg11 hc0 x0 x1 x2 x3 x4 x5 x6).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 x0 x1 x2 x3 x4 x5 x6).2.2.1 S2880x256.size (by sl_kernel_rfl) y

/-- What case A leaves in scratch `arg10`: its pieces read back over junk. -/
def sout0_A_0 (c : Dev nD) (i : grid0.Coords) (arg1 : Memref sig .tc .vmem S6x512x256 .fp8e5m2) (harg1 : arg1.IsWhole) (arg2 : Memref sig .tc .vmem S6x256 .f32) (harg2 : arg2.IsWhole) (arg3 : Memref sig .tc .vmem S512x2880 .fp8e4m3) (harg3 : arg3.IsWhole) (arg4 : Memref sig .tc .vmem S1x512 .f32) (harg4 : arg4.IsWhole) (arg5 : Memref sig .tc .vmem S6x2880x256 .fp8e4m3) (harg5 : arg5.IsWhole) (arg6 : Memref sig .tc .vmem S6x256 .f32) (harg6 : arg6.IsWhole) (arg7 : Memref sig .tc .vmem S1x2880 .f32) (harg7 : arg7.IsWhole) (arg8 : Memref sig .tc .vmem S512x2880 .bf16) (harg8 : arg8.IsWhole) (arg9 : Memref sig .tc .vmem S2880x1536 .f32) (harg9 : arg9.IsWhole) (arg10 : Memref sig .tc .vmem S2880x1536 .fp8e4m3) (harg10 : arg10.IsWhole) (arg11 : Memref sig .tc .vmem S2880x512 .bf16) (harg11 : arg11.IsWhole) (hc0 : cond0_0 i)
    (x0 : Vec Ideal S6x512x256 .fp8e5m2) (x1 : Vec Ideal S6x256 .f32) (x2 : Vec Ideal S512x2880 .fp8e4m3) (x3 : Vec Ideal S1x512 .f32) (x4 : Vec Ideal S6x2880x256 .fp8e4m3) (x5 : Vec Ideal S6x256 .f32) (x6 : Vec Ideal S1x2880 .f32) : Vec Ideal S2880x1536 .fp8e4m3 :=
  VS0_0.read (Elt Ideal) (VS0_0.writes (Elt Ideal) VS0_0.junk (kernelRun0_A c i arg1 harg1 arg2 harg2 arg3 harg3 arg4 harg4 arg5 harg5 arg6 harg6 arg7 harg7 arg8 harg8 arg9 harg9 arg10 harg10 arg11 harg11 hc0 x0 x1 x2 x3 x4 x5 x6).2.2.1)

/-- Case B's pieces for output 7 tile its block (1 store of `S512x2880`, checked by the kernel's evaluation: Lib/Ring.lean `Piece.tiledL`, linear in the pieces, through a loop's `@[irreducible]` trip theorem too), so they cover it. -/
theorem cover0_B_7 (c : Dev nD) (i : grid0.Coords) (arg1 : Memref sig .tc .vmem S6x512x256 .fp8e5m2) (harg1 : arg1.IsWhole) (arg2 : Memref sig .tc .vmem S6x256 .f32) (harg2 : arg2.IsWhole) (arg3 : Memref sig .tc .vmem S512x2880 .fp8e4m3) (harg3 : arg3.IsWhole) (arg4 : Memref sig .tc .vmem S1x512 .f32) (harg4 : arg4.IsWhole) (arg5 : Memref sig .tc .vmem S6x2880x256 .fp8e4m3) (harg5 : arg5.IsWhole) (arg6 : Memref sig .tc .vmem S6x256 .f32) (harg6 : arg6.IsWhole) (arg7 : Memref sig .tc .vmem S1x2880 .f32) (harg7 : arg7.IsWhole) (arg8 : Memref sig .tc .vmem S512x2880 .bf16) (harg8 : arg8.IsWhole) (arg9 : Memref sig .tc .vmem S2880x1536 .f32) (harg9 : arg9.IsWhole) (arg10 : Memref sig .tc .vmem S2880x1536 .fp8e4m3) (harg10 : arg10.IsWhole) (arg11 : Memref sig .tc .vmem S2880x512 .bf16) (harg11 : arg11.IsWhole) (hc0 : ¬cond0_0 i)
    (x0 : Vec Ideal S6x512x256 .fp8e5m2) (x1 : Vec Ideal S6x256 .f32) (x2 : Vec Ideal S512x2880 .fp8e4m3) (x3 : Vec Ideal S1x512 .f32) (x4 : Vec Ideal S6x2880x256 .fp8e4m3) (x5 : Vec Ideal S6x256 .f32) (x6 : Vec Ideal S1x2880 .f32) (xo8 : Vec Ideal S2880x1536 .f32) (xs0 : Vec Ideal S2880x1536 .fp8e4m3) (y : S512x2880.Idx) :
    ∃ pc ∈ (kernelRun0_B c i arg1 harg1 arg2 harg2 arg3 harg3 arg4 harg4 arg5 harg5 arg6 harg6 arg7 harg7 arg8 harg8 arg9 harg9 arg10 harg10 arg11 harg11 hc0 x0 x1 x2 x3 x4 x5 x6 xo8 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 x0 x1 x2 x3 x4 x5 x6 xo8 xs0).1 S512x2880.size (by sl_kernel_rfl) y

/-- What case B leaves in output 7's staging buffer: its pieces read back over junk. -/
def out0_B_7 (c : Dev nD) (i : grid0.Coords) (arg1 : Memref sig .tc .vmem S6x512x256 .fp8e5m2) (harg1 : arg1.IsWhole) (arg2 : Memref sig .tc .vmem S6x256 .f32) (harg2 : arg2.IsWhole) (arg3 : Memref sig .tc .vmem S512x2880 .fp8e4m3) (harg3 : arg3.IsWhole) (arg4 : Memref sig .tc .vmem S1x512 .f32) (harg4 : arg4.IsWhole) (arg5 : Memref sig .tc .vmem S6x2880x256 .fp8e4m3) (harg5 : arg5.IsWhole) (arg6 : Memref sig .tc .vmem S6x256 .f32) (harg6 : arg6.IsWhole) (arg7 : Memref sig .tc .vmem S1x2880 .f32) (harg7 : arg7.IsWhole) (arg8 : Memref sig .tc .vmem S512x2880 .bf16) (harg8 : arg8.IsWhole) (arg9 : Memref sig .tc .vmem S2880x1536 .f32) (harg9 : arg9.IsWhole) (arg10 : Memref sig .tc .vmem S2880x1536 .fp8e4m3) (harg10 : arg10.IsWhole) (arg11 : Memref sig .tc .vmem S2880x512 .bf16) (harg11 : arg11.IsWhole) (hc0 : ¬cond0_0 i)
    (x0 : Vec Ideal S6x512x256 .fp8e5m2) (x1 : Vec Ideal S6x256 .f32) (x2 : Vec Ideal S512x2880 .fp8e4m3) (x3 : Vec Ideal S1x512 .f32) (x4 : Vec Ideal S6x2880x256 .fp8e4m3) (x5 : Vec Ideal S6x256 .f32) (x6 : Vec Ideal S1x2880 .f32) (xo8 : Vec Ideal S2880x1536 .f32) (xs0 : Vec Ideal S2880x1536 .fp8e4m3) : Vec Ideal S512x2880 .bf16 :=
  VO0_7.read (Elt Ideal) (VO0_7.writes (Elt Ideal) VO0_7.junk (kernelRun0_B c i arg1 harg1 arg2 harg2 arg3 harg3 arg4 harg4 arg5 harg5 arg6 harg6 arg7 harg7 arg8 harg8 arg9 harg9 arg10 harg10 arg11 harg11 hc0 x0 x1 x2 x3 x4 x5 x6 xo8 xs0).1)

/-- Case B's pieces for output 8 tile its block (30 stores of `S576x256`, checked by the kernel's evaluation: Lib/Ring.lean `Piece.tiledL`, linear in the pieces, through a loop's `@[irreducible]` trip theorem too), so they cover it. -/
theorem cover0_B_8 (c : Dev nD) (i : grid0.Coords) (arg1 : Memref sig .tc .vmem S6x512x256 .fp8e5m2) (harg1 : arg1.IsWhole) (arg2 : Memref sig .tc .vmem S6x256 .f32) (harg2 : arg2.IsWhole) (arg3 : Memref sig .tc .vmem S512x2880 .fp8e4m3) (harg3 : arg3.IsWhole) (arg4 : Memref sig .tc .vmem S1x512 .f32) (harg4 : arg4.IsWhole) (arg5 : Memref sig .tc .vmem S6x2880x256 .fp8e4m3) (harg5 : arg5.IsWhole) (arg6 : Memref sig .tc .vmem S6x256 .f32) (harg6 : arg6.IsWhole) (arg7 : Memref sig .tc .vmem S1x2880 .f32) (harg7 : arg7.IsWhole) (arg8 : Memref sig .tc .vmem S512x2880 .bf16) (harg8 : arg8.IsWhole) (arg9 : Memref sig .tc .vmem S2880x1536 .f32) (harg9 : arg9.IsWhole) (arg10 : Memref sig .tc .vmem S2880x1536 .fp8e4m3) (harg10 : arg10.IsWhole) (arg11 : Memref sig .tc .vmem S2880x512 .bf16) (harg11 : arg11.IsWhole) (hc0 : ¬cond0_0 i)
    (x0 : Vec Ideal S6x512x256 .fp8e5m2) (x1 : Vec Ideal S6x256 .f32) (x2 : Vec Ideal S512x2880 .fp8e4m3) (x3 : Vec Ideal S1x512 .f32) (x4 : Vec Ideal S6x2880x256 .fp8e4m3) (x5 : Vec Ideal S6x256 .f32) (x6 : Vec Ideal S1x2880 .f32) (xo8 : Vec Ideal S2880x1536 .f32) (xs0 : Vec Ideal S2880x1536 .fp8e4m3) (y : S2880x1536.Idx) :
    ∃ pc ∈ (kernelRun0_B c i arg1 harg1 arg2 harg2 arg3 harg3 arg4 harg4 arg5 harg5 arg6 harg6 arg7 harg7 arg8 harg8 arg9 harg9 arg10 harg10 arg11 harg11 hc0 x0 x1 x2 x3 x4 x5 x6 xo8 xs0).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 x0 x1 x2 x3 x4 x5 x6 xo8 xs0).2.1 S576x256.size (by sl_kernel_rfl) y

/-- What case B leaves in output 8's staging buffer: its pieces read back over junk. -/
def out0_B_8 (c : Dev nD) (i : grid0.Coords) (arg1 : Memref sig .tc .vmem S6x512x256 .fp8e5m2) (harg1 : arg1.IsWhole) (arg2 : Memref sig .tc .vmem S6x256 .f32) (harg2 : arg2.IsWhole) (arg3 : Memref sig .tc .vmem S512x2880 .fp8e4m3) (harg3 : arg3.IsWhole) (arg4 : Memref sig .tc .vmem S1x512 .f32) (harg4 : arg4.IsWhole) (arg5 : Memref sig .tc .vmem S6x2880x256 .fp8e4m3) (harg5 : arg5.IsWhole) (arg6 : Memref sig .tc .vmem S6x256 .f32) (harg6 : arg6.IsWhole) (arg7 : Memref sig .tc .vmem S1x2880 .f32) (harg7 : arg7.IsWhole) (arg8 : Memref sig .tc .vmem S512x2880 .bf16) (harg8 : arg8.IsWhole) (arg9 : Memref sig .tc .vmem S2880x1536 .f32) (harg9 : arg9.IsWhole) (arg10 : Memref sig .tc .vmem S2880x1536 .fp8e4m3) (harg10 : arg10.IsWhole) (arg11 : Memref sig .tc .vmem S2880x512 .bf16) (harg11 : arg11.IsWhole) (hc0 : ¬cond0_0 i)
    (x0 : Vec Ideal S6x512x256 .fp8e5m2) (x1 : Vec Ideal S6x256 .f32) (x2 : Vec Ideal S512x2880 .fp8e4m3) (x3 : Vec Ideal S1x512 .f32) (x4 : Vec Ideal S6x2880x256 .fp8e4m3) (x5 : Vec Ideal S6x256 .f32) (x6 : Vec Ideal S1x2880 .f32) (xo8 : Vec Ideal S2880x1536 .f32) (xs0 : Vec Ideal S2880x1536 .fp8e4m3) : Vec Ideal S2880x1536 .f32 :=
  VO0_8.read (Elt Ideal) (VO0_8.writes (Elt Ideal) VO0_8.junk (kernelRun0_B c i arg1 harg1 arg2 harg2 arg3 harg3 arg4 harg4 arg5 harg5 arg6 harg6 arg7 harg7 arg8 harg8 arg9 harg9 arg10 harg10 arg11 harg11 hc0 x0 x1 x2 x3 x4 x5 x6 xo8 xs0).2.1)

/-- Case B stores nothing into scratch `arg10`: it holds what the point before left. -/
def sout0_B_0 (c : Dev nD) (i : grid0.Coords) (arg1 : Memref sig .tc .vmem S6x512x256 .fp8e5m2) (harg1 : arg1.IsWhole) (arg2 : Memref sig .tc .vmem S6x256 .f32) (harg2 : arg2.IsWhole) (arg3 : Memref sig .tc .vmem S512x2880 .fp8e4m3) (harg3 : arg3.IsWhole) (arg4 : Memref sig .tc .vmem S1x512 .f32) (harg4 : arg4.IsWhole) (arg5 : Memref sig .tc .vmem S6x2880x256 .fp8e4m3) (harg5 : arg5.IsWhole) (arg6 : Memref sig .tc .vmem S6x256 .f32) (harg6 : arg6.IsWhole) (arg7 : Memref sig .tc .vmem S1x2880 .f32) (harg7 : arg7.IsWhole) (arg8 : Memref sig .tc .vmem S512x2880 .bf16) (harg8 : arg8.IsWhole) (arg9 : Memref sig .tc .vmem S2880x1536 .f32) (harg9 : arg9.IsWhole) (arg10 : Memref sig .tc .vmem S2880x1536 .fp8e4m3) (harg10 : arg10.IsWhole) (arg11 : Memref sig .tc .vmem S2880x512 .bf16) (harg11 : arg11.IsWhole) (hc0 : ¬cond0_0 i)
    (x0 : Vec Ideal S6x512x256 .fp8e5m2) (x1 : Vec Ideal S6x256 .f32) (x2 : Vec Ideal S512x2880 .fp8e4m3) (x3 : Vec Ideal S1x512 .f32) (x4 : Vec Ideal S6x2880x256 .fp8e4m3) (x5 : Vec Ideal S6x256 .f32) (x6 : Vec Ideal S1x2880 .f32) (xo8 : Vec Ideal S2880x1536 .f32) (xs0 : Vec Ideal S2880x1536 .fp8e4m3) : Vec Ideal S2880x1536 .fp8e4m3 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec Ideal S512x2880 .bf16 × Vec Ideal S2880x1536 .f32 × Vec Ideal S2880x1536 .fp8e4m3
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (X0_0 m c ⟨0, hn⟩) (iblk m c 1 ⟨0, hn⟩) (X0_2 m c ⟨0, hn⟩) (X0_3 m c ⟨0, hn⟩) (iblk m c 4 ⟨0, hn⟩) (iblk m c 5 ⟨0, hn⟩) (iblk m c 6 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (X0_0 m c ⟨0, hn⟩) (iblk m c 1 ⟨0, hn⟩) (X0_2 m c ⟨0, hn⟩) (X0_3 m c ⟨0, hn⟩) (iblk m c 4 ⟨0, hn⟩) (iblk m c 5 ⟨0, hn⟩) (iblk m c 6 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (X0_0 m c ⟨0, hn⟩) (iblk m c 1 ⟨0, hn⟩) (X0_2 m c ⟨0, hn⟩) (X0_3 m c ⟨0, hn⟩) (iblk m c 4 ⟨0, hn⟩) (iblk m c 5 ⟨0, hn⟩) (iblk m c 6 ⟨0, hn⟩))
  | n + 1, hn =>
    if h0 : (n + 1) % 17 = 0 then
      (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) (X0_0 m c ⟨n + 1, hn⟩) (iblk m c 1 ⟨n + 1, hn⟩) (X0_2 m c ⟨n + 1, hn⟩) (X0_3 m c ⟨n + 1, hn⟩) (iblk m c 4 ⟨n + 1, hn⟩) (iblk m c 5 ⟨n + 1, hn⟩) (iblk m c 6 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) (X0_0 m c ⟨n + 1, hn⟩) (iblk m c 1 ⟨n + 1, hn⟩) (X0_2 m c ⟨n + 1, hn⟩) (X0_3 m c ⟨n + 1, hn⟩) (iblk m c 4 ⟨n + 1, hn⟩) (iblk m c 5 ⟨n + 1, hn⟩) (iblk m c 6 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) (X0_0 m c ⟨n + 1, hn⟩) (iblk m c 1 ⟨n + 1, hn⟩) (X0_2 m c ⟨n + 1, hn⟩) (X0_3 m c ⟨n + 1, hn⟩) (iblk m c 4 ⟨n + 1, hn⟩) (iblk m c 5 ⟨n + 1, hn⟩) (iblk m c 6 ⟨n + 1, hn⟩))
    else
      (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (X0_0 m c ⟨n + 1, hn⟩) (iblk m c 1 ⟨n + 1, hn⟩) (X0_2 m c ⟨n + 1, hn⟩) (X0_3 m c ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (X0_0 m c ⟨n + 1, hn⟩) (iblk m c 1 ⟨n + 1, hn⟩) (X0_2 m c ⟨n + 1, hn⟩) (X0_3 m c ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (X0_0 m c ⟨n + 1, hn⟩) (iblk m c 1 ⟨n + 1, hn⟩) (X0_2 m c ⟨n + 1, hn⟩) (X0_3 m c ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2)

/-- `outsAt0` at a point of case A: that case's contents. -/
theorem outsAt0_A (c : Dev nD) (t : Fin cfg0.N) (h0 : t.val % 17 = 0) :
    outsAt0 m c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (X0_0 m c t) (iblk m c 1 t) (X0_2 m c t) (X0_3 m c t) (iblk m c 4 t) (iblk m c 5 t) (iblk m c 6 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (X0_0 m c t) (iblk m c 1 t) (X0_2 m c t) (X0_3 m c t) (iblk m c 4 t) (iblk m c 5 t) (iblk m c 6 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (X0_0 m c t) (iblk m c 1 t) (X0_2 m c t) (X0_3 m c t) (iblk m c 4 t) (iblk m c 5 t) (iblk m c 6 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 17 = 0) :
    outsAt0 m c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (X0_0 m c t) (iblk m c 1 t) (X0_2 m c t) (X0_3 m c t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (X0_0 m c t) (iblk m c 1 t) (X0_2 m c t) (X0_3 m c t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (X0_0 m c t) (iblk m c 1 t) (X0_2 m c t) (X0_3 m c t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

end Cert.AttnIdeal.Hand

end
-- ==== Proof.AttnIdeal.Masked.lean ====
module

public import proofs.«01_k».proof.Proof.AttnIdeal.Runs
public import Idealize.ShloMosaic.Lib.Pipeline.ValueKit
public import Idealize.ShloMosaic.Lib.Pipeline.ReadBack
public import Idealize.ShloMosaic.Lib.Pointwise

@[expose] public section

set_option maxRecDepth 16384
noncomputable section
open Idealize.ShloMosaic Idealize.ShloMosaic.TcCoe Idealize.SL.Sem
open Idealize.ShloMosaic.Pipeline (Dat)
namespace Cert.AttnIdeal.Hand
open Cert.AttnIdeal Cert.AttnIdeal.Gen
variable (m : (ℓ : Loc nD τ sig) → Buf (Elt Ideal) ℓ)

theorem live_word : ∀ (t : Fin 17) (j : Fin 512), Scalar.cmpi .slt (BitVec.ofNat 32 j.val) (Scalar.subi 8640#32 (Scalar.muli (BitVec.ofNat 32 t.val) 512#32))
    = if t.val * 512 + j.val < 8640 then 1#1 else 0#1 := by decide +kernel

theorem live_cmp (i : grid0.Coords) (j : Fin 512) :
    IntOp.cmpi CmpIPredicate.slt (BitVec.ofNat 32 j.val) (Scalar.subi 8640#32 (Scalar.muli (BitVec.ofNat 32 (i 0).val) 512#32))
      = if (i 0).val * 512 + j.val < 8640 then 1#1 else 0#1 := live_word (i 0) j

/-- A choice by a condition's bit. -/
theorem select_ite {p : Prop} [Decidable p] (a b : EReal) : Scalar.select (if p then 1#1 else 0#1) a b = if p then a else b := by
  split <;> rfl

theorem z8 : Ideal.ofBits FTy.fp8e5m2 0#8 = 0 := Ideal.ofBits_zero .fp8e5m2

theorem pay11_at (i : grid0.Coords) (v : FVec Ideal S1x512x256 .fp8e5m2) (j : Fin 512) (s : Fin 256) :
    k0_pay11 (F := Ideal) i v (ix2 j s) = if (i 0).val * 512 + j.val < 8640 then v (ix3 (0 : Fin 1) j s) else 0 := by
  pointwise [k0_pay11]
  rw [live_cmp, select_ite, z8]

theorem pay10_at (i : grid0.Coords) (u : FVec Ideal S1x512 .f32) (v : FVec Ideal S512x2880 .fp8e4m3) (d : Fin 2880) (j : Fin 512)  :
    k0_pay10 (F := Ideal) i u v (ix2 d j) = if (i 0).val * 512 + j.val < 8640 then v (ix2 j d) * u (ix2 (0 : Fin 1) j) else 0 := by
  pointwise [k0_pay10]
  rw [live_cmp, select_ite, select_ite]
  split <;> rfl

theorem coords_val (t : Fin cfg0.N) : (grid0.coords t 0).val = t.val :=
  (by decide +kernel : ∀ t : Fin grid0.N, (grid0.coords t 0).val = t.val) t

theorem idx : ∀ t : Fin cfg0.N, win0_0.index t = ![0, t.val, 0] ∧ win0_2.index t = ![t.val, 0] ∧ win0_3.index t = ![0, t.val] :=
  (by decide +kernel : ∀ t : Fin grid0.N, _)

theorem xs : ∀ t : Fin cfg0.N, win0_0.xsize (grid0.coords t) = ![6, min 512 (8640 - t.val * 512), 256]
    ∧ win0_2.xsize (grid0.coords t) = ![min 512 (8640 - t.val * 512), 2880] ∧ win0_3.xsize (grid0.coords t) = ![1, min 512 (8640 - t.val * 512)] :=
  (by decide +kernel : ∀ t : Fin grid0.N, _)

theorem XD0_0_at (c : Dev nD) (t : Fin cfg0.N) (d) (b : Fin 6) (j : Fin 512) (s : Fin 256) (h : t.val * 512 + j.val < 8640) :
    XD0_0 m c t d (ix3 b j s) = V m c main_v2 (ix3 b ⟨t.val * 512 + j.val, h⟩ s) := by
  unfold XD0_0 Pipeline.Window.fill
  rw [dif_pos]
  · blk_ext [iblk, V, idx t]
  · refine (win0_0.moved_iff _ _).mpr fun a => ?_
    rw [(xs t).1]
    have := j.isLt
    fin_cases a
    · exact b.isLt
    · show j.val < min 512 (8640 - t.val * 512)
      omega
    · exact s.isLt

theorem XD0_2_at (c : Dev nD) (t : Fin cfg0.N) (d) (j : Fin 512) (s : Fin 2880) (h : t.val * 512 + j.val < 8640) :
    XD0_2 m c t d (ix2 j s) = V m c main_v4 (ix2 ⟨t.val * 512 + j.val, h⟩ s) := by
  unfold XD0_2 Pipeline.Window.fill
  rw [dif_pos]
  · blk_ext [iblk, V, idx t]
  · refine (win0_2.moved_iff _ _).mpr fun a => ?_
    rw [(xs t).2.1]
    have := j.isLt
    fin_cases a
    · show j.val < min 512 (8640 - t.val * 512)
      omega
    · exact s.isLt

theorem XD0_3_at (c : Dev nD) (t : Fin cfg0.N) (d) (j : Fin 512) (h : t.val * 512 + j.val < 8640) :
    XD0_3 m c t d (ix2 (0 : Fin 1) j) = V m c main_v6 (ix2 (0 : Fin 1) ⟨t.val * 512 + j.val, h⟩) := by
  unfold XD0_3 Pipeline.Window.fill
  rw [dif_pos]
  · blk_ext [iblk, V, idx t]
  · refine (win0_3.moved_iff _ _).mpr fun a => ?_
    rw [(xs t).2.2]
    have := j.isLt
    fin_cases a
    · exact Nat.one_pos
    · show j.val < min 512 (8640 - t.val * 512)
      omega

/-- The upstream codes as the call finds them. -/
def DQ (c : Dev nD) : FVec Ideal S6x8640x256 .fp8e5m2 := V m c main_v2

/-- The weight codes as the call finds them. -/
def WQ (c : Dev nD) : FVec Ideal S8640x2880 .fp8e4m3 := V m c main_v4

/-- The weights' scales as the call finds them. -/
def SQ (c : Dev nD) : FVec Ideal S1x8640 .f32 := V m c main_v6

/-- A code of a point's block, zero past the array's end. -/
def bq (c : Dev nD) (t : Fin cfg0.N) (b : Fin 6) (j : Fin 512) (s : Fin 256) : EReal :=
  if h : t.val * 512 + j.val < 8640 then DQ m c (ix3 b ⟨t.val * 512 + j.val, h⟩ s) else 0

/-- A dequantised weight of a point's block, zero past the array's end. -/
def ws (c : Dev nD) (t : Fin cfg0.N) (d : Fin 2880) (j : Fin 512) : EReal :=
  if h : t.val * 512 + j.val < 8640 then WQ m c (ix2 ⟨t.val * 512 + j.val, h⟩ d) * SQ m c (ix2 (0 : Fin 1) ⟨t.val * 512 + j.val, h⟩) else 0

/-- A point's block of upstream codes of one batch entry. -/
def BQ (c : Dev nD) (t : Fin cfg0.N) (b : Fin 6) : FVec Ideal S512x256 .fp8e5m2 := fun y => bq m c t b (y 0) (y 1)

/-- A point's block of dequantised weights, transposed. -/
def WS (c : Dev nD) (t : Fin cfg0.N) : FVec Ideal S2880x512 .bf16 := fun y => ws m c t (y 0) (y 1)

theorem P11 (c : Dev nD) (t : Fin cfg0.N) (d) (o : ℕ) (b : Fin 6) (hb : b.val = o)
    (inb : ∀ a, (![o, 0, 0] : Fin 3 → ℕ) a + (![1, 512, 256] : Fin 3 → ℕ) a ≤ S6x512x256.size a) :
    k0_pay11 (F := Ideal) (grid0.coords t) (View.ld (XD0_0 m c t d) (Rect.unit ![o, 0, 0] ![1, 512, 256] inb)) = BQ m c t b := by
  funext y
  obtain ⟨j, s, rfl⟩ : ∃ (j : Fin 512) (s : Fin 256), y = ix2 j s := ⟨y 0, y 1, by ext a; fin_cases a <;> rfl⟩
  rw [pay11_at, coords_val]
  show _ = bq m c t b j s
  unfold bq
  split
  · rename_i h
    refine Eq.trans ?_ (XD0_0_at m c t d b j s h)
    refine congrArg (XD0_0 m c t d) (funext fun a => Fin.ext ?_)
    fin_cases a
    · show o + 1 * 0 = b.val
      omega
    · show 0 + 1 * j.val = j.val
      omega
    · show 0 + 1 * s.val = s.val
      omega
  · rfl

theorem P10 (c : Dev nD) (t : Fin cfg0.N) (d2 d3) :
    k0_pay10 (F := Ideal) (grid0.coords t) (XD0_3 m c t d3) (XD0_2 m c t d2) = WS m c t := by
  funext y
  obtain ⟨j, s, rfl⟩ : ∃ (j : Fin 2880) (s : Fin 512), y = ix2 j s := ⟨y 0, y 1, by ext a; fin_cases a <;> rfl⟩
  rw [pay10_at, coords_val]
  show _ = ws m c t j s
  unfold ws
  split
  · rename_i h
    exact congrArg₂ (fun a b : EReal => a * b) (XD0_2_at m c t d2 s j h) (XD0_3_at m c t d3 s h)
  · rfl
theorem P11_0 (c : Dev nD) (t : Fin cfg0.N) (d inb) :
    k0_pay11 (F := Ideal) (grid0.coords t) (View.ld (XD0_0 m c t d) (Rect.unit ![0, 0, 0] ![1, 512, 256] inb)) = BQ m c t 0 := P11 m c t d 0 0 rfl inb
theorem P19 (c : Dev nD) (t : Fin cfg0.N) (d inb) (u : BitVec 32) (hu : u = Scalar.subi 8640#32 (Scalar.muli (BitVec.ofNat 32 (grid0.coords t 0).val) 512#32)) (i : IVec S512x1 32)
    (hi : i = iota Kind.tc S512x1 32 [0] iota_S512x1_d0_w32) :
    k0_pay19 (F := Ideal) u i
      (View.ld (XD0_0 m c t d) (Rect.unit ![1, 0, 0] ![1, 512, 256] inb)) = BQ m c t 1 := by
  subst hu hi; exact P11 m c t d 1 1 rfl inb
theorem P29 (c : Dev nD) (t : Fin cfg0.N) (d inb) (u : BitVec 32) (hu : u = Scalar.subi 8640#32 (Scalar.muli (BitVec.ofNat 32 (grid0.coords t 0).val) 512#32)) (i : IVec S512x1 32)
    (hi : i = iota Kind.tc S512x1 32 [0] iota_S512x1_d0_w32) :
    k0_pay29 (F := Ideal) (k0_pay26 u i)
      (k0_pay27 (View.ld (XD0_0 m c t d) (Rect.unit ![2, 0, 0] ![1, 512, 256] inb))) k0_pay28 = BQ m c t 2 := by
  subst hu hi; exact P11 m c t d 2 2 rfl inb
theorem P36 (c : Dev nD) (t : Fin cfg0.N) (d inb) (u : BitVec 32) (hu : u = Scalar.subi 8640#32 (Scalar.muli (BitVec.ofNat 32 (grid0.coords t 0).val) 512#32)) (i : IVec S512x1 32)
    (hi : i = iota Kind.tc S512x1 32 [0] iota_S512x1_d0_w32) :
    k0_pay36 (F := Ideal) u i
      (View.ld (XD0_0 m c t d) (Rect.unit ![3, 0, 0] ![1, 512, 256] inb)) = BQ m c t 3 := by
  subst hu hi; exact P11 m c t d 3 3 rfl inb
theorem P44 (c : Dev nD) (t : Fin cfg0.N) (d inb) (u : BitVec 32) (hu : u = Scalar.subi 8640#32 (Scalar.muli (BitVec.ofNat 32 (grid0.coords t 0).val) 512#32)) (i : IVec S512x1 32)
    (hi : i = iota Kind.tc S512x1 32 [0] iota_S512x1_d0_w32) :
    k0_pay44 (F := Ideal) (k0_pay43 u i)
      (View.ld (XD0_0 m c t d) (Rect.unit ![4, 0, 0] ![1, 512, 256] inb)) = BQ m c t 4 := by
  subst hu hi; exact P11 m c t d 4 4 rfl inb
theorem P53 (c : Dev nD) (t : Fin cfg0.N) (d inb) (u : BitVec 32) (hu : u = Scalar.subi 8640#32 (Scalar.muli (BitVec.ofNat 32 (grid0.coords t 0).val) 512#32)) (i : IVec S512x1 32)
    (hi : i = iota Kind.tc S512x1 32 [0] iota_S512x1_d0_w32) :
    k0_pay53 (F := Ideal) u i
      (View.ld (XD0_0 m c t d) (Rect.unit ![5, 0, 0] ![1, 512, 256] inb)) = BQ m c t 5 := by
  subst hu hi; exact P11 m c t d 5 5 rfl inb

/-! ## One block of products under several names -/

theorem N13 (q a w) : k0_pay13 (F := Ideal) q a w = k0_pay12 q a w := rfl
theorem N14 (q a w) : k0_pay14 (F := Ideal) q a w = k0_pay12 q a w := rfl
theorem N15 (q a w) : k0_pay15 (F := Ideal) q a w = k0_pay12 q a w := rfl
theorem N22 (q a w) : k0_pay22 (F := Ideal) q a w = k0_pay12 q a w := rfl
theorem N23 (q a w) : k0_pay23 (F := Ideal) q a w = k0_pay12 q a w := rfl
theorem N24 (q a w) : k0_pay24 (F := Ideal) q a w = k0_pay12 q a w := rfl
theorem N34 (q a w) : k0_pay34 (F := Ideal) q a w = k0_pay12 q a w := rfl
theorem N39 (q a w) : k0_pay39 (F := Ideal) q a w = k0_pay12 q a w := rfl
theorem N40 (q a w) : k0_pay40 (F := Ideal) q a w = k0_pay12 q a w := rfl
theorem N41 (q a w) : k0_pay41 (F := Ideal) q a w = k0_pay12 q a w := rfl
theorem N51 (q a w) : k0_pay51 (F := Ideal) q a w = k0_pay12 q a w := rfl
theorem N57 (q a w) : k0_pay57 (F := Ideal) q a w = k0_pay12 q a w := rfl
theorem N58 (q a w) : k0_pay58 (F := Ideal) q a w = k0_pay12 q a w := rfl
theorem N59 (q a w) : k0_pay59 (F := Ideal) q a w = k0_pay12 q a w := rfl
theorem N20 (u i q a w) : k0_pay20 (F := Ideal) u i q a w = k0_pay12 (k0_pay19 u i q) a w := rfl
theorem N21 (u i q a w) : k0_pay21 (F := Ideal) u i q a w = k0_pay12 (k0_pay19 u i q) a w := rfl
theorem N37 (u i q a w) : k0_pay37 (F := Ideal) u i q a w = k0_pay12 (k0_pay36 u i q) a w := rfl
theorem N38 (u i q a w) : k0_pay38 (F := Ideal) u i q a w = k0_pay12 (k0_pay36 u i q) a w := rfl
theorem N54 (u i q a w) : k0_pay54 (F := Ideal) u i q a w = k0_pay12 (k0_pay53 u i q) a w := rfl
theorem N30 (u i q a w) : k0_pay30 (F := Ideal) u i q a w = k0_pay12 (k0_pay29 u i q) a w := rfl
theorem N31 (u i q a w) : k0_pay31 (F := Ideal) u i q a w = k0_pay12 (k0_pay29 u i q) a w := rfl
theorem N32 (u i q a w) : k0_pay32 (F := Ideal) u i q a w = k0_pay12 (k0_pay29 u i q) a w := rfl
theorem N33 (u i q a w) : k0_pay33 (F := Ideal) u i q a w = k0_pay12 (k0_pay29 u i q) a w := rfl
theorem N45 (u q a w) : k0_pay45 (F := Ideal) u q a w = k0_pay12 (k0_pay44 u q) a w := rfl
theorem N46 (u q a w) : k0_pay46 (F := Ideal) u q a w = k0_pay12 (k0_pay44 u q) a w := rfl
theorem N47 (u q a w) : k0_pay47 (F := Ideal) u q a w = k0_pay12 (k0_pay44 u q) a w := rfl
theorem N17 (q a w) : k0_pay17 (F := Ideal) q (k0_pay16 a) w = k0_pay12 q a w := rfl
theorem N50 (u q a w) : k0_pay50 (F := Ideal) (k0_pay48 a) (k0_pay49 u q w) = k0_pay12 (k0_pay44 u q) a w := rfl
theorem N56 (q a w) : k0_pay56 (F := Ideal) q (k0_pay55 a) w = k0_pay12 q a w := rfl
theorem N25 (q a w) : k0_pay25 (F := Ideal) q a w = k0_pay18 q a w := rfl
theorem N35 (q a w) : k0_pay35 (F := Ideal) q a w = k0_pay18 q a w := rfl
theorem N42 (q a w) : k0_pay42 (F := Ideal) q a w = k0_pay18 q a w := rfl
theorem N52 (q a w) : k0_pay52 (F := Ideal) q a w = k0_pay18 q a w := rfl
theorem N3 (q) : k0_pay3 (F := Ideal) q = k0_pay2 q := rfl
theorem N4 (q) : k0_pay4 (F := Ideal) q = k0_pay2 q := rfl
theorem N5 (q) : k0_pay5 (F := Ideal) q = k0_pay2 q := rfl
theorem N6 (q) : k0_pay6 (F := Ideal) q = k0_pay2 q := rfl
theorem N8 (q) : k0_pay8 (F := Ideal) (k0_pay7 q) = k0_pay2 q := rfl

end Cert.AttnIdeal.Hand
-- ==== Proof.AttnIdeal.Indep.lean ====
/- What lies past the end of the clipped inputs does not reach what the attention call leaves. -/
module

public import proofs.«01_k».proof.Proof.AttnIdeal.Outs
public import proofs.«01_k».proof.Proof.AttnIdeal.Masked
public import Idealize.ShloMosaic.Lib.Claim
public import Idealize.ShloMosaic.Lib.Pipeline.ValueKit
public import Idealize.ShloMosaic.Lib.Pipeline.ReadBack
public import Idealize.ShloMosaic.Lib.Pointwise

@[expose] public section

-- membership in a rectangle of production extents (`View.cover_of_tiled`): the elaborator's structural look
-- recurses once per coordinate of the long axes
set_option maxRecDepth 16384

noncomputable section

namespace Cert.AttnIdeal.Hand

open Cert.AttnIdeal Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)
theorem out0_A_7_eq (c : Dev nD) (t : Fin cfg0.N) (h0 : t.val % 17 = 0) (d0 d2 d3) :
    out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (XD0_0 m c t d0) (iblk m c 1 t) (XD0_2 m c t d2) (XD0_3 m c t d3) (iblk m c 4 t) (iblk m c 5 t) (iblk m c 6 t)
      = out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (X0_0 m c t) (iblk m c 1 t) (X0_2 m c t) (X0_3 m c t) (iblk m c 4 t) (iblk m c 5 t) (iblk m c 6 t) := by
  unfold X0_0 X0_2 X0_3
  frame_out
  simp (discharger := rfl) only [N13, N14, N15, N22, N23, N24, N34, N39, N40, N41, N51, N57, N58, N59, N20, N21, N37, N38, N54, N30, N31, N32, N33, N45, N46, N47, N17, N50, N56, N25, N35, N42, N52, N3, N4, N5, N6, N8, P11_0, P19, P29, P36, P44, P53, P10]

theorem out0_A_8_eq (c : Dev nD) (t : Fin cfg0.N) (h0 : t.val % 17 = 0) (d0 d2 d3) :
    out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (XD0_0 m c t d0) (iblk m c 1 t) (XD0_2 m c t d2) (XD0_3 m c t d3) (iblk m c 4 t) (iblk m c 5 t) (iblk m c 6 t)
      = out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (X0_0 m c t) (iblk m c 1 t) (X0_2 m c t) (X0_3 m c t) (iblk m c 4 t) (iblk m c 5 t) (iblk m c 6 t) := by
  unfold X0_0 X0_2 X0_3
  frame_out
  simp (discharger := rfl) only [N13, N14, N15, N22, N23, N24, N34, N39, N40, N41, N51, N57, N58, N59, N20, N21, N37, N38, N54, N30, N31, N32, N33, N45, N46, N47, N17, N50, N56, N25, N35, N42, N52, N3, N4, N5, N6, N8, P11_0, P19, P29, P36, P44, P53, P10]

theorem sout0_A_0_eq (c : Dev nD) (t : Fin cfg0.N) (h0 : t.val % 17 = 0) (d0 d2 d3) :
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (XD0_0 m c t d0) (iblk m c 1 t) (XD0_2 m c t d2) (XD0_3 m c t d3) (iblk m c 4 t) (iblk m c 5 t) (iblk m c 6 t)
      = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (X0_0 m c t) (iblk m c 1 t) (X0_2 m c t) (X0_3 m c t) (iblk m c 4 t) (iblk m c 5 t) (iblk m c 6 t) := by
  unfold X0_0 X0_2 X0_3
  frame_out

theorem out0_B_7_eq (c : Dev nD) (t : Fin cfg0.N) (h0 : ¬t.val % 17 = 0) (d0 d2 d3) (xo8 : Vec Ideal S2880x1536 .f32) (xs0 : Vec Ideal S2880x1536 .fp8e4m3) :
    out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (XD0_0 m c t d0) (iblk m c 1 t) (XD0_2 m c t d2) (XD0_3 m c t d3) (iblk m c 4 t) (iblk m c 5 t) (iblk m c 6 t) xo8 xs0
      = out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (X0_0 m c t) (iblk m c 1 t) (X0_2 m c t) (X0_3 m c t) (iblk m c 4 t) (iblk m c 5 t) (iblk m c 6 t) xo8 xs0 := by
  unfold X0_0 X0_2 X0_3
  frame_out
  simp (discharger := rfl) only [N13, N14, N15, N22, N23, N24, N34, N39, N40, N41, N51, N57, N58, N59, N20, N21, N37, N38, N54, N30, N31, N32, N33, N45, N46, N47, N17, N50, N56, N25, N35, N42, N52, N3, N4, N5, N6, N8, P11_0, P19, P29, P36, P44, P53, P10]

theorem out0_B_8_eq (c : Dev nD) (t : Fin cfg0.N) (h0 : ¬t.val % 17 = 0) (d0 d2 d3) (xo8 : Vec Ideal S2880x1536 .f32) (xs0 : Vec Ideal S2880x1536 .fp8e4m3) :
    out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (XD0_0 m c t d0) (iblk m c 1 t) (XD0_2 m c t d2) (XD0_3 m c t d3) (iblk m c 4 t) (iblk m c 5 t) (iblk m c 6 t) xo8 xs0
      = out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (X0_0 m c t) (iblk m c 1 t) (X0_2 m c t) (X0_3 m c t) (iblk m c 4 t) (iblk m c 5 t) (iblk m c 6 t) xo8 xs0 := by
  unfold X0_0 X0_2 X0_3
  frame_out
  simp (discharger := rfl) only [N13, N14, N15, N22, N23, N24, N34, N39, N40, N41, N51, N57, N58, N59, N20, N21, N37, N38, N54, N30, N31, N32, N33, N45, N46, N47, N17, N50, N56, N25, N35, N42, N52, N3, N4, N5, N6, N8, P11_0, P19, P29, P36, P44, P53, P10]

end Cert.AttnIdeal.Hand

end
-- ==== Proof.AttnIdeal.Frame.lean ====
/- The run of the attention call with what it leaves, and its frame. -/
module

public import proofs.«01_k».proof.Proof.AttnIdeal.Indep
public import Idealize.ShloMosaic.Lib.Claim
public import Idealize.ShloMosaic.Lib.Pipeline.ValueKit
public import Idealize.ShloMosaic.Lib.Pipeline.ReadBack
public import Idealize.ShloMosaic.Lib.Pointwise

@[expose] public section

-- membership in a rectangle of production extents (`View.cover_of_tiled`): the elaborator's structural look
-- recurses once per coordinate of the long axes
set_option maxRecDepth 16384

noncomputable section

namespace Cert.AttnIdeal.Hand

open Cert.AttnIdeal Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)
/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2) ∗ (∃ d, owns (c : Thread nD τ) scM0_1 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2) ∗ (∃ d, owns (c : Thread nD τ) scM0_1 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => X0_2 m c t
    | ⟨3, _⟩ => X0_3 m c t
    | ⟨4, _⟩ => iblk m c 4 t
    | ⟨5, _⟩ => iblk m c 5 t
    | ⟨6, _⟩ => iblk m c 6 t
    | ⟨7, _⟩ => (outsAt0 m c t.val t.isLt).1
    | ⟨8, _⟩ => (outsAt0 m c t.val t.isLt).2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = X0_0 m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]
theorem after0_8 (c : Dev nD) (t : Fin cfg0.N) : (dats m 0 c).after 8 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = XD0_0 m c t d :=
  before0_0_of m (dats m 0 c) (A_eq m c 0) t d
theorem left0_0 (c : Dev nD) (t : Fin cfg0.N) (d) :
    win0_0.fill (grid0.coords t) d (win0_0.cut (grid0.coords t) ((dats m 0 c).after 0 t)) = XD0_0 m c t d := by
  rw [after0_0]; unfold X0_0 XD0_0; rw [Pipeline.Window.cut_fill]
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = XD0_2 m c t d :=
  before0_2_of m (dats m 0 c) (A_eq m c 2) t d
theorem left0_2 (c : Dev nD) (t : Fin cfg0.N) (d) :
    win0_2.fill (grid0.coords t) d (win0_2.cut (grid0.coords t) ((dats m 0 c).after 2 t)) = XD0_2 m c t d := by
  rw [after0_2]; unfold X0_2 XD0_2; rw [Pipeline.Window.cut_fill]
theorem before0_3 (c : Dev nD) (t : Fin cfg0.N) (d) : (dats m 0 c).before 3 t d = XD0_3 m c t d :=
  before0_3_of m (dats m 0 c) (A_eq m c 3) t d
theorem left0_3 (c : Dev nD) (t : Fin cfg0.N) (d) :
    win0_3.fill (grid0.coords t) d (win0_3.cut (grid0.coords t) ((dats m 0 c).after 3 t)) = XD0_3 m c t d := by
  rw [after0_3]; unfold X0_3 XD0_3; rw [Pipeline.Window.cut_fill]
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
/-- At a point of case B output 8's current staging buffer holds what the body left at the point before: the point is
    not the first, the buffer was not written back between (`flush0_8`), the window is live and uncut (Lib/Pipeline/Frame.lean
    `Dat.before_out_kept`). -/
theorem before0_8_B (c : Dev nD) (t : Fin cfg0.N) (h0 : ¬t.val % 17 = 0) (d) :
    (dats m 0 c).before 8 t d = (outsAt0 m c (t.val - 1) (Nat.lt_of_le_of_lt (Nat.sub_le _ _) t.isLt)).2.1 := by
  have hN : t.val < 17 := lt_of_lt_of_eq t.isLt (show cfg0.N = 17 from N_0)
  rw [Dat.before_out_kept _ 8 rfl t (by omega) (Bool.eq_false_iff.mpr fun h => by have := (flush0_8 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (∃ d, owns (c : Thread nD τ) (ms0_0 t) fullShare (XD0_0 m c t d))
    ∗ owns (c : Thread nD τ) (ms0_1 t) fullShare ((dats m 0 c).after 1 t)
    ∗ (∃ d, owns (c : Thread nD τ) (ms0_2 t) fullShare (XD0_2 m c t d))
    ∗ (∃ d, owns (c : Thread nD τ) (ms0_3 t) fullShare (XD0_3 m c t d))
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare (win0_7.fill (grid0.coords t) d (win0_7.cut (grid0.coords t) ((dats m 0 c).after 7 t))))
    ∗ owns (c : Thread nD τ) (ms0_8 t) fullShare ((dats m 0 c).after 8 t))

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_1, after0_4, after0_5, after0_6, after0_7, after0_8]
  rw [show (dats m 0 c).Φ t.succ = PhiS m c (t.val + 1) t.isLt from rfl, PhiS_succ]
  have hN : t.val < 17 := lt_of_lt_of_eq t.isLt (show cfg0.N = 17 from N_0)
  by_cases h0 : t.val % 17 = 0
  · by_cases hz : t.val = 0
    · rw [PhiS_castSucc m c t, PhiS_zero m c _ _ hz, PhiA0_eq]
      rw [outsAt0_A m c t h0]
      dsimp only
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      rw [← out0_A_7_eq m c t h0 d0 d2 d3, ← out0_A_8_eq m c t h0 d0 d2 d3, ← sout0_A_0_eq m c t h0 d0 d2 d3]
      unfold out0_A_7 out0_A_8 sout0_A_0
      iapply ((kernelRun0_A c (grid0.coords t) _ _ _ _ _ _ _ _ _ _ _ _ _ _ _ _ _ _ _ _ _ _ ((hcond0_0 t).mpr h0) (XD0_0 m c t d0) (iblk m c 1 t) (XD0_2 m c t d2) (XD0_3 m c t d3) (iblk m c 4 t) (iblk m c 5 t) (iblk m c 6 t)).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexact HS0
      isplitl [HS1]; · iexact HS1
      iintro ⟨H0, H1, H2, H3, H4, H5, H6, ⟨%e7, H7⟩, ⟨%e8, H8⟩, ⟨%es0, HS0⟩, ⟨%fT1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _)
          iexists _; unfold owns; iexists _; isplitr
          swap; · iexact HS1
          ipureintro; rfl
        iexact Hg
      isplitl [Ho]; · iexact Ho
      isplitl [H0]; · iexists d0; iexact H0
      isplitl [H1]; · iexact H1
      isplitl [H2]; · iexists d2; iexact H2
      isplitl [H3]; · iexists d3; iexact H3
      isplitl [H4]; · iexact H4
      isplitl [H5]; · iexact H5
      isplitl [H6]; · iexact H6
      isplitl [H7]
      · iexists _
        rw [Pipeline.Window.fill_cut]
        unfold owns; iexists _; isplitr
        swap; · iexact H7
        ipureintro; exact View.read_writes_of_cover _ _ _ _ _ (cover0_A_7 c _ _ _ _ _ _ _ _ _ _ _ _ _ _ _ _ _ _ _ _ _ _ _ _ _ _ _ _ _ _ _)
      unfold owns; iexists _; isplitr
      swap; · iexact H8
      ipureintro; exact View.read_writes_of_cover _ _ _ _ _ (cover0_A_8 c _ _ _ _ _ _ _ _ _ _ _ _ _ _ _ _ _ _ _ _ _ _ _ _ _ _ _ _ _ _ _)
    · exfalso; have hN : t.val < 17 := lt_of_lt_of_eq t.isLt (show cfg0.N = 17 from N_0); omega
  · by_cases hz : t.val = 0
    · exfalso; have hN : t.val < 17 := lt_of_lt_of_eq t.isLt (show cfg0.N = 17 from N_0); omega
    · rw [PhiS_castSucc m c t, PhiS_pos m c _ _ hz]
      rw [outsAt0_B m c t h0]
      simp only [before0_8_B m c t h0]
      unfold sout0_B_0; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      rw [← out0_B_7_eq m c t h0 d0 d2 d3, ← out0_B_8_eq m c t h0 d0 d2 d3]
      unfold out0_B_7 out0_B_8
      iapply ((kernelRun0_B c (grid0.coords t) _ _ _ _ _ _ _ _ _ _ _ _ _ _ _ _ _ _ _ _ _ _ (fun h => h0 ((hcond0_0 t).mp h)) (XD0_0 m c t d0) (iblk m c 1 t) (XD0_2 m c t d2) (XD0_3 m c t d3) (iblk m c 4 t) (iblk m c 5 t) (iblk m c 6 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [HS0]; · iexact HS0
      isplitl [HS1]; · iexact HS1
      iintro ⟨H0, H1, H2, H3, H4, H5, H6, ⟨%e7, H7⟩, ⟨%e8, H8⟩, HS0, ⟨%fT1, HS1⟩⟩
      isplitl [HS0 HS1 Hg]
      · isplitl [HS0 HS1]
        · isplitl [HS0]
          · iexact HS0
          iexists _; unfold owns; iexists _; isplitr
          swap; · iexact HS1
          ipureintro; rfl
        iexact Hg
      isplitl [Ho]; · iexact Ho
      isplitl [H0]; · iexists d0; iexact H0
      isplitl [H1]; · iexact H1
      isplitl [H2]; · iexists d2; iexact H2
      isplitl [H3]; · iexists d3; iexact H3
      isplitl [H4]; · iexact H4
      isplitl [H5]; · iexact H5
      isplitl [H6]; · iexact H6
      isplitl [H7]
      · iexists _
        rw [Pipeline.Window.fill_cut]
        unfold owns; iexists _; isplitr
        swap; · iexact H7
        ipureintro; exact View.read_writes_of_cover _ _ _ _ _ (cover0_B_7 c _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover0_B_8 c _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : Pipeline.BodyObligationLoose (dats m 0 c) (defs₀ (F := Ideal)) Variants.none () Set.univ := fun t => by
  rw [bigSep_W0, bigSep_W0, defs₀_row]
  refine triple_restated (sound_body m c t) rfl .rfl fun _ => ?_
  unfold bodyPost
  iintro ⟨HP, Ho, ⟨%d0, H0⟩, H1, ⟨%d2, H2⟩, ⟨%d3, H3⟩, H4, H5, H6, H7, H8⟩
  isplitl [HP]; · iexact HP
  isplitl [Ho]; · iexact Ho
  isplitl [H0]
  · iexists d0
    rw [← left0_0 m c t d0]; iexact H0
  isplitl [H1]; · iexact H1
  isplitl [H2]
  · iexists d2
    rw [← left0_2 m c t d2]; iexact H2
  isplitl [H3]
  · iexists d3
    rw [← left0_3 m c t d3]; iexact H3
  isplitl [H4]; · iexact H4
  isplitl [H5]; · iexact H5
  isplitl [H6]; · iexact H6
  isplitl [H7]; · iexact H7
  iexact H8

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 17 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := Ideal))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- THE FRAME: `Cert.quiescent_AttnIdeal`'s statement (Defs.lean) at any `F` — Proof.lean cites it at `Bits`:
    `theorem Cert.Proof.claim : Cert.Claim := ⟨Cert.AttnIdeal.Gen.facts, fun m ρ _ => Cert.AttnIdeal.Gen.frame m ρ⟩`. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.AttnIdeal.Hand

end
-- ==== Proof.AttnIdeal.Value.lean ====
/- The run of the attention call with its two output arrays named and the arguments unchanged. -/
module

public import proofs.«01_k».proof.Proof.AttnIdeal.Frame
public import Idealize.ShloMosaic.Lib.Pipeline.Value

@[expose] public section

noncomputable section

namespace Cert.AttnIdeal.Hand

open Cert.AttnIdeal Cert.AttnIdeal.Gen

open Cert.AttnIdeal Cert.AttnIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- After the frame run, output window 7's array is `(dats m 0 c).arrAt 7 N`. -/
theorem post7 (r : PUnit × MemSt nD τ sig (Elt Ideal)) (h : Pipeline.FramePost cfgs (dats m) 0 (V m) r) (c : Dev nD) :
    r.2.mem ((c : Thread nD τ).loc main_v7_0) = (dats m 0 c).arrAt 7 cfg0.N :=
  (h c).1 7

/-- After the frame run, output window 8's array is `(dats m 0 c).arrAt 8 N`. -/
theorem post8 (r : PUnit × MemSt nD τ sig (Elt Ideal)) (h : Pipeline.FramePost cfgs (dats m) 0 (V m) r) (c : Dev nD) :
    r.2.mem ((c : Thread nD τ).loc main_v7_1) = (dats m 0 c).arrAt 8 cfg0.N :=
  (h c).1 8

/-- After the frame run, argument `main_arg0` is as launched: no window stages it, and the run leaves the region's other buffers as they were. -/
theorem kept_main_arg0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 1 stages it and never writes it back. -/
theorem kept_main_arg1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: no window stages it, and the run leaves the region's other buffers as they were. -/
theorem kept_main_arg2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: input window 5 stages it and never writes it back. -/
theorem kept_main_arg3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).1 5).trans (((dats m 0 c).arrAt_in 5 rfl _).trans ((A_eq m c 5).trans (V_main_arg3 m c)))

/-- After the frame run, argument `main_arg4` is as launched: no window stages it, and the run leaves the region's other buffers as they were. -/
theorem kept_main_arg4 (r : PUnit × MemSt nD τ sig (Elt Ideal)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt Ideal)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt Ideal)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- The frame run with each output array after the run NAMED — `(dats m 0 c).arrAt w N`, which `blocks_w` / `entry_w` read —,
    the arguments unchanged. -/
theorem run_blocks : θ_run defs (onTc (τ := τ) (main (F := Ideal))) ⟨m, fun _ => 0, ρ⟩ fun r => ∀ c : Dev nD,
      r.2.mem ((c : Thread nD τ).loc main_v7_0) = (dats m 0 c).arrAt 7 cfg0.N
      ∧ r.2.mem ((c : Thread nD τ).loc main_v7_1) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨post7 m r h c,
      post8 m r h c,
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

end Cert.AttnIdeal.Hand

end
-- ==== Proof.AttnIdeal.State.lean ====
module

public import proofs.«01_k».proof.Proof.AttnIdeal.Value
public import proofs.«01_k».proof.Proof.Mlp.State
public import Idealize.ShloMosaic.Lib.Pipeline.ValueKit
public import Idealize.ShloMosaic.Lib.Pipeline.ReadBack
public import Idealize.ShloMosaic.Lib.Pointwise

@[expose] public section

set_option maxRecDepth 16384
noncomputable section
open Idealize.ShloMosaic Idealize.ShloMosaic.TcCoe Idealize.SL.Sem
open Idealize.ShloMosaic.Pipeline (Dat)
namespace Cert.AttnIdeal.Hand
open Cert.AttnIdeal Cert.AttnIdeal.Gen
open Cert.MlpIdeal.Hand (readCov_whole ld_rows canon_drop)
variable (m : (ℓ : Loc nD τ sig) → Buf (Elt Ideal) ℓ)

/-- A row of the weight gradient's block over the tokens of six batch entries side by side. -/
def six (f : Fin 6 → Fin 256 → EReal) (k : Fin 1536) : EReal := f ⟨k.val / 256, by omega⟩ ⟨k.val % 256, by omega⟩

theorem six_eq (f : Fin 6 → Fin 256 → EReal) (k : Fin 1536) :
    (if h : k.val < 256 then f 0 ⟨k.val, h⟩ else if h : k.val - 256 < 256 then f 1 ⟨k.val - 256, h⟩
      else if h : k.val - 256 - 256 < 256 then f 2 ⟨k.val - 256 - 256, h⟩ else if h : k.val - 256 - 256 - 256 < 256 then f 3 ⟨k.val - 256 - 256 - 256, h⟩
      else if h : k.val - 256 - 256 - 256 - 256 < 256 then f 4 ⟨k.val - 256 - 256 - 256 - 256, h⟩
      else f 5 ⟨k.val - 256 - 256 - 256 - 256 - 256, by omega⟩) = six f k := by
  unfold six
  split_ifs <;> (congr 1 <;> (apply Fin.ext; simp; omega))

theorem pay18_at (q : FVec Ideal S512x256 .fp8e5m2) (a b : FVec Ideal S1x256 .f32) (j : Fin 512) (s : Fin 256) :
    k0_pay18 (F := Ideal) q a b (ix2 j s) = q (ix2 j s) * (a (ix2 (0 : Fin 1) s) * b (ix2 (0 : Fin 1) s)) := by
  pointwise [k0_pay18]

theorem pay12_at (q : FVec Ideal S512x256 .fp8e5m2) (acc : FVec Ideal S576x256 .f32) (w : FVec Ideal S576x512 .bf16) (r : Fin 576) (s : Fin 256) :
    k0_pay12 (F := Ideal) q acc w (ix2 r s) = acc (ix2 r s) + ∑ x, w (ix2 r x) * q (ix2 x s) := by
  pointwise [k0_pay12]

theorem pay2_at (x : FVec Ideal S1x2880x256 .fp8e4m3) (r : Fin 2880) (s : Fin 256) :
    k0_pay2 (F := Ideal) x (ix2 r s) = x (ix3 (0 : Fin 1) r s) := by
  pointwise [k0_pay2]

theorem pay9_at (j : S2880x1536.Idx) : k0_pay9 (F := Ideal) j = 0 := by
  pointwise [k0_pay9]

/-- One element of a block of the weight gradient. -/
def DW (r : Fin 1536 → EReal) (x : Fin 1536 → EReal) (g : EReal) : EReal := (∑ k, r k * x k) * g

theorem pay1_gen (q0 q1 q2 q3 q4 q5 : FVec Ideal S512x256 .bf16) (u : FVec Ideal S1x256 .bf16) (x : FVec Ideal S2880x1536 .fp8e4m3) (g : FVec Ideal S1x2880 .f32)
    (j : Fin 512) (d : Fin 2880) :
    k0_pay1 (F := Ideal) q0 q1 q2 q3 q4 q5 u x g (ix2 j d) = DW (six fun b s => (![fun s => q0 (ix2 j s), fun s => q1 (ix2 j s), fun s => q2 (ix2 j s),
      fun s => q3 (ix2 j s), fun s => q4 (ix2 j s), fun s => q5 (ix2 j s) * u (ix2 (0 : Fin 1) s)] : Fin 6 → Fin 256 → EReal) b s) (fun k => x (ix2 d k)) (g (ix2 (0 : Fin 1) d)) := by
  pointwise [k0_pay1]
  unfold DW
  refine congrArg (fun z : EReal => z * g (ix2 (0 : Fin 1) d)) (Finset.sum_congr rfl fun k _ => congrArg (fun z : EReal => z * x (ix2 d k)) ?_)
  rw [← six_eq]
  rfl

theorem pay60_at (q : FVec Ideal S512x256 .fp8e5m2) (j : Fin 512) (s : Fin 256) : k0_pay60 (F := Ideal) q (ix2 j s) = q (ix2 j s) := by
  pointwise [k0_pay60]

theorem pay61_at (a b : FVec Ideal S1x256 .f32) (s : Fin 256) : k0_pay61 (F := Ideal) a b (ix2 (0 : Fin 1) s) = a (ix2 (0 : Fin 1) s) * b (ix2 (0 : Fin 1) s) := by
  pointwise [k0_pay61]

/-- A row of the block of token scales. -/
theorem ldS (w : FVec Ideal S6x256 .f32) (o : ℕ) (b : Fin 6) (hb : b.val = o) (inb : ∀ a, (![o, 0] : Fin 2 → ℕ) a + (![1, 256] : Fin 2 → ℕ) a ≤ S6x256.size a) (s : Fin 256) :
    (View.ld w (Rect.unit (s := S6x256) ![o, 0] ![1, 256] inb) : Vec Ideal S1x256 .f32) (ix2 (0 : Fin 1) s) = w (ix2 b s) := by
  refine congrArg w (funext fun a => Fin.ext ?_)
  fin_cases a
  · show o + 1 * 0 = b.val
    omega
  · show 0 + 1 * s.val = s.val
    omega

theorem pay1_at (c0 : Dev nD) (t : Fin cfg0.N) (u v : FVec Ideal S6x256 .f32) (x : FVec Ideal S2880x1536 .fp8e4m3) (g : FVec Ideal S1x2880 .f32)
    (i0 : ∀ a, (![0, 0] : Fin 2 → ℕ) a + (![1, 256] : Fin 2 → ℕ) a ≤ S6x256.size a) (i0' : ∀ a, (![0, 0] : Fin 2 → ℕ) a + (![1, 256] : Fin 2 → ℕ) a ≤ S6x256.size a) (i1 : ∀ a, (![1, 0] : Fin 2 → ℕ) a + (![1, 256] : Fin 2 → ℕ) a ≤ S6x256.size a) (i1' : ∀ a, (![1, 0] : Fin 2 → ℕ) a + (![1, 256] : Fin 2 → ℕ) a ≤ S6x256.size a) (i2 : ∀ a, (![2, 0] : Fin 2 → ℕ) a + (![1, 256] : Fin 2 → ℕ) a ≤ S6x256.size a) (i2' : ∀ a, (![2, 0] : Fin 2 → ℕ) a + (![1, 256] : Fin 2 → ℕ) a ≤ S6x256.size a) (i3 : ∀ a, (![3, 0] : Fin 2 → ℕ) a + (![1, 256] : Fin 2 → ℕ) a ≤ S6x256.size a) (i3' : ∀ a, (![3, 0] : Fin 2 → ℕ) a + (![1, 256] : Fin 2 → ℕ) a ≤ S6x256.size a) (i4 : ∀ a, (![4, 0] : Fin 2 → ℕ) a + (![1, 256] : Fin 2 → ℕ) a ≤ S6x256.size a) (i4' : ∀ a, (![4, 0] : Fin 2 → ℕ) a + (![1, 256] : Fin 2 → ℕ) a ≤ S6x256.size a) (i5 : ∀ a, (![5, 0] : Fin 2 → ℕ) a + (![1, 256] : Fin 2 → ℕ) a ≤ S6x256.size a) (i5' : ∀ a, (![5, 0] : Fin 2 → ℕ) a + (![1, 256] : Fin 2 → ℕ) a ≤ S6x256.size a) (j : Fin 512) (d : Fin 2880) :
    k0_pay1 (F := Ideal) (k0_pay18 (BQ m c0 t 0) (View.ld u (Rect.unit (s := S6x256) ![0, 0] ![1, 256] i0)) (View.ld v (Rect.unit (s := S6x256) ![0, 0] ![1, 256] i0')))
      (k0_pay18 (BQ m c0 t 1) (View.ld u (Rect.unit (s := S6x256) ![1, 0] ![1, 256] i1)) (View.ld v (Rect.unit (s := S6x256) ![1, 0] ![1, 256] i1')))
      (k0_pay18 (BQ m c0 t 2) (View.ld u (Rect.unit (s := S6x256) ![2, 0] ![1, 256] i2)) (View.ld v (Rect.unit (s := S6x256) ![2, 0] ![1, 256] i2')))
      (k0_pay18 (BQ m c0 t 3) (View.ld u (Rect.unit (s := S6x256) ![3, 0] ![1, 256] i3)) (View.ld v (Rect.unit (s := S6x256) ![3, 0] ![1, 256] i3')))
      (k0_pay18 (BQ m c0 t 4) (View.ld u (Rect.unit (s := S6x256) ![4, 0] ![1, 256] i4)) (View.ld v (Rect.unit (s := S6x256) ![4, 0] ![1, 256] i4')))
      (k0_pay60 (BQ m c0 t 5)) (k0_pay61 (View.ld u (Rect.unit (s := S6x256) ![5, 0] ![1, 256] i5)) (View.ld v (Rect.unit (s := S6x256) ![5, 0] ![1, 256] i5'))) x g (ix2 j d)
      = DW (six fun b s => bq m c0 t b j s * (u (ix2 b s) * v (ix2 b s))) (fun k => x (ix2 d k)) (g (ix2 (0 : Fin 1) d)) := by
  rw [pay1_gen]
  refine congrArg (fun r => DW (six r) _ _) (funext fun b => funext fun s => ?_)
  fin_cases b
  · exact (pay18_at _ _ _ j s).trans (congrArg (fun z : EReal => bq m c0 t 0 j s * z) (congrArg₂ (fun a b : EReal => a * b) (ldS u 0 0 rfl i0 s) (ldS v 0 0 rfl i0' s)))
  · exact (pay18_at _ _ _ j s).trans (congrArg (fun z : EReal => bq m c0 t 1 j s * z) (congrArg₂ (fun a b : EReal => a * b) (ldS u 1 1 rfl i1 s) (ldS v 1 1 rfl i1' s)))
  · exact (pay18_at _ _ _ j s).trans (congrArg (fun z : EReal => bq m c0 t 2 j s * z) (congrArg₂ (fun a b : EReal => a * b) (ldS u 2 2 rfl i2 s) (ldS v 2 2 rfl i2' s)))
  · exact (pay18_at _ _ _ j s).trans (congrArg (fun z : EReal => bq m c0 t 3 j s * z) (congrArg₂ (fun a b : EReal => a * b) (ldS u 3 3 rfl i3 s) (ldS v 3 3 rfl i3' s)))
  · exact (pay18_at _ _ _ j s).trans (congrArg (fun z : EReal => bq m c0 t 4 j s * z) (congrArg₂ (fun a b : EReal => a * b) (ldS u 4 4 rfl i4 s) (ldS v 4 4 rfl i4' s)))
  · exact congrArg₂ (fun a b : EReal => a * b) (pay60_at _ j s) ((pay61_at _ _ s).trans (congrArg₂ (fun a b : EReal => a * b) (ldS u 5 5 rfl i5 s) (ldS v 5 5 rfl i5' s)))

/-- The two blocks of token scales at a grid point. -/
def X5 (c : Dev nD) (t : Fin cfg0.N) : FVec Ideal S6x256 .f32 := iblk m c 5 t
def X1 (c : Dev nD) (t : Fin cfg0.N) : FVec Ideal S6x256 .f32 := iblk m c 1 t

/-- One element of the accumulated input gradient after a block. -/
def DH (c : Dev nD) (t : Fin cfg0.N) (acc : EReal) (d : Fin 2880) (k : Fin 1536) : EReal :=
  acc + ∑ j : Fin 512, ws m c t d j * bq m c t ⟨k.val / 256, by omega⟩ j ⟨k.val % 256, by omega⟩

theorem ldW (w : FVec Ideal S2880x512 .bf16) (o : ℕ) (inb : ∀ a, (![o, 0] : Fin 2 → ℕ) a + (![576, 512] : Fin 2 → ℕ) a ≤ S2880x512.size a)
    (x : Fin 576) (j : Fin 512) (d : Fin 2880) (h : d.val = o + x.val) :
    (View.ld w (Rect.unit (s := S2880x512) ![o, 0] ![576, 512] inb) : Vec Ideal S576x512 .bf16) (ix2 x j) = w (ix2 d j) := by
  refine congrArg w (funext fun a => Fin.ext ?_)
  fin_cases a
  · show o + 1 * x.val = d.val
    omega
  · show 0 + 1 * j.val = j.val
    omega

theorem tile_at (c : Dev nD) (t : Fin cfg0.N) (X : FVec Ideal S2880x1536 .f32) (b : Fin 6) (ro co : ℕ) (inb : ∀ a, (![ro, co] : Fin 2 → ℕ) a + (![576, 256] : Fin 2 → ℕ) a ≤ S2880x1536.size a) (inb2 : ∀ a, (![ro, 0] : Fin 2 → ℕ) a + (![576, 512] : Fin 2 → ℕ) a ≤ S2880x512.size a) (x0 : Fin 576) (x1 : Fin 256)
    (d : Fin 2880) (k : Fin 1536) (h0 : d.val = ro + x0.val) (h1 : k.val = co + x1.val) (hb : co = 256 * b.val) :
    k0_pay12 (F := Ideal) (BQ m c t b) (View.ld X (Rect.unit (s := S2880x1536) ![ro, co] ![576, 256] inb)) (View.ld (WS m c t) (Rect.unit (s := S2880x512) ![ro, 0] ![576, 512] inb2)) (ix2 x0 x1)
      = DH m c t (X (ix2 d k)) d k := by
  rw [pay12_at]
  unfold DH
  have hk : (⟨k.val / 256, by omega⟩ : Fin 6) = b := Fin.ext (by dsimp only; omega)
  have hk' : (⟨k.val % 256, by omega⟩ : Fin 256) = x1 := Fin.ext (by dsimp only; omega)
  rw [hk, hk']
  refine congrArg₂ (fun a b : EReal => a + b) ?_ (Finset.sum_congr rfl fun j _ => congrArg (fun z : EReal => z * bq m c t b j x1) ?_)
  · refine congrArg X (funext fun a => Fin.ext ?_)
    fin_cases a
    · show ro + 1 * x0.val = d.val
      omega
    · show co + 1 * x1.val = k.val
      omega
  · exact ldW (WS m c t) ro inb2 x0 j d h0

/-- The carried scratch at a later point is what the point before left. -/
theorem scratch_B (c : Dev nD) (t : Fin cfg0.N) (h : ¬ t.val % 17 = 0) :
    (outsAt0 m c t.val t.isLt).2.2 = (outsAt0 m c (t.val - 1) (Nat.lt_of_le_of_lt (Nat.sub_le _ _) t.isLt)).2.2 := by
  rw [outsAt0_B m c t h]; rfl

theorem dw_B (c : Dev nD) (t : Fin cfg0.N) (h : ¬ t.val % 17 = 0) (j : Fin 512) (d : Fin 2880) :
    (outsAt0 m c t.val t.isLt).1 (ix2 j d) = DW (six fun b s => bq m c t b j s * (X5 m c t (ix2 b s) * X1 m c t (ix2 b s)))
      (fun k => (outsAt0 m c t.val t.isLt).2.2 (ix2 d k)) (iblk m c 6 t (ix2 (0 : Fin 1) d)) := by
  rw [scratch_B m c t h]
  rw [outsAt0_B m c t h]; unfold X0_0 X0_2 X0_3; frame_out; simp only [read_unread_whole]
  simp (discharger := rfl) only [N13, N14, N15, N22, N23, N24, N34, N39, N40, N41, N51, N57, N58, N59, N20, N21, N37, N38, N54, N30, N31, N32, N33, N45, N46, N47, N17, N50, N56, N25, N35, N42, N52, N3, N4, N5, N6, N8, P11_0, P19, P29, P36, P44, P53, P10]
  exact pay1_at m c t _ _ _ _ _ _ _ _ _ _ _ _ _ _ _ _ _ _

theorem dw_A (c : Dev nD) (t : Fin cfg0.N) (h : t.val % 17 = 0) (j : Fin 512) (d : Fin 2880) :
    (outsAt0 m c t.val t.isLt).1 (ix2 j d) = DW (six fun b s => bq m c t b j s * (X5 m c t (ix2 b s) * X1 m c t (ix2 b s)))
      (fun k => (outsAt0 m c t.val t.isLt).2.2 (ix2 d k)) (iblk m c 6 t (ix2 (0 : Fin 1) d)) := by
  generalize hI : (outsAt0 m c t.val t.isLt).2.2 = I
  rw [outsAt0_A m c t h] at hI
  frame_out at hI
  rw [outsAt0_A m c t h]; unfold X0_0 X0_2 X0_3; frame_out
  simp (discharger := decide) only [↓readCov_whole]
  simp (discharger := rfl) only [N13, N14, N15, N22, N23, N24, N34, N39, N40, N41, N51, N57, N58, N59, N20, N21, N37, N38, N54, N30, N31, N32, N33, N45, N46, N47, N17, N50, N56, N25, N35, N42, N52, N3, N4, N5, N6, N8, P11_0, P19, P29, P36, P44, P53, P10]
  subst hI
  exact pay1_at m c t _ _ _ _ _ _ _ _ _ _ _ _ _ _ _ _ _ _

theorem dh_B (c : Dev nD) (t : Fin cfg0.N) (h : ¬ t.val % 17 = 0) (d : Fin 2880) (k : Fin 1536) :
    (outsAt0 m c t.val t.isLt).2.1 (ix2 d k) =
      DH m c t ((outsAt0 m c (t.val - 1) (Nat.lt_of_le_of_lt (Nat.sub_le _ _) t.isLt)).2.1 (ix2 d k)) d k := by
  rw [outsAt0_B m c t h]; unfold X0_0 X0_2 X0_3; frame_out
  simp (discharger := rfl) only [N13, N14, N15, N22, N23, N24, N34, N39, N40, N41, N51, N57, N58, N59, N20, N21, N37, N38, N54, N30, N31, N32, N33, N45, N46, N47, N17, N50, N56, N25, N35, N42, N52, N3, N4, N5, N6, N8, P11_0, P19, P29, P36, P44, P53, P10]
  simp only [View.readCov_eq_canon']
  rw [View.canon_unit_zero (S := S2880x512) (by decide)]
  canon_tiles x hx
  all_goals
    idx_vars x
    exact tile_at m c t _ _ _ _ _ _ _ _ d k (by omega) (by omega) rfl

theorem dh_A (c : Dev nD) (t : Fin cfg0.N) (h : t.val % 17 = 0) (d : Fin 2880) (k : Fin 1536) :
    (outsAt0 m c t.val t.isLt).2.1 (ix2 d k) = DH m c t 0 d k := by
  rw [outsAt0_A m c t h]; unfold X0_0 X0_2 X0_3; frame_open
  simp (discharger := decide) only [↓View.readCov_skip, ↓View.readCov_fill]
  frame_out
  simp (discharger := rfl) only [N13, N14, N15, N22, N23, N24, N34, N39, N40, N41, N51, N57, N58, N59, N20, N21, N37, N38, N54, N30, N31, N32, N33, N45, N46, N47, N17, N50, N56, N25, N35, N42, N52, N3, N4, N5, N6, N8, P11_0, P19, P29, P36, P44, P53, P10]
  refine (canon_drop [_] _ [_, _, _, _, _, _, _, _, _, _, _, _, _, _, _, _, _, _, _, _, _, _, _, _, _, _, _, _, _, _] ?_).trans ?_
  · refine View.cover_of_tiledL (s := S2880x1536) _ ![576, 256] ?_ _
    sl_kernel_rfl
  canon_tiles x hx
  all_goals
    idx_vars x
    exact (tile_at m c t _ _ _ _ _ _ _ _ d k (by omega) (by omega) rfl).trans (by rw [pay9_at])

/-- The carried scratch: the values of the six batch entries side by side. -/
theorem x_A (c : Dev nD) (t : Fin cfg0.N) (h : t.val % 17 = 0) (d : Fin 2880) (k : Fin 1536) :
    (outsAt0 m c t.val t.isLt).2.2 (ix2 d k) = (iblk m c 4 t : FVec Ideal S6x2880x256 .fp8e4m3) (ix3 ⟨k.val / 256, by omega⟩ d ⟨k.val % 256, by omega⟩) := by
  rw [outsAt0_A m c t h]; frame_out
  canon_tiles x hx
  all_goals (idx_vars x; open_payloads; pointwise)
  all_goals blk_point

end Cert.AttnIdeal.Hand
-- ==== Proof.AttnIdeal.Close.lean ====
module

public import proofs.«01_k».proof.Proof.AttnIdeal.State
public import Idealize.ShloMosaic.Lib.Pipeline.ValueKit
public import Idealize.ShloMosaic.Lib.Pipeline.ReadBack
public import Idealize.ShloMosaic.Lib.Pointwise

@[expose] public section

set_option maxRecDepth 16384
noncomputable section
open Idealize.ShloMosaic Idealize.ShloMosaic.TcCoe Idealize.SL.Sem
open Idealize.ShloMosaic.Pipeline (Dat)
namespace Cert.AttnIdeal.Hand
open Cert.AttnIdeal Cert.AttnIdeal.Gen
variable (m : (ℓ : Loc nD τ sig) → Buf (Elt Ideal) ℓ)

theorem idx' : ∀ t : Fin cfg0.N, win0_1.index t = ![0, 0] ∧ win0_4.index t = ![0, 0, 0] ∧ win0_5.index t = ![0, 0] ∧ win0_6.index t = ![0, 0] ∧
    win0_7.index t = ![t.val, 0] ∧ win0_8.index t = ![0, 0] :=
  (by decide +kernel : ∀ t : Fin grid0.N, _)

theorem x1_at (c : Dev nD) (t : Fin cfg0.N) (b : Fin 6) (s : Fin 256) :
    X1 m c t (ix2 b s) = m ((c : Thread nD τ).loc main_arg1) (ix2 b s) := by
  unfold X1
  blk_ext [iblk, V, idx' t]
theorem x5_at (c : Dev nD) (t : Fin cfg0.N) (b : Fin 6) (s : Fin 256) :
    X5 m c t (ix2 b s) = m ((c : Thread nD τ).loc main_arg3) (ix2 b s) := by
  unfold X5
  blk_ext [iblk, V, idx' t]
theorem x4_at (c : Dev nD) (t : Fin cfg0.N) (b : Fin 6) (d : Fin 2880) (s : Fin 256) :
    iblk m c 4 t (ix3 b d s) = m ((c : Thread nD τ).loc main_arg2) (ix3 b s d) := by
  have e : iblk m c 4 t (ix3 b d s) = V m c main_v0 (ix3 b d s) := by blk_ext [iblk, idx' t]
  rw [e]; entry_read; pointwise
theorem x6_at (c : Dev nD) (t : Fin cfg0.N) (d : Fin 2880) :
    iblk m c 6 t (ix2 (0 : Fin 1) d) = m ((c : Thread nD τ).loc main_arg4) (ix1 d) := by
  have e : iblk m c 6 t (ix2 (0 : Fin 1) d) = V m c main_v5 (ix2 (0 : Fin 1) d) := by blk_ext [iblk, idx' t]
  rw [e]; entry_read; pointwise

/-- The three coordinates of a row of the weight array: projection, head and place in the head. -/
def c0 (g : Fin 8640) : Fin 3 := ⟨g.val / 2880, by omega⟩
def c1 (g : Fin 8640) : Fin 18 := ⟨g.val / 160 % 18, by omega⟩
def c2 (g : Fin 8640) : Fin 160 := ⟨g.val % 160, by omega⟩

theorem DQ_at (c : Dev nD) (b : Fin 6) (g : Fin 8640) (s : Fin 256) :
    DQ m c (ix3 b g s) = m ((c : Thread nD τ).loc main_arg0) (ix5 b s (c0 g) (c1 g) (c2 g)) := by
  unfold DQ
  entry_read; pointwise
  rfl
theorem WQ_at (c : Dev nD) (g : Fin 8640) (d : Fin 2880) :
    WQ m c (ix2 g d) = m ((c : Thread nD τ).loc main_arg5) (ix4 d (c0 g) (c1 g) (c2 g)) := by
  unfold WQ
  entry_read; pointwise
  rfl
theorem SQ_at (c : Dev nD) (g : Fin 8640) :
    SQ m c (ix2 (0 : Fin 1) g) = m ((c : Thread nD τ).loc main_arg6) (ix3 (c0 g) (c1 g) (c2 g)) := by
  unfold SQ
  entry_read; pointwise
  rfl

/-- The carried scratch at every point. -/
theorem x_at (c : Dev nD) (n : ℕ) (hn : n < cfg0.N) (d : Fin 2880) (k : Fin 1536) :
    (outsAt0 m c n hn).2.2 (ix2 d k) = m ((c : Thread nD τ).loc main_arg2) (ix3 ⟨k.val / 256, by omega⟩ ⟨k.val % 256, by omega⟩ d) := by
  have hN : n < 17 := lt_of_lt_of_eq hn N_0
  induction n with
  | zero =>
    rw [x_A m c ⟨0, hn⟩ rfl]
    exact x4_at m c _ _ _ _
  | succ n ih =>
    rw [scratch_B m c ⟨n + 1, hn⟩ (by dsimp only; omega)]
    exact ih (by omega) (by omega)

/-- One row of the left operand of the weight gradient, over all tokens. -/
def rowE (a0 : FVec Ideal S6x256x3x18x160 .fp8e5m2) (a1 a3 : FVec Ideal S6x256 .f32) (g : Fin 8640) (k : Fin 1536) : EReal :=
  a0 (ix5 ⟨k.val / 256, by omega⟩ ⟨k.val % 256, by omega⟩ (c0 g) (c1 g) (c2 g)) *
    (a3 (ix2 ⟨k.val / 256, by omega⟩ ⟨k.val % 256, by omega⟩) * a1 (ix2 ⟨k.val / 256, by omega⟩ ⟨k.val % 256, by omega⟩))

/-- The weight gradient, element by element. -/
def dwE (a0 : FVec Ideal S6x256x3x18x160 .fp8e5m2) (a1 : FVec Ideal S6x256 .f32) (a2 : FVec Ideal S6x256x2880 .fp8e4m3) (a3 : FVec Ideal S6x256 .f32) (a4 : FVec Ideal S2880 .f32)
    (g : Fin 8640) (d : Fin 2880) : EReal :=
  DW (rowE a0 a1 a3 g) (fun k => a2 (ix3 ⟨k.val / 256, by omega⟩ ⟨k.val % 256, by omega⟩ d)) (a4 (ix1 d))

theorem dw_out (c : Dev nD) (t : Fin cfg0.N) (j : Fin 512) (d : Fin 2880) (g : Fin 8640) (hg : g.val = t.val * 512 + j.val) :
    (outsAt0 m c t.val t.isLt).1 (ix2 j d) = dwE (m ((c : Thread nD τ).loc main_arg0)) (m ((c : Thread nD τ).loc main_arg1)) (m ((c : Thread nD τ).loc main_arg2))
      (m ((c : Thread nD τ).loc main_arg3)) (m ((c : Thread nD τ).loc main_arg4)) g d := by
  have e := fun h => dw_A m c t h j d
  have e' := fun h => dw_B m c t h j d
  rw [(em (t.val % 17 = 0)).elim e e', dwE]
  have hl : t.val * 512 + j.val < 8640 := by have := g.isLt; omega
  have hgj : (⟨t.val * 512 + j.val, hl⟩ : Fin 8640) = g := Fin.ext hg.symm
  have h1 : (six fun b s => bq m c t b j s * (X5 m c t (ix2 b s) * X1 m c t (ix2 b s))) =
      rowE (m ((c : Thread nD τ).loc main_arg0)) (m ((c : Thread nD τ).loc main_arg1)) (m ((c : Thread nD τ).loc main_arg3)) g := by
    funext k
    unfold six rowE bq
    dsimp only
    rw [dif_pos hl, hgj]
    exact congrArg₂ (fun a b : EReal => a * b) (DQ_at m c _ g _) (congrArg₂ (fun a b : EReal => a * b) (x5_at m c t _ _) (x1_at m c t _ _))
  have h2 : (fun k => (outsAt0 m c t.val t.isLt).2.2 (ix2 d k)) = fun k : Fin 1536 => m ((c : Thread nD τ).loc main_arg2) (ix3 ⟨k.val / 256, by omega⟩ ⟨k.val % 256, by omega⟩ d) :=
    funext fun k => x_at m c _ _ d k
  rw [h1, h2, x6_at]

/-- One term of the input gradient. -/
def dhT (a0 : FVec Ideal S6x256x3x18x160 .fp8e5m2) (a5 : FVec Ideal S2880x3x18x160 .fp8e4m3) (a6 : FVec Ideal S3x18x160 .f32)
    (d : Fin 2880) (k : Fin 1536) (g : Fin 8640) : EReal :=
  a5 (ix4 d (c0 g) (c1 g) (c2 g)) * a6 (ix3 (c0 g) (c1 g) (c2 g)) * a0 (ix5 ⟨k.val / 256, by omega⟩ ⟨k.val % 256, by omega⟩ (c0 g) (c1 g) (c2 g))

/-- The input gradient, element by element. -/
def dhE (a0 : FVec Ideal S6x256x3x18x160 .fp8e5m2) (a5 : FVec Ideal S2880x3x18x160 .fp8e4m3) (a6 : FVec Ideal S3x18x160 .f32)
    (d : Fin 2880) (k : Fin 1536) : EReal :=
  ∑ g : Fin 8640, dhT a0 a5 a6 d k g

/-- The input gradient after `n + 1` blocks of 512 rows of weights. -/
theorem dh_at (c : Dev nD) (d : Fin 2880) (s : Fin 1536) (n : ℕ) (hn : n < cfg0.N) :
    (outsAt0 m c n hn).2.1 (ix2 d s) = ∑ u : Fin (n + 1), ∑ k : Fin 512,
      (if h : u.val * 512 + k.val < 8640 then dhT (m ((c : Thread nD τ).loc main_arg0)) (m ((c : Thread nD τ).loc main_arg5)) (m ((c : Thread nD τ).loc main_arg6)) d s ⟨u.val * 512 + k.val, h⟩ else 0) := by
  have hN : n < 17 := lt_of_lt_of_eq hn N_0
  have key : ∀ (t : Fin cfg0.N) (acc : EReal), DH m c t acc d s = acc + ∑ k : Fin 512,
      (if h : t.val * 512 + k.val < 8640 then dhT (m ((c : Thread nD τ).loc main_arg0)) (m ((c : Thread nD τ).loc main_arg5)) (m ((c : Thread nD τ).loc main_arg6)) d s ⟨t.val * 512 + k.val, h⟩ else 0) := by
    intro t acc
    unfold DH
    congr 1
    refine Finset.sum_congr rfl fun k _ => ?_
    unfold ws bq
    by_cases hk : t.val * 512 + k.val < 8640
    · rw [dif_pos hk, dif_pos hk, dif_pos hk]
      exact congrArg₂ (fun a b : EReal => a * b) (congrArg₂ (fun a b : EReal => a * b) (WQ_at m c ⟨_, hk⟩ d) (SQ_at m c ⟨_, hk⟩)) (DQ_at m c _ ⟨_, hk⟩ _)
    · rw [dif_neg hk, dif_neg hk, dif_neg hk, zero_mul]
  induction n with
  | zero =>
    rw [dh_A m c ⟨0, hn⟩ rfl, key ⟨0, hn⟩, zero_add, Fin.sum_univ_one]
    rfl
  | succ n ih =>
    rw [dh_B m c ⟨n + 1, hn⟩ (by dsimp only; omega), key ⟨n + 1, hn⟩]
    refine Eq.trans ?_ (Fin.sum_univ_castSucc _).symm
    refine congrArg₂ (· + ·) ?_ rfl
    exact ih (by omega) (by omega)

/-- A sum over 8640 rows is the sum over 17 blocks of 512 rows, the last one filled up with zeros. -/
theorem sum_blocks (f : Fin 8640 → EReal) :
    (∑ u : Fin 17, ∑ k : Fin 512, if h : u.val * 512 + k.val < 8640 then f ⟨u.val * 512 + k.val, h⟩ else 0) = ∑ g, f g := by
  have e := Fin.sum_univ_tiles (N := 8704) 17 512 (by norm_num) (fun g => if h : g.val < 8640 then f ⟨g.val, h⟩ else 0)
  refine e.symm.trans ?_
  rw [Fin.sum_univ_two_halves 8640 64 (by norm_num)]
  have e2 : ∀ k : Fin 64, ¬ (8640 + k.val < 8640) := fun k => by omega
  simp

theorem dh_out (c : Dev nD) (t : Fin cfg0.N) (h : t.val = 16) (d : Fin 2880) (s : Fin 1536) :
    (outsAt0 m c t.val t.isLt).2.1 (ix2 d s) = dhE (m ((c : Thread nD τ).loc main_arg0)) (m ((c : Thread nD τ).loc main_arg5))
      (m ((c : Thread nD τ).loc main_arg6)) d s := by
  rw [dh_at]
  obtain ⟨n, hn⟩ := t
  obtain rfl : n = 16 := h
  exact sum_blocks (dhT _ _ _ d s)

end Cert.AttnIdeal.Hand
-- ==== Proof.AttnIdeal.Final.lean ====
module

public import proofs.«01_k».proof.Proof.AttnIdeal.Close
public import Idealize.ShloMosaic.Lib.Pipeline.ValueKit
public import Idealize.ShloMosaic.Lib.Pipeline.ReadBack
public import Idealize.ShloMosaic.Lib.Pointwise

@[expose] public section

set_option maxRecDepth 16384
noncomputable section
open Idealize.ShloMosaic Idealize.ShloMosaic.TcCoe Idealize.SL.Sem
open Idealize.ShloMosaic.Pipeline (Dat)
namespace Cert.AttnIdeal.Hand
open Cert.AttnIdeal Cert.AttnIdeal.Gen
variable (m : (ℓ : Loc nD τ sig) → Buf (Elt Ideal) ℓ)

theorem point7 (c : Dev nD) (t : Fin cfg0.N) (y : S512x2880.Idx) (j : S8640x2880.Idx) (h0 : (j 0).val = t.val * 512 + (y 0).val) (h1 : (j 1).val = (y 1).val) :
    (outsAt0 m c t.val t.isLt).1 y = dwE (m ((c : Thread nD τ).loc main_arg0)) (m ((c : Thread nD τ).loc main_arg1)) (m ((c : Thread nD τ).loc main_arg2)) (m ((c : Thread nD τ).loc main_arg3)) (m ((c : Thread nD τ).loc main_arg4)) (j 0) (j 1) := by
  idx_vars y
  idx_vars j
  obtain rfl : j1 = y1 := Fin.ext h1
  exact dw_out m c t _ _ _ h0

theorem final7 (c : Dev nD) : (dats m 0 c).arrAt 7 (cfgs 0).N = fun j => dwE (m ((c : Thread nD τ).loc main_arg0)) (m ((c : Thread nD τ).loc main_arg1)) (m ((c : Thread nD τ).loc main_arg2)) (m ((c : Thread nD τ).loc main_arg3)) (m ((c : Thread nD τ).loc main_arg4)) (j 0) (j 1) := by
  refine (dats m 0 c).arrAt_eq_of_covers 7 _ (by decide +kernel) fun t hf y => ?_
  blk_simp
  rw [after0_7]
  exact point7 m c t _ _ (by blk_simp [idx' t]) (by blk_simp [idx' t])

theorem point8 (c : Dev nD) (t : Fin cfg0.N) (h : t.val = 16) (y : S2880x1536.Idx) (j : S2880x1536.Idx) (h0 : (j 0).val = (y 0).val) (h1 : (j 1).val = (y 1).val) :
    (outsAt0 m c t.val t.isLt).2.1 y = dhE (m ((c : Thread nD τ).loc main_arg0)) (m ((c : Thread nD τ).loc main_arg5)) (m ((c : Thread nD τ).loc main_arg6)) (j 0) (j 1) := by
  idx_vars y
  idx_vars j
  obtain rfl : j0 = y0 := Fin.ext h0
  obtain rfl : j1 = y1 := Fin.ext h1
  exact dh_out m c t h _ _

theorem final8 (c : Dev nD) : (dats m 0 c).arrAt 8 (cfgs 0).N = fun j => dhE (m ((c : Thread nD τ).loc main_arg0)) (m ((c : Thread nD τ).loc main_arg5)) (m ((c : Thread nD τ).loc main_arg6)) (j 0) (j 1) := by
  refine (dats m 0 c).arrAt_eq_of_covers 8 _ (by decide +kernel) fun t hf y => ?_
  blk_simp
  rw [after0_8]
  exact point8 m c t (by have := (flush0_8 t).mp hf; have := t.isLt; have : cfg0.N = 17 := N_0; omega) y _ (by blk_simp [idx' t]) (by blk_simp [idx' t])

end Cert.AttnIdeal.Hand
-- ==== Proof.AttnIdeal.Ref.lean ====
module

public import proofs.«01_k».proof.Proof.Gen.AttnRefIdeal.Value
public import proofs.«01_k».proof.Proof.AttnIdeal.Close
public import Idealize.ShloMosaic.Lib.Pipeline.ValueKit
public import Idealize.ShloMosaic.Lib.Pipeline.ReadBack
public import Idealize.ShloMosaic.Lib.Pointwise

@[expose] public section

set_option maxRecDepth 16384
noncomputable section
open Idealize.ShloMosaic Idealize.ShloMosaic.TcCoe Idealize.SL.Sem
namespace Cert.AttnRefIdeal.Hand
open Cert.AttnRefIdeal Cert.AttnRefIdeal.Gen
open Cert.AttnIdeal.Hand (dwE dhE DW rowE dhT c0 c1 c2)

/-- The two groupings of a term's four factors. -/
theorem term_eq (a b c d : EReal) : a * b * (c * d) = a * (d * b) * c := by ac_rfl

theorem ref7 (a0 : Vec Ideal S6x256x3x18x160 .fp8e5m2) (a1 : Vec Ideal S6x256 .f32) (a2 : Vec Ideal S6x256x2880 .fp8e4m3) (a3 : Vec Ideal S6x256 .f32) (a4 : Vec Ideal S2880 .f32) (a5 : Vec Ideal S2880x3x18x160 .fp8e4m3) (a6 : Vec Ideal S3x18x160 .f32) (g : Fin 8640) (d : Fin 2880) :
    Cert.AttnRefIdeal.Value.G7 (F := Ideal) a0 a1 a2 a3 a4 a5 a6 (ix2 g d) = dwE a0 a1 a2 a3 a4 g d := by
  rw [← Cert.AttnRefIdeal.Value.out7_eq]
  frame_out
  pointwise [k0_pay1, k0_pay2]
  unfold dwE DW
  refine congrArg (fun z : EReal => z * a4 (ix1 d)) (Finset.sum_congr rfl fun x _ => ?_)
  exact term_eq _ _ _ _
theorem ref8 (a0 : Vec Ideal S6x256x3x18x160 .fp8e5m2) (a1 : Vec Ideal S6x256 .f32) (a2 : Vec Ideal S6x256x2880 .fp8e4m3) (a3 : Vec Ideal S6x256 .f32) (a4 : Vec Ideal S2880 .f32) (a5 : Vec Ideal S2880x3x18x160 .fp8e4m3) (a6 : Vec Ideal S3x18x160 .f32) (g : Fin 2880) (d : Fin 1536) :
    Cert.AttnRefIdeal.Value.G8 (F := Ideal) a0 a1 a2 a3 a4 a5 a6 (ix2 g d) = dhE a0 a5 a6 g d := by
  rw [← Cert.AttnRefIdeal.Value.out8_eq]
  frame_out
  pointwise [k0_pay1, k0_pay2]
  rfl
end Cert.AttnRefIdeal.Hand
-- ==== Proof.AttnIdeal.Claim.lean ====
module

public import proofs.«01_k».proof.Proof.AttnIdeal.Final
public import proofs.«01_k».proof.Proof.AttnIdeal.Ref
public import proofs.«01_k».proof.Defs
public import Idealize.ShloMosaic.Lib.Claim

@[expose] public section

noncomputable section
open Idealize.ShloMosaic Idealize.ShloMosaic.TcCoe Idealize.SL.Sem
namespace Cert.AttnIdeal.Hand

/-- Kernel and reference end with the same two arrays. -/
theorem algebraic : Cert.algebraic_AttnIdeal_AttnRefIdeal (hAttnIdeal := Cert.AttnIdeal.Gen.facts) (hAttnRefIdeal := Cert.AttnRefIdeal.Gen.facts) := by
  intro m g m' g' _ hag
  refine ⟨_, _, (θ_run _ _ _).mono (fun r h c => h c) (run_blocks m g), (θ_run _ _ _).mono (fun r h c => ?_) (Cert.AttnRefIdeal.Value.run m' g')⟩
  obtain ⟨h7, h8, hk⟩ := h c
  obtain ⟨e0, e1, e2, e3, e4, e5, e6⟩ := hag c
  refine ⟨h7.trans ?_, h8.trans ?_, hk⟩
  · rw [e0, e1, e2, e3, e4, e5, e6]
    refine Eq.trans ?_ (final7 m c).symm
    funext j
    idx_vars j
    exact Cert.AttnRefIdeal.Hand.ref7 _ _ _ _ _ _ _ j0 j1
  · rw [e0, e1, e2, e3, e4, e5, e6]
    refine Eq.trans ?_ (final8 m c).symm
    funext j
    idx_vars j
    exact Cert.AttnRefIdeal.Hand.ref8 _ _ _ _ _ _ _ j0 j1

end Cert.AttnIdeal.Hand
-- ==== Proof.Dwout.Runs.lean ====
/- What the runs of the call of the output weights' gradient and of the layer norm share: the conditions in closed form,
   the staging and scratch buffers by name. -/
module

public import proofs.«01_k».proof.Proof.Gen.Dwout.Frame
public import proofs.«01_k».proof.Proof.Gen.Dwout.Skeleton
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Dwout.Hand

open Cert.Dwout Cert.Dwout.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Dwout`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((hA c 1).trans (V_main_arg1 m c)),
      ((h c).2 main_arg2 (Pipeline.mem_restRefs_of main_arg2 (by decide) (by decide))).trans (V_main_arg2 m c),
      (Pipeline.RDat.FramePost.arr_in h c 3 rfl).trans ((hA c 3).trans (V_main_arg3 m c)),
      ((h c).2 main_arg4 (Pipeline.mem_restRefs_of main_arg4 (by decide) (by decide))).trans (V_main_arg4 m c),
      (Pipeline.RDat.FramePost.arr_in h c 5 rfl).trans ((hA c 5).trans (V_main_arg5 m c)),
      (Pipeline.RDat.FramePost.arr_in h c 6 rfl).trans ((hA c 6).trans (V_main_arg6 m c)),
      (Pipeline.RDat.FramePost.arr_in h c 7 rfl).trans ((hA c 7).trans (V_main_arg7 m c)),
      (Pipeline.RDat.FramePost.arr_in h c 8 rfl).trans ((hA c 8).trans (V_main_arg8 m c)),
      ((h c).2 main_arg9 (Pipeline.mem_restRefs_of main_arg9 (by decide) (by decide))).trans (V_main_arg9 m c),
      (Pipeline.RDat.FramePost.arr_in h c 10 rfl).trans ((hA c 10).trans (V_main_arg10 m c)),
      (Pipeline.RDat.FramePost.arr_in h c 11 rfl).trans ((hA c 11).trans (V_main_arg11 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 15 = 0 :=
  (fun t => by
    have ht : t.val < 15 := Nat.lt_of_lt_of_eq t.isLt N_0
    have e0 : (grid0.coords t 0).val = t.val / 1 % 15 := Pipeline.Grid.coords_val t 0 (by decide) rfl
    simp only [cond0_0, e0]
    word_cmp
   : ∀ t : Fin grid0.N, cond0_0 (grid0.coords t) ↔ t.val % 15 = 0)

/-- The condition of the body's `scf.if` 1 (`k0_h2`), from the grid coordinates (the skeleton's scalar
    chain substituted). -/
abbrev cond0_1 (i : grid0.Coords) : Prop := k0_cond2 i = 1#1
/-- It holds at the points before point 12 — decided over the grid. -/
theorem hcond0_1 : ∀ t : Fin cfg0.N, cond0_1 (grid0.coords t) ↔ t.val < 12 :=
  (by decide +kernel : ∀ t : Fin grid0.N, cond0_1 (grid0.coords t) ↔ t.val < 12)

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 15 = 14 :=
  (fun t => by
    have ht : t.val < 15 := Nat.lt_of_lt_of_eq t.isLt N_0
    have e0 : (grid0.coords t 0).val = t.val / 1 % 15 := Pipeline.Grid.coords_val t 0 (by decide) rfl
    simp only [cond0_2, k0_cond3, e0]
    word_cmp
   : ∀ t : Fin grid0.N, cond0_2 (grid0.coords t) ↔ t.val % 15 = 14)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S6x2880x256 .fp8e5m2 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S6x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1536x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S6x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S6x2880x256 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S6x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S6x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S6x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S6x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x2880 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S2880x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2880x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S2880x512 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x2880x128 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x2880 .f32 := win0_14.stage (cfg0.slots t 14)
abbrev hs0_14 (t : Fin cfg0.N) : (ms0_14 t).IsWhole := hstage0_14 ((cfg0.slots t 14).cast nbuf0_14)
/-- The scratch operands: whole scoped buffers of the kernel's own, passed beside the windows. -/
abbrev scM0_0 : Memref sig .tc .vmem S2880x1536 .bf16 := Memref.whole cc0_scratch0
abbrev scM0_1 : Memref sig .tc .vmem S2880x128 .f32 := Memref.whole cc0_scratch1
abbrev scM0_2 : Memref sig .tc .vmem S2880x128 .f32 := Memref.whole cc0_scratch2
/-- The scratch `arg18` the kernel carries between points, as a view: what it holds is stated through it. -/
abbrev VS0_2 : View sig .tc .vmem S2880x128 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Dwout.Hand

end
-- ==== Proof.Dwout.RunA.lean ====
/- The whole-body run of this call in case A. -/
module

public import proofs.«01_k».proof.Proof.Dwout.Runs

@[expose] public section

-- membership in a rectangle of production extents (`View.cover_of_tiled`): the elaborator's structural look
-- recurses once per coordinate of the long axes
set_option maxRecDepth 16384

noncomputable section

namespace Cert.Dwout.Hand

open Cert.Dwout Cert.Dwout.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 taken, `scf.if` 2 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (12, 13, 14) at anything, handed back at some contents nothing names. -/
noncomputable def kernelRun0_A (c : Dev nD) (i : grid0.Coords) (arg1 : Memref sig .tc .vmem S6x2880x256 .fp8e5m2) (harg1 : arg1.IsWhole) (arg2 : Memref sig .tc .vmem S6x256 .f32) (harg2 : arg2.IsWhole) (arg3 : Memref sig .tc .vmem S1536x512 .fp8e4m3) (harg3 : arg3.IsWhole) (arg4 : Memref sig .tc .vmem S6x256 .f32) (harg4 : arg4.IsWhole) (arg5 : Memref sig .tc .vmem S6x2880x256 .fp8e4m3) (harg5 : arg5.IsWhole) (arg6 : Memref sig .tc .vmem S6x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S6x256 .f32) (harg9 : arg9.IsWhole) (arg10 : Memref sig .tc .vmem S1x2880 .f32) (harg10 : arg10.IsWhole) (arg11 : Memref sig .tc .vmem S2880x128 .f32) (harg11 : arg11.IsWhole) (arg12 : Memref sig .tc .vmem S2880x128 .f32) (harg12 : arg12.IsWhole) (arg13 : Memref sig .tc .vmem S2880x512 .bf16) (harg13 : arg13.IsWhole) (arg14 : Memref sig .tc .vmem S1x2880x128 .bf16) (harg14 : arg14.IsWhole) (arg15 : Memref sig .tc .vmem S1x2880 .f32) (harg15 : arg15.IsWhole) (arg16 : Memref sig .tc .vmem S2880x1536 .bf16) (harg16 : arg16.IsWhole) (arg17 : Memref sig .tc .vmem S2880x128 .f32) (harg17 : arg17.IsWhole) (arg18 : Memref sig .tc .vmem S2880x128 .f32) (harg18 : arg18.IsWhole) (hc0 : cond0_0 i) (hc1 : cond0_1 i) (hc2 : ¬cond0_2 i)
    (x0 : Vec F S6x2880x256 .fp8e5m2) (x1 : Vec F S6x256 .f32) (x2 : Vec F S1536x512 .fp8e4m3) (x3 : Vec F S6x256 .f32) (x4 : Vec F S6x2880x256 .fp8e4m3) (x5 : Vec F S6x256 .f32) (x6 : Vec F S6x256 .f32) (x7 : Vec F S6x256 .f32) (x8 : Vec F S6x256 .f32) (x9 : Vec F S1x2880 .f32) (x10 : Vec F S2880x128 .f32) (x11 : Vec F S2880x128 .f32) :
    { LS2 : List (View.Piece (Elt F) S2880x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ f, arg18.view.loc (c : Thread nD τ) ↦[arg18.view.set]{fullShare} arg18.view.writes (Elt F) f LS2)) -∗ K ⟨⟩))
          ⊢ wp frame (wpE (defs₀ (F := F)) Variants.none c none) E (cc0_dwout_ln i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, fun E K => ?run⟩
  case run =>
    simp only [cc0_dwout_ln_eq_skeleton]; unfold cc0_dwout_ln_skel
    simp only [k0_part5_eq_skeleton, k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [HS0]
    · iexists _, _; isplitr; swap; · iexact HS0
      ipureintro; rfl
    isplitl [HS1]
    · iexists _, _; isplitr; swap; · iexact HS1
      ipureintro; rfl
    iexists _; iexact HS2

end Cert.Dwout.Hand

end
-- ==== Proof.Dwout.RunB.lean ====
/- The whole-body run of this call in case B. -/
module

public import proofs.«01_k».proof.Proof.Dwout.RunA

@[expose] public section

-- membership in a rectangle of production extents (`View.cover_of_tiled`): the elaborator's structural look
-- recurses once per coordinate of the long axes
set_option maxRecDepth 16384

noncomputable section

namespace Cert.Dwout.Hand

open Cert.Dwout Cert.Dwout.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 not taken: points 1, 2, … 11: 11 of 15), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (12, 13, 14) at anything, handed back at some contents nothing names. -/
noncomputable def kernelRun0_B (c : Dev nD) (i : grid0.Coords) (arg1 : Memref sig .tc .vmem S6x2880x256 .fp8e5m2) (harg1 : arg1.IsWhole) (arg2 : Memref sig .tc .vmem S6x256 .f32) (harg2 : arg2.IsWhole) (arg3 : Memref sig .tc .vmem S1536x512 .fp8e4m3) (harg3 : arg3.IsWhole) (arg4 : Memref sig .tc .vmem S6x256 .f32) (harg4 : arg4.IsWhole) (arg5 : Memref sig .tc .vmem S6x2880x256 .fp8e4m3) (harg5 : arg5.IsWhole) (arg6 : Memref sig .tc .vmem S6x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S6x256 .f32) (harg9 : arg9.IsWhole) (arg10 : Memref sig .tc .vmem S1x2880 .f32) (harg10 : arg10.IsWhole) (arg11 : Memref sig .tc .vmem S2880x128 .f32) (harg11 : arg11.IsWhole) (arg12 : Memref sig .tc .vmem S2880x128 .f32) (harg12 : arg12.IsWhole) (arg13 : Memref sig .tc .vmem S2880x512 .bf16) (harg13 : arg13.IsWhole) (arg14 : Memref sig .tc .vmem S1x2880x128 .bf16) (harg14 : arg14.IsWhole) (arg15 : Memref sig .tc .vmem S1x2880 .f32) (harg15 : arg15.IsWhole) (arg16 : Memref sig .tc .vmem S2880x1536 .bf16) (harg16 : arg16.IsWhole) (arg17 : Memref sig .tc .vmem S2880x128 .f32) (harg17 : arg17.IsWhole) (arg18 : Memref sig .tc .vmem S2880x128 .f32) (harg18 : arg18.IsWhole) (hc0 : ¬cond0_0 i) (hc1 : cond0_1 i) (hc2 : ¬cond0_2 i)
    (x0 : Vec F S6x2880x256 .fp8e5m2) (x1 : Vec F S6x256 .f32) (x2 : Vec F S1536x512 .fp8e4m3) (x3 : Vec F S6x256 .f32) (x4 : Vec F S6x2880x256 .fp8e4m3) (x5 : Vec F S6x256 .f32) (x6 : Vec F S6x256 .f32) (x7 : Vec F S6x256 .f32) (x8 : Vec F S6x256 .f32) (x9 : Vec F S1x2880 .f32) (x10 : Vec F S2880x128 .f32) (x11 : Vec F S2880x128 .f32) (xs2 : Vec F S2880x128 .f32) :
    { LS2 : List (View.Piece (Elt F) S2880x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ f, arg18.view.loc (c : Thread nD τ) ↦[arg18.view.set]{fullShare} arg18.view.writes (Elt F) f LS2)) -∗ K ⟨⟩))
          ⊢ wp frame (wpE (defs₀ (F := F)) Variants.none c none) E (cc0_dwout_ln i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, fun E K => ?run⟩
  case run =>
    simp only [cc0_dwout_ln_eq_skeleton]; unfold cc0_dwout_ln_skel
    simp only [k0_part5_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%ds0, %fs0, -, HS0⟩, ⟨%ds1, %fs1, -, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg18.eq_unread hfs2
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [HS0]
    · iexists _, _; isplitr; swap; · iexact HS0
      ipureintro; rfl
    isplitl [HS1]
    · iexists _, _; isplitr; swap; · iexact HS1
      ipureintro; rfl
    iexists _; iexact HS2

end Cert.Dwout.Hand

end
-- ==== Proof.Dwout.RunC.lean ====
/- The whole-body run of this call in case C. -/
module

public import proofs.«01_k».proof.Proof.Dwout.RunB

@[expose] public section

-- membership in a rectangle of production extents (`View.cover_of_tiled`): the elaborator's structural look
-- recurses once per coordinate of the long axes
set_option maxRecDepth 16384

noncomputable section

namespace Cert.Dwout.Hand

open Cert.Dwout Cert.Dwout.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 not taken, `scf.if` 2 not taken: points 12, 13), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (12, 13, 14) at anything, handed back at some contents nothing names. -/
noncomputable def kernelRun0_C (c : Dev nD) (i : grid0.Coords) (arg1 : Memref sig .tc .vmem S6x2880x256 .fp8e5m2) (harg1 : arg1.IsWhole) (arg2 : Memref sig .tc .vmem S6x256 .f32) (harg2 : arg2.IsWhole) (arg3 : Memref sig .tc .vmem S1536x512 .fp8e4m3) (harg3 : arg3.IsWhole) (arg4 : Memref sig .tc .vmem S6x256 .f32) (harg4 : arg4.IsWhole) (arg5 : Memref sig .tc .vmem S6x2880x256 .fp8e4m3) (harg5 : arg5.IsWhole) (arg6 : Memref sig .tc .vmem S6x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S6x256 .f32) (harg9 : arg9.IsWhole) (arg10 : Memref sig .tc .vmem S1x2880 .f32) (harg10 : arg10.IsWhole) (arg11 : Memref sig .tc .vmem S2880x128 .f32) (harg11 : arg11.IsWhole) (arg12 : Memref sig .tc .vmem S2880x128 .f32) (harg12 : arg12.IsWhole) (arg13 : Memref sig .tc .vmem S2880x512 .bf16) (harg13 : arg13.IsWhole) (arg14 : Memref sig .tc .vmem S1x2880x128 .bf16) (harg14 : arg14.IsWhole) (arg15 : Memref sig .tc .vmem S1x2880 .f32) (harg15 : arg15.IsWhole) (arg16 : Memref sig .tc .vmem S2880x1536 .bf16) (harg16 : arg16.IsWhole) (arg17 : Memref sig .tc .vmem S2880x128 .f32) (harg17 : arg17.IsWhole) (arg18 : Memref sig .tc .vmem S2880x128 .f32) (harg18 : arg18.IsWhole) (hc0 : ¬cond0_0 i) (hc1 : ¬cond0_1 i) (hc2 : ¬cond0_2 i)
    (x0 : Vec F S6x2880x256 .fp8e5m2) (x1 : Vec F S6x256 .f32) (x2 : Vec F S1536x512 .fp8e4m3) (x3 : Vec F S6x256 .f32) (x4 : Vec F S6x2880x256 .fp8e4m3) (x5 : Vec F S6x256 .f32) (x6 : Vec F S6x256 .f32) (x7 : Vec F S6x256 .f32) (x8 : Vec F S6x256 .f32) (x9 : Vec F S1x2880 .f32) (x10 : Vec F S2880x128 .f32) (x11 : Vec F S2880x128 .f32) (xs2 : Vec F S2880x128 .f32) :
    { LS2 : List (View.Piece (Elt F) S2880x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare xs2) -∗ K ⟨⟩))
          ⊢ wp frame (wpE (defs₀ (F := F)) Variants.none c none) E (cc0_dwout_ln i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨[], fun E K => ?run⟩
  case run =>
    simp only [cc0_dwout_ln_eq_skeleton]; unfold cc0_dwout_ln_skel
    simp only [k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%ds0, %fs0, -, HS0⟩, ⟨%ds1, %fs1, -, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg18.eq_unread hfs2
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [HS0]
    · iexists _, _; isplitr; swap; · iexact HS0
      ipureintro; rfl
    isplitl [HS1]
    · iexists _, _; isplitr; swap; · iexact HS1
      ipureintro; rfl
    iexists _; isplitr; · ipureintro; exact harg18.read_unread _
    iexact HS2

end Cert.Dwout.Hand

end
-- ==== Proof.Dwout.RunD.lean ====
/- The whole-body run of this call in case D. -/
module

public import proofs.«01_k».proof.Proof.Dwout.RunC

@[expose] public section

-- membership in a rectangle of production extents (`View.cover_of_tiled`): the elaborator's structural look
-- recurses once per coordinate of the long axes
set_option maxRecDepth 16384

noncomputable section

namespace Cert.Dwout.Hand

open Cert.Dwout Cert.Dwout.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE D (`scf.if` 0 not taken, `scf.if` 1 not taken, `scf.if` 2 taken: points 14), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (12, 13, 14) at anything, handed back at some contents nothing names. -/
noncomputable def kernelRun0_D (c : Dev nD) (i : grid0.Coords) (arg1 : Memref sig .tc .vmem S6x2880x256 .fp8e5m2) (harg1 : arg1.IsWhole) (arg2 : Memref sig .tc .vmem S6x256 .f32) (harg2 : arg2.IsWhole) (arg3 : Memref sig .tc .vmem S1536x512 .fp8e4m3) (harg3 : arg3.IsWhole) (arg4 : Memref sig .tc .vmem S6x256 .f32) (harg4 : arg4.IsWhole) (arg5 : Memref sig .tc .vmem S6x2880x256 .fp8e4m3) (harg5 : arg5.IsWhole) (arg6 : Memref sig .tc .vmem S6x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S6x256 .f32) (harg9 : arg9.IsWhole) (arg10 : Memref sig .tc .vmem S1x2880 .f32) (harg10 : arg10.IsWhole) (arg11 : Memref sig .tc .vmem S2880x128 .f32) (harg11 : arg11.IsWhole) (arg12 : Memref sig .tc .vmem S2880x128 .f32) (harg12 : arg12.IsWhole) (arg13 : Memref sig .tc .vmem S2880x512 .bf16) (harg13 : arg13.IsWhole) (arg14 : Memref sig .tc .vmem S1x2880x128 .bf16) (harg14 : arg14.IsWhole) (arg15 : Memref sig .tc .vmem S1x2880 .f32) (harg15 : arg15.IsWhole) (arg16 : Memref sig .tc .vmem S2880x1536 .bf16) (harg16 : arg16.IsWhole) (arg17 : Memref sig .tc .vmem S2880x128 .f32) (harg17 : arg17.IsWhole) (arg18 : Memref sig .tc .vmem S2880x128 .f32) (harg18 : arg18.IsWhole) (hc0 : ¬cond0_0 i) (hc1 : ¬cond0_1 i) (hc2 : cond0_2 i)
    (x0 : Vec F S6x2880x256 .fp8e5m2) (x1 : Vec F S6x256 .f32) (x2 : Vec F S1536x512 .fp8e4m3) (x3 : Vec F S6x256 .f32) (x4 : Vec F S6x2880x256 .fp8e4m3) (x5 : Vec F S6x256 .f32) (x6 : Vec F S6x256 .f32) (x7 : Vec F S6x256 .f32) (x8 : Vec F S6x256 .f32) (x9 : Vec F S1x2880 .f32) (x10 : Vec F S2880x128 .f32) (x11 : Vec F S2880x128 .f32) (xs2 : Vec F S2880x128 .f32) :
    { LS2 : List (View.Piece (Elt F) S2880x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare xs2) -∗ K ⟨⟩))
          ⊢ wp frame (wpE (defs₀ (F := F)) Variants.none c none) E (cc0_dwout_ln i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨[], fun E K => ?run⟩
  case run =>
    simp only [cc0_dwout_ln_eq_skeleton]; unfold cc0_dwout_ln_skel
    simp only [k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%ds0, %fs0, -, HS0⟩, ⟨%ds1, %fs1, -, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg18.eq_unread hfs2
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [HS0]
    · iexists _, _; isplitr; swap; · iexact HS0
      ipureintro; rfl
    isplitl [HS1]
    · iexists _, _; isplitr; swap; · iexact HS1
      ipureintro; rfl
    iexists _; isplitr; · ipureintro; exact harg18.read_unread _
    iexact HS2

end Cert.Dwout.Hand

end
-- ==== Proof.Dwout.Frame.lean ====
/- The frame of this call. The contents of the outputs are stated nowhere; every argument array ends as it began. -/
module

public import proofs.«01_k».proof.Proof.Dwout.RunD
public import Idealize.ShloMosaic.Lib.Claim

@[expose] public section

-- membership in a rectangle of production extents (`View.cover_of_tiled`): the elaborator's structural look
-- recurses once per coordinate of the long axes
set_option maxRecDepth 16384

noncomputable section

namespace Cert.Dwout.Hand

open Cert.Dwout Cert.Dwout.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Cases

-- the grid point and the memrefs every case of the body runs over
variable (c : Dev nD) (i : grid0.Coords) (arg1 : Memref sig .tc .vmem S6x2880x256 .fp8e5m2) (harg1 : arg1.IsWhole)
    (arg2 : Memref sig .tc .vmem S6x256 .f32) (harg2 : arg2.IsWhole) (arg3 : Memref sig .tc .vmem S1536x512 .fp8e4m3)
    (harg3 : arg3.IsWhole) (arg4 : Memref sig .tc .vmem S6x256 .f32) (harg4 : arg4.IsWhole)
    (arg5 : Memref sig .tc .vmem S6x2880x256 .fp8e4m3) (harg5 : arg5.IsWhole) (arg6 : Memref sig .tc .vmem S6x256 .f32)
    (harg6 : arg6.IsWhole) (arg7 : Memref sig .tc .vmem S6x256 .f32) (harg7 : arg7.IsWhole)
    (arg8 : Memref sig .tc .vmem S6x256 .f32) (harg8 : arg8.IsWhole) (arg9 : Memref sig .tc .vmem S6x256 .f32)
    (harg9 : arg9.IsWhole) (arg10 : Memref sig .tc .vmem S1x2880 .f32) (harg10 : arg10.IsWhole)
    (arg11 : Memref sig .tc .vmem S2880x128 .f32) (harg11 : arg11.IsWhole) (arg12 : Memref sig .tc .vmem S2880x128 .f32)
    (harg12 : arg12.IsWhole) (arg13 : Memref sig .tc .vmem S2880x512 .bf16) (harg13 : arg13.IsWhole)
    (arg14 : Memref sig .tc .vmem S1x2880x128 .bf16) (harg14 : arg14.IsWhole) (arg15 : Memref sig .tc .vmem S1x2880 .f32)
    (harg15 : arg15.IsWhole) (arg16 : Memref sig .tc .vmem S2880x1536 .bf16) (harg16 : arg16.IsWhole)
    (arg17 : Memref sig .tc .vmem S2880x128 .f32) (harg17 : arg17.IsWhole) (arg18 : Memref sig .tc .vmem S2880x128 .f32)
    (harg18 : arg18.IsWhole)

/-- Case A's pieces for scratch `arg18`, which the kernel carries between points, cover it: 2 pieces of `S2880x128` tiling it (Lib/Ring.lean `Piece.tiledL`). -/
theorem scover0_A_2 (hc0 : cond0_0 i) (hc1 : cond0_1 i) (hc2 : ¬cond0_2 i)
    (x0 : Vec F S6x2880x256 .fp8e5m2) (x1 : Vec F S6x256 .f32) (x2 : Vec F S1536x512 .fp8e4m3) (x3 : Vec F S6x256 .f32) (x4 : Vec F S6x2880x256 .fp8e4m3) (x5 : Vec F S6x256 .f32) (x6 : Vec F S6x256 .f32) (x7 : Vec F S6x256 .f32) (x8 : Vec F S6x256 .f32) (x9 : Vec F S1x2880 .f32) (x10 : Vec F S2880x128 .f32) (x11 : Vec F S2880x128 .f32) (y : S2880x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11).1 S2880x128.size (by sl_kernel_rfl) y

/-- What case A leaves in scratch `arg18`: its pieces read back over junk. -/
def sout0_A_2 (hc0 : cond0_0 i) (hc1 : cond0_1 i) (hc2 : ¬cond0_2 i)
    (x0 : Vec F S6x2880x256 .fp8e5m2) (x1 : Vec F S6x256 .f32) (x2 : Vec F S1536x512 .fp8e4m3) (x3 : Vec F S6x256 .f32) (x4 : Vec F S6x2880x256 .fp8e4m3) (x5 : Vec F S6x256 .f32) (x6 : Vec F S6x256 .f32) (x7 : Vec F S6x256 .f32) (x8 : Vec F S6x256 .f32) (x9 : Vec F S1x2880 .f32) (x10 : Vec F S2880x128 .f32) (x11 : Vec F S2880x128 .f32) : Vec F S2880x128 .f32 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11).1)

/-- Case B's pieces for scratch `arg18`, which the kernel carries between points, cover it: 1 piece of `S2880x128` tiling it (Lib/Ring.lean `Piece.tiledL`). -/
theorem scover0_B_2 (hc0 : ¬cond0_0 i) (hc1 : cond0_1 i) (hc2 : ¬cond0_2 i)
    (x0 : Vec F S6x2880x256 .fp8e5m2) (x1 : Vec F S6x256 .f32) (x2 : Vec F S1536x512 .fp8e4m3) (x3 : Vec F S6x256 .f32) (x4 : Vec F S6x2880x256 .fp8e4m3) (x5 : Vec F S6x256 .f32) (x6 : Vec F S6x256 .f32) (x7 : Vec F S6x256 .f32) (x8 : Vec F S6x256 .f32) (x9 : Vec F S1x2880 .f32) (x10 : Vec F S2880x128 .f32) (x11 : Vec F S2880x128 .f32) (xs2 : Vec F S2880x128 .f32) (y : S2880x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xs2).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xs2).1 S2880x128.size (by sl_kernel_rfl) y

/-- What case B leaves in scratch `arg18`: its pieces read back over junk. -/
def sout0_B_2 (hc0 : ¬cond0_0 i) (hc1 : cond0_1 i) (hc2 : ¬cond0_2 i)
    (x0 : Vec F S6x2880x256 .fp8e5m2) (x1 : Vec F S6x256 .f32) (x2 : Vec F S1536x512 .fp8e4m3) (x3 : Vec F S6x256 .f32) (x4 : Vec F S6x2880x256 .fp8e4m3) (x5 : Vec F S6x256 .f32) (x6 : Vec F S6x256 .f32) (x7 : Vec F S6x256 .f32) (x8 : Vec F S6x256 .f32) (x9 : Vec F S1x2880 .f32) (x10 : Vec F S2880x128 .f32) (x11 : Vec F S2880x128 .f32) (xs2 : Vec F S2880x128 .f32) : Vec F S2880x128 .f32 :=
  VS0_2.read (Elt F) (VS0_2.writes (Elt F) VS0_2.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xs2).1)

/-- Case C stores nothing into scratch `arg18`: it holds what the point before left. -/
def sout0_C_2 (c : Dev nD) (i : grid0.Coords) (arg1 : Memref sig .tc .vmem S6x2880x256 .fp8e5m2) (harg1 : arg1.IsWhole) (arg2 : Memref sig .tc .vmem S6x256 .f32) (harg2 : arg2.IsWhole) (arg3 : Memref sig .tc .vmem S1536x512 .fp8e4m3) (harg3 : arg3.IsWhole) (arg4 : Memref sig .tc .vmem S6x256 .f32) (harg4 : arg4.IsWhole) (arg5 : Memref sig .tc .vmem S6x2880x256 .fp8e4m3) (harg5 : arg5.IsWhole) (arg6 : Memref sig .tc .vmem S6x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S6x256 .f32) (harg9 : arg9.IsWhole) (arg10 : Memref sig .tc .vmem S1x2880 .f32) (harg10 : arg10.IsWhole) (arg11 : Memref sig .tc .vmem S2880x128 .f32) (harg11 : arg11.IsWhole) (arg12 : Memref sig .tc .vmem S2880x128 .f32) (harg12 : arg12.IsWhole) (arg13 : Memref sig .tc .vmem S2880x512 .bf16) (harg13 : arg13.IsWhole) (arg14 : Memref sig .tc .vmem S1x2880x128 .bf16) (harg14 : arg14.IsWhole) (arg15 : Memref sig .tc .vmem S1x2880 .f32) (harg15 : arg15.IsWhole) (arg16 : Memref sig .tc .vmem S2880x1536 .bf16) (harg16 : arg16.IsWhole) (arg17 : Memref sig .tc .vmem S2880x128 .f32) (harg17 : arg17.IsWhole) (arg18 : Memref sig .tc .vmem S2880x128 .f32) (harg18 : arg18.IsWhole) (hc0 : ¬cond0_0 i) (hc1 : ¬cond0_1 i) (hc2 : ¬cond0_2 i)
    (x0 : Vec F S6x2880x256 .fp8e5m2) (x1 : Vec F S6x256 .f32) (x2 : Vec F S1536x512 .fp8e4m3) (x3 : Vec F S6x256 .f32) (x4 : Vec F S6x2880x256 .fp8e4m3) (x5 : Vec F S6x256 .f32) (x6 : Vec F S6x256 .f32) (x7 : Vec F S6x256 .f32) (x8 : Vec F S6x256 .f32) (x9 : Vec F S1x2880 .f32) (x10 : Vec F S2880x128 .f32) (x11 : Vec F S2880x128 .f32) (xs2 : Vec F S2880x128 .f32) : Vec F S2880x128 .f32 := xs2

/-- Case D stores nothing into scratch `arg18`: it holds what the point before left. -/
def sout0_D_2 (c : Dev nD) (i : grid0.Coords) (arg1 : Memref sig .tc .vmem S6x2880x256 .fp8e5m2) (harg1 : arg1.IsWhole) (arg2 : Memref sig .tc .vmem S6x256 .f32) (harg2 : arg2.IsWhole) (arg3 : Memref sig .tc .vmem S1536x512 .fp8e4m3) (harg3 : arg3.IsWhole) (arg4 : Memref sig .tc .vmem S6x256 .f32) (harg4 : arg4.IsWhole) (arg5 : Memref sig .tc .vmem S6x2880x256 .fp8e4m3) (harg5 : arg5.IsWhole) (arg6 : Memref sig .tc .vmem S6x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S6x256 .f32) (harg9 : arg9.IsWhole) (arg10 : Memref sig .tc .vmem S1x2880 .f32) (harg10 : arg10.IsWhole) (arg11 : Memref sig .tc .vmem S2880x128 .f32) (harg11 : arg11.IsWhole) (arg12 : Memref sig .tc .vmem S2880x128 .f32) (harg12 : arg12.IsWhole) (arg13 : Memref sig .tc .vmem S2880x512 .bf16) (harg13 : arg13.IsWhole) (arg14 : Memref sig .tc .vmem S1x2880x128 .bf16) (harg14 : arg14.IsWhole) (arg15 : Memref sig .tc .vmem S1x2880 .f32) (harg15 : arg15.IsWhole) (arg16 : Memref sig .tc .vmem S2880x1536 .bf16) (harg16 : arg16.IsWhole) (arg17 : Memref sig .tc .vmem S2880x128 .f32) (harg17 : arg17.IsWhole) (arg18 : Memref sig .tc .vmem S2880x128 .f32) (harg18 : arg18.IsWhole) (hc0 : ¬cond0_0 i) (hc1 : ¬cond0_1 i) (hc2 : cond0_2 i)
    (x0 : Vec F S6x2880x256 .fp8e5m2) (x1 : Vec F S6x256 .f32) (x2 : Vec F S1536x512 .fp8e4m3) (x3 : Vec F S6x256 .f32) (x4 : Vec F S6x2880x256 .fp8e4m3) (x5 : Vec F S6x256 .f32) (x6 : Vec F S6x256 .f32) (x7 : Vec F S6x256 .f32) (x8 : Vec F S6x256 .f32) (x9 : Vec F S1x2880 .f32) (x10 : Vec F S2880x128 .f32) (x11 : Vec F S2880x128 .f32) (xs2 : Vec F S2880x128 .f32) : Vec F S2880x128 .f32 := xs2

end Cases

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S2880x128 .f32
  | 0, hn => sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩)
  | n + 1, hn =>
    if h0 : (n + 1) % 15 = 0 then
      if h1 : (n + 1) < 12 then
        if h2 : (n + 1) % 15 = 14 then
          False.elim (by have hN : n + 1 < 15 := lt_of_lt_of_eq hn (show cfg0.N = 15 from N_0); omega)
        else
          sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩)
      else
        False.elim (by have hN : n + 1 < 15 := lt_of_lt_of_eq hn (show cfg0.N = 15 from N_0); omega)
    else
      if h1 : (n + 1) < 12 then
        if h2 : (n + 1) % 15 = 14 then
          False.elim (by have hN : n + 1 < 15 := lt_of_lt_of_eq hn (show cfg0.N = 15 from N_0); omega)
        else
          sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn))
      else
        if h2 : (n + 1) % 15 = 14 then
          sout0_D_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn))
        else
          sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn))

/-- `outsAt0` at a point of case A: that case's contents. -/
theorem outsAt0_A (c : Dev nD) (t : Fin cfg0.N) (h0 : t.val % 15 = 0) (h1 : t.val < 12) (h2 : ¬t.val % 15 = 14) :
    outsAt0 m c t.val t.isLt = sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by
  obtain ⟨n, hn⟩ := t
  cases n with
  | zero => exact rfl
  | succ n => exact (dif_pos h0).trans ((dif_pos h1).trans ((dif_neg h2).trans rfl))

/-- `outsAt0` at a point of case B: that case's contents, over what the point before left. -/
theorem outsAt0_B (c : Dev nD) (t : Fin cfg0.N) (h0 : ¬t.val % 15 = 0) (h1 : t.val < 12) (h2 : ¬t.val % 15 = 14) :
    outsAt0 m c t.val t.isLt = sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C: that case's contents, over what the point before left. -/
theorem outsAt0_C (c : Dev nD) (t : Fin cfg0.N) (h0 : ¬t.val % 15 = 0) (h1 : ¬t.val < 12) (h2 : ¬t.val % 15 = 14) :
    outsAt0 m c t.val t.isLt = sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_neg h2).trans rfl))

/-- `outsAt0` at a point of case D: that case's contents, over what the point before left. -/
theorem outsAt0_D (c : Dev nD) (t : Fin cfg0.N) (h0 : ¬t.val % 15 = 0) (h1 : ¬t.val < 12) (h2 : t.val % 15 = 14) :
    outsAt0 m c t.val t.isLt = sout0_D_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ (∃ d, owns (c : Thread nD τ) scM0_1 fullShare d) ∗ owns (c : Thread nD τ) scM0_2 fullShare ((outsAt0 m c n hn))) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ (∃ d, owns (c : Thread nD τ) scM0_1 fullShare d) ∗ owns (c : Thread nD τ) scM0_2 fullShare ((outsAt0 m c n hn))) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ (∃ d, owns (c : Thread nD τ) scM0_1 fullShare d) ∗ owns (c : Thread nD τ) scM0_2 fullShare ((outsAt0 m c (n - 1) (by omega)))) ∗ (∃ r, prngReg c r)) := by
  cases n with
  | zero => exact absurd rfl hz
  | succ n => rfl

/-! ## The pipeline's proof data -/

/-- The output windows this certificate FORGETS (12, 13, 14): nothing reads what the kernel leaves in them, so nothing
    of it is named (Lib/Pipeline/Dat.lean `Dat.toRForget`). -/
def forgets0 : Fin 15 → Bool := fun w => w.val == 12 || w.val == 13 || w.val == 14

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare d)
    ∗ (∃ d, owns (c : Thread nD τ) (ms0_13 t) fullShare d)
    ∗ (∃ d, owns (c : Thread nD τ) (ms0_14 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (∃ d, owns (c : Thread nD τ) (ms0_12 t) fullShare d)
    ∗ (∃ d, owns (c : Thread nD τ) (ms0_13 t) fullShare d)
    ∗ (∃ d, owns (c : Thread nD τ) (ms0_14 t) fullShare d))

set_option maxHeartbeats 25600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl]
  rw [show (dats m 0 c).Φ t.succ = PhiS m c (t.val + 1) t.isLt from rfl, PhiS_succ]
  have hN : t.val < 15 := lt_of_lt_of_eq t.isLt (show cfg0.N = 15 from N_0)
  by_cases h0 : t.val % 15 = 0
  · by_cases h1 : t.val < 12
    · by_cases h2 : t.val % 15 = 14
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        by_cases hz : t.val = 0
        · rw [PhiS_castSucc m c t, PhiS_zero m c _ _ hz, PhiA0_eq]
          rw [outsAt0_A m c t h0 h1 h2]
          unfold sout0_A_2
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
          iapply ((kernelRun0_A c (grid0.coords t) _ _ _ _ _ _ _ _ _ _ _ _ _ _ _ _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexists _; iexact H12
          isplitl [H13]; · iexists _; iexact H13
          isplitl [H14]; · iexists _; iexact H14
          isplitl [HS0]; · iexact HS0
          isplitl [HS1]; · iexact HS1
          isplitl [HS2]; · iexact HS2
          iintro ⟨H0, H1, H2, H3, H4, H5, H6, H7, H8, H9, H10, H11, H12, H13, H14, HS0, HS1, ⟨%es2, HS2⟩⟩
          isplitl [HS0 HS1 HS2 Hg]
          · isplitl [HS0 HS1 HS2]
            · isplitl [HS0]
              · iexact HS0
              isplitl [HS1]
              · iexact HS1
              unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          iexact H14
        · exfalso; have hN : t.val < 15 := lt_of_lt_of_eq t.isLt (show cfg0.N = 15 from N_0); omega
    · exfalso; omega
  · by_cases h1 : t.val < 12
    · by_cases h2 : t.val % 15 = 14
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        by_cases hz : t.val = 0
        · exfalso; have hN : t.val < 15 := lt_of_lt_of_eq t.isLt (show cfg0.N = 15 from N_0); omega
        · rw [PhiS_castSucc m c t, PhiS_pos m c _ _ hz]
          rw [outsAt0_B m c t h0 h1 h2]
          unfold sout0_B_2
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
          iapply ((kernelRun0_B c (grid0.coords t) _ _ _ _ _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _).2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexists _; iexact H12
          isplitl [H13]; · iexists _; iexact H13
          isplitl [H14]; · iexists _; iexact H14
          isplitl [HS0]; · iexact HS0
          isplitl [HS1]; · iexact HS1
          isplitl [HS2]; · iexact HS2
          iintro ⟨H0, H1, H2, H3, H4, H5, H6, H7, H8, H9, H10, H11, H12, H13, H14, HS0, HS1, ⟨%es2, HS2⟩⟩
          isplitl [HS0 HS1 HS2 Hg]
          · isplitl [HS0 HS1 HS2]
            · isplitl [HS0]
              · iexact HS0
              isplitl [HS1]
              · iexact HS1
              unfold owns; iexists _; isplitr
              swap; · iexact HS2
              ipureintro; exact View.read_writes_of_cover _ _ _ _ _ (scover0_B_2 c _ _ _ _ _ _ _ _ _ _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          iexact H14
    · by_cases h2 : t.val % 15 = 14
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        by_cases hz : t.val = 0
        · exfalso; have hN : t.val < 15 := lt_of_lt_of_eq t.isLt (show cfg0.N = 15 from N_0); omega
        · rw [PhiS_castSucc m c t, PhiS_pos m c _ _ hz]
          rw [outsAt0_D m c t h0 h1 h2]
          unfold sout0_D_2
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
          iapply ((kernelRun0_D c (grid0.coords t) _ _ _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _).2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexists _; iexact H12
          isplitl [H13]; · iexists _; iexact H13
          isplitl [H14]; · iexists _; iexact H14
          isplitl [HS0]; · iexact HS0
          isplitl [HS1]; · iexact HS1
          isplitl [HS2]; · iexact HS2
          iintro ⟨H0, H1, H2, H3, H4, H5, H6, H7, H8, H9, H10, H11, H12, H13, H14, HS0, HS1, HS2⟩
          isplitl [HS0 HS1 HS2 Hg]
          · isplitl [HS0 HS1 HS2]
            · isplitl [HS0]
              · iexact HS0
              isplitl [HS1]
              · iexact HS1
              iexact HS2
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          iexact H14
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        by_cases hz : t.val = 0
        · exfalso; have hN : t.val < 15 := lt_of_lt_of_eq t.isLt (show cfg0.N = 15 from N_0); omega
        · rw [PhiS_castSucc m c t, PhiS_pos m c _ _ hz]
          rw [outsAt0_C m c t h0 h1 h2]
          unfold sout0_C_2
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
          iapply ((kernelRun0_C c (grid0.coords t) _ _ _ _ _ _ _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _).2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexists _; iexact H12
          isplitl [H13]; · iexists _; iexact H13
          isplitl [H14]; · iexists _; iexact H14
          isplitl [HS0]; · iexact HS0
          isplitl [HS1]; · iexact HS1
          isplitl [HS2]; · iexact HS2
          iintro ⟨H0, H1, H2, H3, H4, H5, H6, H7, H8, H9, H10, H11, H12, H13, H14, HS0, HS1, HS2⟩
          isplitl [HS0 HS1 HS2 Hg]
          · isplitl [HS0 HS1 HS2]
            · isplitl [HS0]
              · iexact HS0
              isplitl [HS1]
              · iexact HS1
              iexact HS2
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          iexact H14

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexact HS0
    isplitl [HS1]
    · iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 15 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 12, 13, 14) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (fun c => (dats m 0 c).toRForget forgets0) (A_eq m) (run_main m ρ)

/-- THE FRAME: `Cert.quiescent_Dwout`'s statement (Defs.lean) at any `F` — Proof.lean cites it at `Bits`:
    `theorem Cert.Proof.claim : Cert.Claim := ⟨Cert.Dwout.Gen.facts, fun m ρ _ => Cert.Dwout.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.Dwout.Hand

end
-- ==== Proof.DwoutIdeal.Runs.lean ====
/- What the runs of the call of the output weights' gradient and of the layer norm share: the conditions in closed form,
   the staging and scratch buffers by name. -/
module

public import proofs.«01_k».proof.Proof.Gen.DwoutIdeal.Frame
public import proofs.«01_k».proof.Proof.Gen.DwoutIdeal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.DwoutIdeal.Hand

open Cert.DwoutIdeal Cert.DwoutIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 15 = 0 :=
  (fun t => by
    have ht : t.val < 15 := Nat.lt_of_lt_of_eq t.isLt N_0
    have e0 : (grid0.coords t 0).val = t.val / 1 % 15 := Pipeline.Grid.coords_val t 0 (by decide) rfl
    simp only [cond0_0, e0]
    word_cmp
   : ∀ t : Fin grid0.N, cond0_0 (grid0.coords t) ↔ t.val % 15 = 0)

/-- The condition of the body's `scf.if` 1 (`k0_h2`), from the grid coordinates (the skeleton's scalar
    chain substituted). -/
abbrev cond0_1 (i : grid0.Coords) : Prop := k0_cond2 i = 1#1
/-- It holds at the points before point 12 — decided over the grid. -/
theorem hcond0_1 : ∀ t : Fin cfg0.N, cond0_1 (grid0.coords t) ↔ t.val < 12 :=
  (by decide +kernel : ∀ t : Fin grid0.N, cond0_1 (grid0.coords t) ↔ t.val < 12)

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 15 = 14 :=
  (fun t => by
    have ht : t.val < 15 := Nat.lt_of_lt_of_eq t.isLt N_0
    have e0 : (grid0.coords t 0).val = t.val / 1 % 15 := Pipeline.Grid.coords_val t 0 (by decide) rfl
    simp only [cond0_2, k0_cond3, e0]
    word_cmp
   : ∀ t : Fin grid0.N, cond0_2 (grid0.coords t) ↔ t.val % 15 = 14)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-- Window 12 is never idle (an output stored at every point, under no condition). -/
theorem liveAt0_12 : ∀ t : Fin cfg0.N, cfg0.idle 12 (grid0.coords t) = false := fun _ => rfl
/-- Whether output 13's buffer is FRESH at each position `1 ‥ N` — holds nothing the body stored since the region's entry or the
    last write-back (written back at the point before, or idle there and fresh before it) —, as a bitmask the classifier
    computed, bit `n` for position `n + 1`; position 0 is fresh. `freshTab0_13_step` checks it against the configuration's own
    step point by point and Lib/Pipeline/TableIdle.lean `Cfg.fresh_tab` makes it `Cfg.fresh` (`fresh0_13_eq`). -/
def freshTab0_13 : ℕ → Bool
  | 0 => true
  | n + 1 => (0x47ff : ℕ).testBit n
theorem freshTab0_13_step : ∀ t : Fin cfg0.N,
    freshTab0_13 (t.val + 1) = ((cfg0.win 13).flush t || (cfg0.idle 13 (cfg0.grid.coords t) && freshTab0_13 t.val)) := by decide +kernel
theorem fresh0_13_eq (t : Fin cfg0.N) : cfg0.fresh 13 t.val = freshTab0_13 t.val :=
  Pipeline.Cfg.fresh_tab cfg0 13 freshTab0_13 rfl freshTab0_13_step t.val (Nat.le_of_lt t.isLt)
/-- At the points of case A the printed configuration (`Cfg.idle`) calls output 13 live: the case stores into it. -/
theorem liveAt0_13_A : ∀ t : Fin cfg0.N, cond0_0 (grid0.coords t) → cond0_1 (grid0.coords t) → ¬cond0_2 (grid0.coords t) → cfg0.idle 13 (grid0.coords t) = false := by decide +kernel
/-- At the points of case B the printed configuration (`Cfg.idle`) calls output 13 live: the case stores into it. -/
theorem liveAt0_13_B : ∀ t : Fin cfg0.N, ¬cond0_0 (grid0.coords t) → cond0_1 (grid0.coords t) → ¬cond0_2 (grid0.coords t) → cfg0.idle 13 (grid0.coords t) = false := by decide +kernel
/-- At the points of case C the printed configuration (`Cfg.idle`) calls output 13 idle: the case stores nothing into it. -/
theorem idleAt0_13_C : ∀ t : Fin cfg0.N, ¬cond0_0 (grid0.coords t) → ¬cond0_1 (grid0.coords t) → ¬cond0_2 (grid0.coords t) → cfg0.idle 13 (grid0.coords t) = true := by decide +kernel
/-- At the points of case C the pipeline does not write output 13's block back. -/
theorem noFlush0_13_C : ∀ t : Fin cfg0.N, ¬cond0_0 (grid0.coords t) → ¬cond0_1 (grid0.coords t) → ¬cond0_2 (grid0.coords t) → (cfg0.win 13).flush t = false := by decide +kernel
/-- At the points of case D output 13 is idle too, and the pipeline writes its block back there. -/
theorem idleAt0_13_D : ∀ t : Fin cfg0.N, ¬cond0_0 (grid0.coords t) → ¬cond0_1 (grid0.coords t) → cond0_2 (grid0.coords t) → cfg0.idle 13 (grid0.coords t) = true := by decide +kernel
theorem flush0_13_D : ∀ t : Fin cfg0.N, ¬cond0_0 (grid0.coords t) → ¬cond0_1 (grid0.coords t) → cond0_2 (grid0.coords t) → (cfg0.win 13).flush t = true := by decide +kernel
/-- At the points of case D, which keeps output 13's prior contents (reads it before covering, or covers it in part), the
    window's buffer is not FRESH: something was stored into it since the region's entry or its last write-back, idle points
    between or not (Lib/Pipeline/TableIdle.lean `Cfg.fresh`, by the table `freshTab0_13`). -/
theorem notFresh0_13_D : ∀ t : Fin cfg0.N, ¬cond0_0 (grid0.coords t) → ¬cond0_1 (grid0.coords t) → cond0_2 (grid0.coords t) → cfg0.fresh 13 t.val = false := by
  intro t; rw [fresh0_13_eq t]; revert t; decide +kernel
/-- At the points of case A the printed configuration (`Cfg.idle`) calls output 14 idle: the case stores nothing into it. -/
theorem idleAt0_14_A : ∀ t : Fin cfg0.N, cond0_0 (grid0.coords t) → cond0_1 (grid0.coords t) → ¬cond0_2 (grid0.coords t) → cfg0.idle 14 (grid0.coords t) = true := by decide +kernel
/-- At the points of case A the pipeline does not write output 14's block back. -/
theorem noFlush0_14_A : ∀ t : Fin cfg0.N, cond0_0 (grid0.coords t) → cond0_1 (grid0.coords t) → ¬cond0_2 (grid0.coords t) → (cfg0.win 14).flush t = false := by decide +kernel
/-- At the points of case B the printed configuration (`Cfg.idle`) calls output 14 idle: the case stores nothing into it. -/
theorem idleAt0_14_B : ∀ t : Fin cfg0.N, ¬cond0_0 (grid0.coords t) → cond0_1 (grid0.coords t) → ¬cond0_2 (grid0.coords t) → cfg0.idle 14 (grid0.coords t) = true := by decide +kernel
/-- At the points of case B the pipeline does not write output 14's block back. -/
theorem noFlush0_14_B : ∀ t : Fin cfg0.N, ¬cond0_0 (grid0.coords t) → cond0_1 (grid0.coords t) → ¬cond0_2 (grid0.coords t) → (cfg0.win 14).flush t = false := by decide +kernel
/-- At the points of case C the printed configuration (`Cfg.idle`) calls output 14 idle: the case stores nothing into it. -/
theorem idleAt0_14_C : ∀ t : Fin cfg0.N, ¬cond0_0 (grid0.coords t) → ¬cond0_1 (grid0.coords t) → ¬cond0_2 (grid0.coords t) → cfg0.idle 14 (grid0.coords t) = true := by decide +kernel
/-- At the points of case C the pipeline does not write output 14's block back. -/
theorem noFlush0_14_C : ∀ t : Fin cfg0.N, ¬cond0_0 (grid0.coords t) → ¬cond0_1 (grid0.coords t) → ¬cond0_2 (grid0.coords t) → (cfg0.win 14).flush t = false := by decide +kernel
/-- At the points of case D the printed configuration (`Cfg.idle`) calls output 14 live: the case stores into it. -/
theorem liveAt0_14_D : ∀ t : Fin cfg0.N, ¬cond0_0 (grid0.coords t) → ¬cond0_1 (grid0.coords t) → cond0_2 (grid0.coords t) → cfg0.idle 14 (grid0.coords t) = false := by decide +kernel

/-! ## The kernel body on any staging memrefs: a subtype the run finds -/

/-- One staging buffer of output window 12, through which its contents are stated (`View.read_writes_of_cover`: the
    choice does not matter). -/
abbrev VO0_12 : View sig .tc .vmem S2880x512 .bf16 := (Memref.whole cc0_stg12_0 : Memref sig .tc .vmem S2880x512 .bf16).view
/-- One staging buffer of output window 13, through which its contents are stated (`View.read_writes_of_cover`: the
    choice does not matter). -/
abbrev VO0_13 : View sig .tc .vmem S1x2880x128 .bf16 := (Memref.whole cc0_stg13_0 : Memref sig .tc .vmem S1x2880x128 .bf16).view
/-- One staging buffer of output window 14, through which its contents are stated (`View.read_writes_of_cover`: the
    choice does not matter). -/
abbrev VO0_14 : View sig .tc .vmem S1x2880 .f32 := (Memref.whole cc0_stg14_0 : Memref sig .tc .vmem S1x2880 .f32).view
/-- Each window's current staging memref at point `t`, spelled as the pipeline passes it (`bodyAt0`), and its wholeness. -/
abbrev ms0_0 (t : Fin cfg0.N) : Memref sig .tc .vmem S6x2880x256 .fp8e5m2 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S6x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1536x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S6x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S6x2880x256 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S6x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S6x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S6x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S6x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x2880 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S2880x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2880x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S2880x512 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x2880x128 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x2880 .f32 := win0_14.stage (cfg0.slots t 14)
abbrev hs0_14 (t : Fin cfg0.N) : (ms0_14 t).IsWhole := hstage0_14 ((cfg0.slots t 14).cast nbuf0_14)
/-- The scratch operands: whole scoped buffers of the kernel's own, passed beside the windows. -/
abbrev scM0_0 : Memref sig .tc .vmem S2880x1536 .bf16 := Memref.whole cc0_scratch0
abbrev scM0_1 : Memref sig .tc .vmem S2880x128 .f32 := Memref.whole cc0_scratch1
abbrev scM0_2 : Memref sig .tc .vmem S2880x128 .f32 := Memref.whole cc0_scratch2
/-- The scratch `arg16` the kernel carries between points, as a view: what it holds is stated through it. -/
abbrev VS0_0 : View sig .tc .vmem S2880x1536 .bf16 := scM0_0.view
/-- The scratch `arg17` the kernel carries between points, as a view: what it holds is stated through it. -/
abbrev VS0_1 : View sig .tc .vmem S2880x128 .f32 := scM0_1.view
/-- The scratch `arg18` the kernel carries between points, as a view: what it holds is stated through it. -/
abbrev VS0_2 : View sig .tc .vmem S2880x128 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.DwoutIdeal.Hand

end
-- ==== Proof.DwoutIdeal.RunA.lean ====
/- The whole-body run of this call in case A. -/
module

public import proofs.«01_k».proof.Proof.DwoutIdeal.Runs

@[expose] public section

-- membership in a rectangle of production extents (`View.cover_of_tiled`): the elaborator's structural look
-- recurses once per coordinate of the long axes
set_option maxRecDepth 16384

noncomputable section

namespace Cert.DwoutIdeal.Hand

open Cert.DwoutIdeal Cert.DwoutIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 taken, `scf.if` 2 not taken: points 0), WITH the
    proof that on whole staging memrefs — the inputs' at their contents, the outputs it leaves idle (14: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S6x2880x256 .fp8e5m2) (harg1 : arg1.IsWhole) (arg2 : Memref sig .tc .vmem S6x256 .f32) (harg2 : arg2.IsWhole) (arg3 : Memref sig .tc .vmem S1536x512 .fp8e4m3) (harg3 : arg3.IsWhole) (arg4 : Memref sig .tc .vmem S6x256 .f32) (harg4 : arg4.IsWhole) (arg5 : Memref sig .tc .vmem S6x2880x256 .fp8e4m3) (harg5 : arg5.IsWhole) (arg6 : Memref sig .tc .vmem S6x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S6x256 .f32) (harg9 : arg9.IsWhole) (arg10 : Memref sig .tc .vmem S1x2880 .f32) (harg10 : arg10.IsWhole) (arg11 : Memref sig .tc .vmem S2880x128 .f32) (harg11 : arg11.IsWhole) (arg12 : Memref sig .tc .vmem S2880x128 .f32) (harg12 : arg12.IsWhole) (arg13 : Memref sig .tc .vmem S2880x512 .bf16) (harg13 : arg13.IsWhole) (arg14 : Memref sig .tc .vmem S1x2880x128 .bf16) (harg14 : arg14.IsWhole) (arg15 : Memref sig .tc .vmem S1x2880 .f32) (harg15 : arg15.IsWhole) (arg16 : Memref sig .tc .vmem S2880x1536 .bf16) (harg16 : arg16.IsWhole) (arg17 : Memref sig .tc .vmem S2880x128 .f32) (harg17 : arg17.IsWhole) (arg18 : Memref sig .tc .vmem S2880x128 .f32) (harg18 : arg18.IsWhole) (hc0 : cond0_0 i) (hc1 : cond0_1 i) (hc2 : ¬cond0_2 i)
    (x0 : Vec F S6x2880x256 .fp8e5m2) (x1 : Vec F S6x256 .f32) (x2 : Vec F S1536x512 .fp8e4m3) (x3 : Vec F S6x256 .f32) (x4 : Vec F S6x2880x256 .fp8e4m3) (x5 : Vec F S6x256 .f32) (x6 : Vec F S6x256 .f32) (x7 : Vec F S6x256 .f32) (x8 : Vec F S6x256 .f32) (x9 : Vec F S1x2880 .f32) (x10 : Vec F S2880x128 .f32) (x11 : Vec F S2880x128 .f32) :
    Σ' (L12 : List (View.Piece (Elt F) S2880x512 .bf16)), Σ' (L13 : List (View.Piece (Elt F) S1x2880x128 .bf16)), Σ' (L14 : List (View.Piece (Elt F) S1x2880 .f32)), Σ' (LS0 : List (View.Piece (Elt F) S2880x1536 .bf16)), Σ' (LS1 : List (View.Piece (Elt F) S2880x128 .f32)), { LS2 : List (View.Piece (Elt F) S2880x128 .f32) //
      ∀ (xi14 : Vec F S1x2880 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ owns (c : Thread nD τ) arg15 fullShare xi14 ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ owns (c : Thread nD τ) arg15 fullShare xi14 ∗ (∃ f, arg16.view.loc (c : Thread nD τ) ↦[arg16.view.set]{fullShare} arg16.view.writes (Elt F) f LS0) ∗ (∃ f, arg17.view.loc (c : Thread nD τ) ↦[arg17.view.set]{fullShare} arg17.view.writes (Elt F) f LS1) ∗ (∃ f, arg18.view.loc (c : Thread nD τ) ↦[arg18.view.set]{fullShare} arg18.view.writes (Elt F) f LS2)) -∗ K ⟨⟩))
          ⊢ wp frame (wpE (defs₀ (F := F)) Variants.none c none) E (cc0_dwout_ln i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, [], ?_, ?_, ?_, fun xi14 E K => ?run⟩
  case run =>
    simp only [cc0_dwout_ln_eq_skeleton]; unfold cc0_dwout_ln_skel
    simp only [k0_part5_eq_skeleton, k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%f14, %hf14, H14⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg15.eq_unread hf14
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    isplitl [H13]; · iexists _; iexact H13
    isplitl [H14]
    · iexists _; isplitr; · ipureintro; exact harg15.read_unread _
      iexact H14
    isplitl [HS0]; · iexists _; iexact HS0
    isplitl [HS1]; · iexists _; iexact HS1
    iexists _; iexact HS2

end Cert.DwoutIdeal.Hand

end
-- ==== Proof.DwoutIdeal.RunB.lean ====
/- The whole-body run of this call in case B. -/
module

public import proofs.«01_k».proof.Proof.DwoutIdeal.RunA

@[expose] public section

-- membership in a rectangle of production extents (`View.cover_of_tiled`): the elaborator's structural look
-- recurses once per coordinate of the long axes
set_option maxRecDepth 16384

noncomputable section

namespace Cert.DwoutIdeal.Hand

open Cert.DwoutIdeal Cert.DwoutIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1200000 in
/-- What the body's stores leave in each output's staging memref, as pieces (last first) IN CASE B (`scf.if` 0 not taken, `scf.if` 1 taken, `scf.if` 2 not taken: points 1, 2, … 11: 11 of 15), WITH the
    proof that on whole staging memrefs — the inputs' at their contents, the outputs it leaves idle (14: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S6x2880x256 .fp8e5m2) (harg1 : arg1.IsWhole) (arg2 : Memref sig .tc .vmem S6x256 .f32) (harg2 : arg2.IsWhole) (arg3 : Memref sig .tc .vmem S1536x512 .fp8e4m3) (harg3 : arg3.IsWhole) (arg4 : Memref sig .tc .vmem S6x256 .f32) (harg4 : arg4.IsWhole) (arg5 : Memref sig .tc .vmem S6x2880x256 .fp8e4m3) (harg5 : arg5.IsWhole) (arg6 : Memref sig .tc .vmem S6x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S6x256 .f32) (harg9 : arg9.IsWhole) (arg10 : Memref sig .tc .vmem S1x2880 .f32) (harg10 : arg10.IsWhole) (arg11 : Memref sig .tc .vmem S2880x128 .f32) (harg11 : arg11.IsWhole) (arg12 : Memref sig .tc .vmem S2880x128 .f32) (harg12 : arg12.IsWhole) (arg13 : Memref sig .tc .vmem S2880x512 .bf16) (harg13 : arg13.IsWhole) (arg14 : Memref sig .tc .vmem S1x2880x128 .bf16) (harg14 : arg14.IsWhole) (arg15 : Memref sig .tc .vmem S1x2880 .f32) (harg15 : arg15.IsWhole) (arg16 : Memref sig .tc .vmem S2880x1536 .bf16) (harg16 : arg16.IsWhole) (arg17 : Memref sig .tc .vmem S2880x128 .f32) (harg17 : arg17.IsWhole) (arg18 : Memref sig .tc .vmem S2880x128 .f32) (harg18 : arg18.IsWhole) (hc0 : ¬cond0_0 i) (hc1 : cond0_1 i) (hc2 : ¬cond0_2 i)
    (x0 : Vec F S6x2880x256 .fp8e5m2) (x1 : Vec F S6x256 .f32) (x2 : Vec F S1536x512 .fp8e4m3) (x3 : Vec F S6x256 .f32) (x4 : Vec F S6x2880x256 .fp8e4m3) (x5 : Vec F S6x256 .f32) (x6 : Vec F S6x256 .f32) (x7 : Vec F S6x256 .f32) (x8 : Vec F S6x256 .f32) (x9 : Vec F S1x2880 .f32) (x10 : Vec F S2880x128 .f32) (x11 : Vec F S2880x128 .f32) (xs0 : Vec F S2880x1536 .bf16) (xs1 : Vec F S2880x128 .f32) (xs2 : Vec F S2880x128 .f32) :
    Σ' (L12 : List (View.Piece (Elt F) S2880x512 .bf16)), Σ' (L13 : List (View.Piece (Elt F) S1x2880x128 .bf16)), Σ' (L14 : List (View.Piece (Elt F) S1x2880 .f32)), Σ' (LS0 : List (View.Piece (Elt F) S2880x1536 .bf16)), Σ' (LS1 : List (View.Piece (Elt F) S2880x128 .f32)), { LS2 : List (View.Piece (Elt F) S2880x128 .f32) //
      ∀ (xi14 : Vec F S1x2880 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ owns (c : Thread nD τ) arg15 fullShare xi14 ∗ owns (c : Thread nD τ) arg16 fullShare xs0 ∗ owns (c : Thread nD τ) arg17 fullShare xs1 ∗ owns (c : Thread nD τ) arg18 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ owns (c : Thread nD τ) arg15 fullShare xi14 ∗ owns (c : Thread nD τ) arg16 fullShare xs0 ∗ owns (c : Thread nD τ) arg17 fullShare xs1 ∗ (∃ f, arg18.view.loc (c : Thread nD τ) ↦[arg18.view.set]{fullShare} arg18.view.writes (Elt F) f LS2)) -∗ K ⟨⟩))
          ⊢ wp frame (wpE (defs₀ (F := F)) Variants.none c none) E (cc0_dwout_ln i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, [], [], [], ?_, fun xi14 E K => ?run⟩
  case run =>
    simp only [cc0_dwout_ln_eq_skeleton]; unfold cc0_dwout_ln_skel
    simp only [k0_part5_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%f14, %hf14, H14⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg15.eq_unread hf14; obtain rfl := harg16.eq_unread hfs0; obtain rfl := harg17.eq_unread hfs1; obtain rfl := harg18.eq_unread hfs2
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    isplitl [H13]; · iexists _; iexact H13
    isplitl [H14]
    · iexists _; isplitr; · ipureintro; exact harg15.read_unread _
      iexact H14
    isplitl [HS0]
    · iexists _; isplitr; · ipureintro; exact harg16.read_unread _
      iexact HS0
    isplitl [HS1]
    · iexists _; isplitr; · ipureintro; exact harg17.read_unread _
      iexact HS1
    iexists _; iexact HS2

end Cert.DwoutIdeal.Hand

end
-- ==== Proof.DwoutIdeal.RunC.lean ====
/- The whole-body run of this call in case C. -/
module

public import proofs.«01_k».proof.Proof.DwoutIdeal.RunB

@[expose] public section

-- membership in a rectangle of production extents (`View.cover_of_tiled`): the elaborator's structural look
-- recurses once per coordinate of the long axes
set_option maxRecDepth 16384

noncomputable section

namespace Cert.DwoutIdeal.Hand

open Cert.DwoutIdeal Cert.DwoutIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 not taken, `scf.if` 2 not taken: points 12, 13), WITH the
    proof that on whole staging memrefs — the inputs' at their contents, the outputs it leaves idle (13, 14: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S6x2880x256 .fp8e5m2) (harg1 : arg1.IsWhole) (arg2 : Memref sig .tc .vmem S6x256 .f32) (harg2 : arg2.IsWhole) (arg3 : Memref sig .tc .vmem S1536x512 .fp8e4m3) (harg3 : arg3.IsWhole) (arg4 : Memref sig .tc .vmem S6x256 .f32) (harg4 : arg4.IsWhole) (arg5 : Memref sig .tc .vmem S6x2880x256 .fp8e4m3) (harg5 : arg5.IsWhole) (arg6 : Memref sig .tc .vmem S6x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S6x256 .f32) (harg9 : arg9.IsWhole) (arg10 : Memref sig .tc .vmem S1x2880 .f32) (harg10 : arg10.IsWhole) (arg11 : Memref sig .tc .vmem S2880x128 .f32) (harg11 : arg11.IsWhole) (arg12 : Memref sig .tc .vmem S2880x128 .f32) (harg12 : arg12.IsWhole) (arg13 : Memref sig .tc .vmem S2880x512 .bf16) (harg13 : arg13.IsWhole) (arg14 : Memref sig .tc .vmem S1x2880x128 .bf16) (harg14 : arg14.IsWhole) (arg15 : Memref sig .tc .vmem S1x2880 .f32) (harg15 : arg15.IsWhole) (arg16 : Memref sig .tc .vmem S2880x1536 .bf16) (harg16 : arg16.IsWhole) (arg17 : Memref sig .tc .vmem S2880x128 .f32) (harg17 : arg17.IsWhole) (arg18 : Memref sig .tc .vmem S2880x128 .f32) (harg18 : arg18.IsWhole) (hc0 : ¬cond0_0 i) (hc1 : ¬cond0_1 i) (hc2 : ¬cond0_2 i)
    (x0 : Vec F S6x2880x256 .fp8e5m2) (x1 : Vec F S6x256 .f32) (x2 : Vec F S1536x512 .fp8e4m3) (x3 : Vec F S6x256 .f32) (x4 : Vec F S6x2880x256 .fp8e4m3) (x5 : Vec F S6x256 .f32) (x6 : Vec F S6x256 .f32) (x7 : Vec F S6x256 .f32) (x8 : Vec F S6x256 .f32) (x9 : Vec F S1x2880 .f32) (x10 : Vec F S2880x128 .f32) (x11 : Vec F S2880x128 .f32) (xs0 : Vec F S2880x1536 .bf16) (xs1 : Vec F S2880x128 .f32) (xs2 : Vec F S2880x128 .f32) :
    Σ' (L12 : List (View.Piece (Elt F) S2880x512 .bf16)), Σ' (L13 : List (View.Piece (Elt F) S1x2880x128 .bf16)), Σ' (L14 : List (View.Piece (Elt F) S1x2880 .f32)), Σ' (LS0 : List (View.Piece (Elt F) S2880x1536 .bf16)), Σ' (LS1 : List (View.Piece (Elt F) S2880x128 .f32)), { LS2 : List (View.Piece (Elt F) S2880x128 .f32) //
      ∀ (xi13 : Vec F S1x2880x128 .bf16) (xi14 : Vec F S1x2880 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ owns (c : Thread nD τ) arg14 fullShare xi13 ∗ owns (c : Thread nD τ) arg15 fullShare xi14 ∗ owns (c : Thread nD τ) arg16 fullShare xs0 ∗ owns (c : Thread nD τ) arg17 fullShare xs1 ∗ owns (c : Thread nD τ) arg18 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg13.view.loc (c : Thread nD τ) ↦[arg13.view.set]{fullShare} arg13.view.writes (Elt F) f L12) ∗ owns (c : Thread nD τ) arg14 fullShare xi13 ∗ owns (c : Thread nD τ) arg15 fullShare xi14 ∗ owns (c : Thread nD τ) arg16 fullShare xs0 ∗ owns (c : Thread nD τ) arg17 fullShare xs1 ∗ owns (c : Thread nD τ) arg18 fullShare xs2) -∗ K ⟨⟩))
          ⊢ wp frame (wpE (defs₀ (F := F)) Variants.none c none) E (cc0_dwout_ln i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, [], [], [], [], [], fun xi13 xi14 E K => ?run⟩
  case run =>
    simp only [cc0_dwout_ln_eq_skeleton]; unfold cc0_dwout_ln_skel
    simp only [k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%f14, %hf14, H14⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg14.eq_unread hf13; obtain rfl := harg15.eq_unread hf14; obtain rfl := harg16.eq_unread hfs0; obtain rfl := harg17.eq_unread hfs1; obtain rfl := harg18.eq_unread hfs2
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    isplitl [H13]
    · iexists _; isplitr; · ipureintro; exact harg14.read_unread _
      iexact H13
    isplitl [H14]
    · iexists _; isplitr; · ipureintro; exact harg15.read_unread _
      iexact H14
    isplitl [HS0]
    · iexists _; isplitr; · ipureintro; exact harg16.read_unread _
      iexact HS0
    isplitl [HS1]
    · iexists _; isplitr; · ipureintro; exact harg17.read_unread _
      iexact HS1
    iexists _; isplitr; · ipureintro; exact harg18.read_unread _
    iexact HS2

end Cert.DwoutIdeal.Hand

end
-- ==== Proof.DwoutIdeal.RunD.lean ====
/- The whole-body run of this call in case D. -/
module

public import proofs.«01_k».proof.Proof.DwoutIdeal.RunC

@[expose] public section

-- membership in a rectangle of production extents (`View.cover_of_tiled`): the elaborator's structural look
-- recurses once per coordinate of the long axes
set_option maxRecDepth 16384

noncomputable section

namespace Cert.DwoutIdeal.Hand

open Cert.DwoutIdeal Cert.DwoutIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE D (`scf.if` 0 not taken, `scf.if` 1 not taken, `scf.if` 2 taken: points 14), WITH the
    proof that on whole staging memrefs — the inputs' at their contents, the outputs it reads before covering (13) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_D (c : Dev nD) (i : grid0.Coords) (arg1 : Memref sig .tc .vmem S6x2880x256 .fp8e5m2) (harg1 : arg1.IsWhole) (arg2 : Memref sig .tc .vmem S6x256 .f32) (harg2 : arg2.IsWhole) (arg3 : Memref sig .tc .vmem S1536x512 .fp8e4m3) (harg3 : arg3.IsWhole) (arg4 : Memref sig .tc .vmem S6x256 .f32) (harg4 : arg4.IsWhole) (arg5 : Memref sig .tc .vmem S6x2880x256 .fp8e4m3) (harg5 : arg5.IsWhole) (arg6 : Memref sig .tc .vmem S6x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S6x256 .f32) (harg9 : arg9.IsWhole) (arg10 : Memref sig .tc .vmem S1x2880 .f32) (harg10 : arg10.IsWhole) (arg11 : Memref sig .tc .vmem S2880x128 .f32) (harg11 : arg11.IsWhole) (arg12 : Memref sig .tc .vmem S2880x128 .f32) (harg12 : arg12.IsWhole) (arg13 : Memref sig .tc .vmem S2880x512 .bf16) (harg13 : arg13.IsWhole) (arg14 : Memref sig .tc .vmem S1x2880x128 .bf16) (harg14 : arg14.IsWhole) (arg15 : Memref sig .tc .vmem S1x2880 .f32) (harg15 : arg15.IsWhole) (arg16 : Memref sig .tc .vmem S2880x1536 .bf16) (harg16 : arg16.IsWhole) (arg17 : Memref sig .tc .vmem S2880x128 .f32) (harg17 : arg17.IsWhole) (arg18 : Memref sig .tc .vmem S2880x128 .f32) (harg18 : arg18.IsWhole) (hc0 : ¬cond0_0 i) (hc1 : ¬cond0_1 i) (hc2 : cond0_2 i)
    (x0 : Vec F S6x2880x256 .fp8e5m2) (x1 : Vec F S6x256 .f32) (x2 : Vec F S1536x512 .fp8e4m3) (x3 : Vec F S6x256 .f32) (x4 : Vec F S6x2880x256 .fp8e4m3) (x5 : Vec F S6x256 .f32) (x6 : Vec F S6x256 .f32) (x7 : Vec F S6x256 .f32) (x8 : Vec F S6x256 .f32) (x9 : Vec F S1x2880 .f32) (x10 : Vec F S2880x128 .f32) (x11 : Vec F S2880x128 .f32) (xo13 : Vec F S1x2880x128 .bf16) (xs0 : Vec F S2880x1536 .bf16) (xs1 : Vec F S2880x128 .f32) (xs2 : Vec F S2880x128 .f32) :
    Σ' (L12 : List (View.Piece (Elt F) S2880x512 .bf16)), Σ' (L13 : List (View.Piece (Elt F) S1x2880x128 .bf16)), Σ' (L14 : List (View.Piece (Elt F) S1x2880 .f32)), Σ' (LS0 : List (View.Piece (Elt F) S2880x1536 .bf16)), Σ' (LS1 : List (View.Piece (Elt F) S2880x128 .f32)), { LS2 : List (View.Piece (Elt F) S2880x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ owns (c : Thread nD τ) arg14 fullShare xo13 ∗ (∃ d, owns (c : Thread nD τ) arg15 fullShare d) ∗ owns (c : Thread nD τ) arg16 fullShare xs0 ∗ owns (c : Thread nD τ) arg17 fullShare xs1 ∗ owns (c : Thread nD τ) arg18 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg13.view.loc (c : Thread nD τ) ↦[arg13.view.set]{fullShare} arg13.view.writes (Elt F) f L12) ∗ owns (c : Thread nD τ) arg14 fullShare xo13 ∗ (∃ f, arg15.view.loc (c : Thread nD τ) ↦[arg15.view.set]{fullShare} arg15.view.writes (Elt F) f L14) ∗ owns (c : Thread nD τ) arg16 fullShare xs0 ∗ owns (c : Thread nD τ) arg17 fullShare xs1 ∗ owns (c : Thread nD τ) arg18 fullShare xs2) -∗ K ⟨⟩))
          ⊢ wp frame (wpE (defs₀ (F := F)) Variants.none c none) E (cc0_dwout_ln i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, [], ?_, [], [], [], fun E K => ?run⟩
  case run =>
    simp only [cc0_dwout_ln_eq_skeleton]; unfold cc0_dwout_ln_skel
    simp only [k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%d14, %f14, -, H14⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg14.eq_unread hf13; obtain rfl := harg16.eq_unread hfs0; obtain rfl := harg17.eq_unread hfs1; obtain rfl := harg18.eq_unread hfs2
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    isplitl [H13]
    · iexists _; isplitr; · ipureintro; exact harg14.read_unread _
      iexact H13
    isplitl [H14]; · iexists _; iexact H14
    isplitl [HS0]
    · iexists _; isplitr; · ipureintro; exact harg16.read_unread _
      iexact HS0
    isplitl [HS1]
    · iexists _; isplitr; · ipureintro; exact harg17.read_unread _
      iexact HS1
    iexists _; isplitr; · ipureintro; exact harg18.read_unread _
    iexact HS2

end Cert.DwoutIdeal.Hand

end
-- ==== Proof.DwoutIdeal.Outs.lean ====
/- What each case of this call leaves in the outputs and in the scratch it carries, and what they hold after each
   point. -/
module

public import proofs.«01_k».proof.Proof.DwoutIdeal.RunD
public import Idealize.ShloMosaic.Lib.Claim

@[expose] public section

-- membership in a rectangle of production extents (`View.cover_of_tiled`): the elaborator's structural look
-- recurses once per coordinate of the long axes
set_option maxRecDepth 16384

noncomputable section

namespace Cert.DwoutIdeal.Hand

open Cert.DwoutIdeal Cert.DwoutIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
section Cases

-- the grid point and the memrefs every case of the body runs over
variable (c : Dev nD) (i : grid0.Coords) (arg1 : Memref sig .tc .vmem S6x2880x256 .fp8e5m2) (harg1 : arg1.IsWhole)
    (arg2 : Memref sig .tc .vmem S6x256 .f32) (harg2 : arg2.IsWhole) (arg3 : Memref sig .tc .vmem S1536x512 .fp8e4m3)
    (harg3 : arg3.IsWhole) (arg4 : Memref sig .tc .vmem S6x256 .f32) (harg4 : arg4.IsWhole)
    (arg5 : Memref sig .tc .vmem S6x2880x256 .fp8e4m3) (harg5 : arg5.IsWhole) (arg6 : Memref sig .tc .vmem S6x256 .f32)
    (harg6 : arg6.IsWhole) (arg7 : Memref sig .tc .vmem S6x256 .f32) (harg7 : arg7.IsWhole)
    (arg8 : Memref sig .tc .vmem S6x256 .f32) (harg8 : arg8.IsWhole) (arg9 : Memref sig .tc .vmem S6x256 .f32)
    (harg9 : arg9.IsWhole) (arg10 : Memref sig .tc .vmem S1x2880 .f32) (harg10 : arg10.IsWhole)
    (arg11 : Memref sig .tc .vmem S2880x128 .f32) (harg11 : arg11.IsWhole) (arg12 : Memref sig .tc .vmem S2880x128 .f32)
    (harg12 : arg12.IsWhole) (arg13 : Memref sig .tc .vmem S2880x512 .bf16) (harg13 : arg13.IsWhole)
    (arg14 : Memref sig .tc .vmem S1x2880x128 .bf16) (harg14 : arg14.IsWhole) (arg15 : Memref sig .tc .vmem S1x2880 .f32)
    (harg15 : arg15.IsWhole) (arg16 : Memref sig .tc .vmem S2880x1536 .bf16) (harg16 : arg16.IsWhole)
    (arg17 : Memref sig .tc .vmem S2880x128 .f32) (harg17 : arg17.IsWhole) (arg18 : Memref sig .tc .vmem S2880x128 .f32)
    (harg18 : arg18.IsWhole)

section A

variable (hc0 : cond0_0 i) (hc1 : cond0_1 i) (hc2 : ¬cond0_2 i)
  (x0 : Vec F S6x2880x256 .fp8e5m2) (x1 : Vec F S6x256 .f32) (x2 : Vec F S1536x512 .fp8e4m3) (x3 : Vec F S6x256 .f32) (x4 : Vec F S6x2880x256 .fp8e4m3) (x5 : Vec F S6x256 .f32) (x6 : Vec F S6x256 .f32) (x7 : Vec F S6x256 .f32) (x8 : Vec F S6x256 .f32) (x9 : Vec F S1x2880 .f32) (x10 : Vec F S2880x128 .f32) (x11 : Vec F S2880x128 .f32)

/-- Case A's pieces for output 12 tile its block (5 stores of `S576x512`), so they cover it. -/
theorem cover0_A_12 (y : S2880x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11).1 S576x512.size (by sl_kernel_rfl) y

/-- What case A leaves in output 12's staging buffer: its pieces read back over junk. -/
def out0_A_12 : Vec F S2880x512 .bf16 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11).1)

/-- Case A's pieces for output 13 tile its block (1 store of `S1x2880x128`), so they cover it. -/
theorem cover0_A_13 (y : S1x2880x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11).2.1 S1x2880x128.size (by sl_kernel_rfl) y

/-- What case A leaves in output 13's staging buffer: its pieces read back over junk. -/
def out0_A_13 : Vec F S1x2880x128 .bf16 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11).2.1)

/-- Case A stores nothing into output 14 (the window is idle at its points and not written back there):
    no pieces — a placeholder (junk read back) that nothing consults, since at these points the window is neither
    written back nor read at the next point (Lib/Pipeline.lean "Idle points"). -/
def out0_A_14 : Vec F S1x2880 .f32 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11).2.2.1)

/-- Case A's pieces for scratch `arg16`, which the kernel carries between points, cover it: 6 pieces of `S2880x256` tiling it. -/
theorem scover0_A_0 (y : S2880x1536.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11).2.2.2.1 S2880x256.size (by sl_kernel_rfl) y

/-- What case A leaves in scratch `arg16`: its pieces read back over junk. -/
def sout0_A_0 : Vec F S2880x1536 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11).2.2.2.1)

/-- Case A's pieces for scratch `arg17`, which the kernel carries between points, cover it: 1 piece of `S2880x128` tiling it. -/
theorem scover0_A_1 (y : S2880x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11).2.2.2.2.1 S2880x128.size (by sl_kernel_rfl) y

/-- What case A leaves in scratch `arg17`: its pieces read back over junk. -/
def sout0_A_1 : Vec F S2880x128 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11).2.2.2.2.1)

/-- Case A's pieces for scratch `arg18`, which the kernel carries between points, cover it: 2 pieces of `S2880x128` tiling it. -/
theorem scover0_A_2 (y : S2880x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11).2.2.2.2.2.1 S2880x128.size (by sl_kernel_rfl) y

/-- What case A leaves in scratch `arg18`: its pieces read back over junk. -/
def sout0_A_2 : Vec F S2880x128 .f32 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11).2.2.2.2.2.1)

end A

section B

variable (hc0 : ¬cond0_0 i) (hc1 : cond0_1 i) (hc2 : ¬cond0_2 i)
  (x0 : Vec F S6x2880x256 .fp8e5m2) (x1 : Vec F S6x256 .f32) (x2 : Vec F S1536x512 .fp8e4m3) (x3 : Vec F S6x256 .f32) (x4 : Vec F S6x2880x256 .fp8e4m3) (x5 : Vec F S6x256 .f32) (x6 : Vec F S6x256 .f32) (x7 : Vec F S6x256 .f32) (x8 : Vec F S6x256 .f32) (x9 : Vec F S1x2880 .f32) (x10 : Vec F S2880x128 .f32) (x11 : Vec F S2880x128 .f32)

/-- Case B's pieces for output 12 tile its block (5 stores of `S576x512`), so they cover it. -/
theorem cover0_B_12 (xs0 : Vec F S2880x1536 .bf16) (xs1 : Vec F S2880x128 .f32) (xs2 : Vec F S2880x128 .f32) (y : S2880x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xs0 xs1 xs2).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xs0 xs1 xs2).1 S576x512.size (by sl_kernel_rfl) y

/-- What case B leaves in output 12's staging buffer: its pieces read back over junk. -/
def out0_B_12 (xs0 : Vec F S2880x1536 .bf16) (xs1 : Vec F S2880x128 .f32) (xs2 : Vec F S2880x128 .f32) : Vec F S2880x512 .bf16 :=
  VO0_12.read (Elt F) (VO0_12.writes (Elt F) VO0_12.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xs0 xs1 xs2).1)

/-- Case B's pieces for output 13 tile its block (1 store of `S1x2880x128`), so they cover it. -/
theorem cover0_B_13 (xs0 : Vec F S2880x1536 .bf16) (xs1 : Vec F S2880x128 .f32) (xs2 : Vec F S2880x128 .f32) (y : S1x2880x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xs0 xs1 xs2).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xs0 xs1 xs2).2.1 S1x2880x128.size (by sl_kernel_rfl) y

/-- What case B leaves in output 13's staging buffer: its pieces read back over junk. -/
def out0_B_13 (xs0 : Vec F S2880x1536 .bf16) (xs1 : Vec F S2880x128 .f32) (xs2 : Vec F S2880x128 .f32) : Vec F S1x2880x128 .bf16 :=
  VO0_13.read (Elt F) (VO0_13.writes (Elt F) VO0_13.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xs0 xs1 xs2).2.1)

/-- Case B stores nothing into output 14 (the window is idle at its points and not written back there):
    no pieces — a placeholder (junk read back) that nothing consults, since at these points the window is neither
    written back nor read at the next point (Lib/Pipeline.lean "Idle points"). -/
def out0_B_14 (xs0 : Vec F S2880x1536 .bf16) (xs1 : Vec F S2880x128 .f32) (xs2 : Vec F S2880x128 .f32) : Vec F S1x2880 .f32 :=
  VO0_14.read (Elt F) (VO0_14.writes (Elt F) VO0_14.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xs0 xs1 xs2).2.2.1)

/-- Case B stores nothing into scratch `arg16`: it holds what the point before left. -/
def sout0_B_0 (c : Dev nD) (i : grid0.Coords) (arg1 : Memref sig .tc .vmem S6x2880x256 .fp8e5m2) (harg1 : arg1.IsWhole) (arg2 : Memref sig .tc .vmem S6x256 .f32) (harg2 : arg2.IsWhole) (arg3 : Memref sig .tc .vmem S1536x512 .fp8e4m3) (harg3 : arg3.IsWhole) (arg4 : Memref sig .tc .vmem S6x256 .f32) (harg4 : arg4.IsWhole) (arg5 : Memref sig .tc .vmem S6x2880x256 .fp8e4m3) (harg5 : arg5.IsWhole) (arg6 : Memref sig .tc .vmem S6x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S6x256 .f32) (harg9 : arg9.IsWhole) (arg10 : Memref sig .tc .vmem S1x2880 .f32) (harg10 : arg10.IsWhole) (arg11 : Memref sig .tc .vmem S2880x128 .f32) (harg11 : arg11.IsWhole) (arg12 : Memref sig .tc .vmem S2880x128 .f32) (harg12 : arg12.IsWhole) (arg13 : Memref sig .tc .vmem S2880x512 .bf16) (harg13 : arg13.IsWhole) (arg14 : Memref sig .tc .vmem S1x2880x128 .bf16) (harg14 : arg14.IsWhole) (arg15 : Memref sig .tc .vmem S1x2880 .f32) (harg15 : arg15.IsWhole) (arg16 : Memref sig .tc .vmem S2880x1536 .bf16) (harg16 : arg16.IsWhole) (arg17 : Memref sig .tc .vmem S2880x128 .f32) (harg17 : arg17.IsWhole) (arg18 : Memref sig .tc .vmem S2880x128 .f32) (harg18 : arg18.IsWhole) (hc0 : ¬cond0_0 i) (hc1 : cond0_1 i) (hc2 : ¬cond0_2 i)
    (x0 : Vec F S6x2880x256 .fp8e5m2) (x1 : Vec F S6x256 .f32) (x2 : Vec F S1536x512 .fp8e4m3) (x3 : Vec F S6x256 .f32) (x4 : Vec F S6x2880x256 .fp8e4m3) (x5 : Vec F S6x256 .f32) (x6 : Vec F S6x256 .f32) (x7 : Vec F S6x256 .f32) (x8 : Vec F S6x256 .f32) (x9 : Vec F S1x2880 .f32) (x10 : Vec F S2880x128 .f32) (x11 : Vec F S2880x128 .f32) (xs0 : Vec F S2880x1536 .bf16) (xs1 : Vec F S2880x128 .f32) (xs2 : Vec F S2880x128 .f32) : Vec F S2880x1536 .bf16 := xs0

/-- Case B stores nothing into scratch `arg17`: it holds what the point before left. -/
def sout0_B_1 (c : Dev nD) (i : grid0.Coords) (arg1 : Memref sig .tc .vmem S6x2880x256 .fp8e5m2) (harg1 : arg1.IsWhole) (arg2 : Memref sig .tc .vmem S6x256 .f32) (harg2 : arg2.IsWhole) (arg3 : Memref sig .tc .vmem S1536x512 .fp8e4m3) (harg3 : arg3.IsWhole) (arg4 : Memref sig .tc .vmem S6x256 .f32) (harg4 : arg4.IsWhole) (arg5 : Memref sig .tc .vmem S6x2880x256 .fp8e4m3) (harg5 : arg5.IsWhole) (arg6 : Memref sig .tc .vmem S6x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S6x256 .f32) (harg9 : arg9.IsWhole) (arg10 : Memref sig .tc .vmem S1x2880 .f32) (harg10 : arg10.IsWhole) (arg11 : Memref sig .tc .vmem S2880x128 .f32) (harg11 : arg11.IsWhole) (arg12 : Memref sig .tc .vmem S2880x128 .f32) (harg12 : arg12.IsWhole) (arg13 : Memref sig .tc .vmem S2880x512 .bf16) (harg13 : arg13.IsWhole) (arg14 : Memref sig .tc .vmem S1x2880x128 .bf16) (harg14 : arg14.IsWhole) (arg15 : Memref sig .tc .vmem S1x2880 .f32) (harg15 : arg15.IsWhole) (arg16 : Memref sig .tc .vmem S2880x1536 .bf16) (harg16 : arg16.IsWhole) (arg17 : Memref sig .tc .vmem S2880x128 .f32) (harg17 : arg17.IsWhole) (arg18 : Memref sig .tc .vmem S2880x128 .f32) (harg18 : arg18.IsWhole) (hc0 : ¬cond0_0 i) (hc1 : cond0_1 i) (hc2 : ¬cond0_2 i)
    (x0 : Vec F S6x2880x256 .fp8e5m2) (x1 : Vec F S6x256 .f32) (x2 : Vec F S1536x512 .fp8e4m3) (x3 : Vec F S6x256 .f32) (x4 : Vec F S6x2880x256 .fp8e4m3) (x5 : Vec F S6x256 .f32) (x6 : Vec F S6x256 .f32) (x7 : Vec F S6x256 .f32) (x8 : Vec F S6x256 .f32) (x9 : Vec F S1x2880 .f32) (x10 : Vec F S2880x128 .f32) (x11 : Vec F S2880x128 .f32) (xs0 : Vec F S2880x1536 .bf16) (xs1 : Vec F S2880x128 .f32) (xs2 : Vec F S2880x128 .f32) : Vec F S2880x128 .f32 := xs1

/-- Case B's pieces for scratch `arg18`, which the kernel carries between points, cover it: 1 piece of `S2880x128` tiling it. -/
theorem scover0_B_2 (xs0 : Vec F S2880x1536 .bf16) (xs1 : Vec F S2880x128 .f32) (xs2 : Vec F S2880x128 .f32) (y : S2880x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xs0 xs1 xs2).2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xs0 xs1 xs2).2.2.2.2.2.1 S2880x128.size (by sl_kernel_rfl) y

/-- What case B leaves in scratch `arg18`: its pieces read back over junk. -/
def sout0_B_2 (xs0 : Vec F S2880x1536 .bf16) (xs1 : Vec F S2880x128 .f32) (xs2 : Vec F S2880x128 .f32) : Vec F S2880x128 .f32 :=
  VS0_2.read (Elt F) (VS0_2.writes (Elt F) VS0_2.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xs0 xs1 xs2).2.2.2.2.2.1)

end B

section C

variable (hc0 : ¬cond0_0 i) (hc1 : ¬cond0_1 i) (hc2 : ¬cond0_2 i)
  (x0 : Vec F S6x2880x256 .fp8e5m2) (x1 : Vec F S6x256 .f32) (x2 : Vec F S1536x512 .fp8e4m3) (x3 : Vec F S6x256 .f32) (x4 : Vec F S6x2880x256 .fp8e4m3) (x5 : Vec F S6x256 .f32) (x6 : Vec F S6x256 .f32) (x7 : Vec F S6x256 .f32) (x8 : Vec F S6x256 .f32) (x9 : Vec F S1x2880 .f32) (x10 : Vec F S2880x128 .f32) (x11 : Vec F S2880x128 .f32)

/-- Case C's pieces for output 12 tile its block (5 stores of `S576x512`), so they cover it. -/
theorem cover0_C_12 (xs0 : Vec F S2880x1536 .bf16) (xs1 : Vec F S2880x128 .f32) (xs2 : Vec F S2880x128 .f32) (y : S2880x512.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xs0 xs1 xs2).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xs0 xs1 xs2).1 S576x512.size (by sl_kernel_rfl) y

/-- What case C leaves in output 12's staging buffer: its pieces read back over junk. -/
def out0_C_12 (xs0 : Vec F S2880x1536 .bf16) (xs1 : Vec F S2880x128 .f32) (xs2 : Vec F S2880x128 .f32) : Vec F S2880x512 .bf16 :=
  VO0_12.read (Elt F) (VO0_12.writes (Elt F) VO0_12.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xs0 xs1 xs2).1)

/-- Case C stores nothing into output 13 (the window is idle at its points and not written back there) and another
    case keeps its prior contents (reads it before covering, or covers it in part): what its buffer holds after the body is what the
    point before left, CARRIED — an argument of this term alone, which the run does not take (Lib/Pipeline/TableIdle.lean `Dat.before_out_traj`). -/
def out0_C_13 (c : Dev nD) (i : grid0.Coords) (arg1 : Memref sig .tc .vmem S6x2880x256 .fp8e5m2) (harg1 : arg1.IsWhole) (arg2 : Memref sig .tc .vmem S6x256 .f32) (harg2 : arg2.IsWhole) (arg3 : Memref sig .tc .vmem S1536x512 .fp8e4m3) (harg3 : arg3.IsWhole) (arg4 : Memref sig .tc .vmem S6x256 .f32) (harg4 : arg4.IsWhole) (arg5 : Memref sig .tc .vmem S6x2880x256 .fp8e4m3) (harg5 : arg5.IsWhole) (arg6 : Memref sig .tc .vmem S6x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S6x256 .f32) (harg9 : arg9.IsWhole) (arg10 : Memref sig .tc .vmem S1x2880 .f32) (harg10 : arg10.IsWhole) (arg11 : Memref sig .tc .vmem S2880x128 .f32) (harg11 : arg11.IsWhole) (arg12 : Memref sig .tc .vmem S2880x128 .f32) (harg12 : arg12.IsWhole) (arg13 : Memref sig .tc .vmem S2880x512 .bf16) (harg13 : arg13.IsWhole) (arg14 : Memref sig .tc .vmem S1x2880x128 .bf16) (harg14 : arg14.IsWhole) (arg15 : Memref sig .tc .vmem S1x2880 .f32) (harg15 : arg15.IsWhole) (arg16 : Memref sig .tc .vmem S2880x1536 .bf16) (harg16 : arg16.IsWhole) (arg17 : Memref sig .tc .vmem S2880x128 .f32) (harg17 : arg17.IsWhole) (arg18 : Memref sig .tc .vmem S2880x128 .f32) (harg18 : arg18.IsWhole) (hc0 : ¬cond0_0 i) (hc1 : ¬cond0_1 i) (hc2 : ¬cond0_2 i)
    (x0 : Vec F S6x2880x256 .fp8e5m2) (x1 : Vec F S6x256 .f32) (x2 : Vec F S1536x512 .fp8e4m3) (x3 : Vec F S6x256 .f32) (x4 : Vec F S6x2880x256 .fp8e4m3) (x5 : Vec F S6x256 .f32) (x6 : Vec F S6x256 .f32) (x7 : Vec F S6x256 .f32) (x8 : Vec F S6x256 .f32) (x9 : Vec F S1x2880 .f32) (x10 : Vec F S2880x128 .f32) (x11 : Vec F S2880x128 .f32) (xs0 : Vec F S2880x1536 .bf16) (xs1 : Vec F S2880x128 .f32) (xs2 : Vec F S2880x128 .f32) (xo13 : Vec F S1x2880x128 .bf16) : Vec F S1x2880x128 .bf16 := xo13

/-- Case C stores nothing into output 14 (the window is idle at its points and not written back there):
    no pieces — a placeholder (junk read back) that nothing consults, since at these points the window is neither
    written back nor read at the next point (Lib/Pipeline.lean "Idle points"). -/
def out0_C_14 (xs0 : Vec F S2880x1536 .bf16) (xs1 : Vec F S2880x128 .f32) (xs2 : Vec F S2880x128 .f32) : Vec F S1x2880 .f32 :=
  VO0_14.read (Elt F) (VO0_14.writes (Elt F) VO0_14.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xs0 xs1 xs2).2.2.1)

/-- Case C stores nothing into scratch `arg16`: it holds what the point before left. -/
def sout0_C_0 (c : Dev nD) (i : grid0.Coords) (arg1 : Memref sig .tc .vmem S6x2880x256 .fp8e5m2) (harg1 : arg1.IsWhole) (arg2 : Memref sig .tc .vmem S6x256 .f32) (harg2 : arg2.IsWhole) (arg3 : Memref sig .tc .vmem S1536x512 .fp8e4m3) (harg3 : arg3.IsWhole) (arg4 : Memref sig .tc .vmem S6x256 .f32) (harg4 : arg4.IsWhole) (arg5 : Memref sig .tc .vmem S6x2880x256 .fp8e4m3) (harg5 : arg5.IsWhole) (arg6 : Memref sig .tc .vmem S6x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S6x256 .f32) (harg9 : arg9.IsWhole) (arg10 : Memref sig .tc .vmem S1x2880 .f32) (harg10 : arg10.IsWhole) (arg11 : Memref sig .tc .vmem S2880x128 .f32) (harg11 : arg11.IsWhole) (arg12 : Memref sig .tc .vmem S2880x128 .f32) (harg12 : arg12.IsWhole) (arg13 : Memref sig .tc .vmem S2880x512 .bf16) (harg13 : arg13.IsWhole) (arg14 : Memref sig .tc .vmem S1x2880x128 .bf16) (harg14 : arg14.IsWhole) (arg15 : Memref sig .tc .vmem S1x2880 .f32) (harg15 : arg15.IsWhole) (arg16 : Memref sig .tc .vmem S2880x1536 .bf16) (harg16 : arg16.IsWhole) (arg17 : Memref sig .tc .vmem S2880x128 .f32) (harg17 : arg17.IsWhole) (arg18 : Memref sig .tc .vmem S2880x128 .f32) (harg18 : arg18.IsWhole) (hc0 : ¬cond0_0 i) (hc1 : ¬cond0_1 i) (hc2 : ¬cond0_2 i)
    (x0 : Vec F S6x2880x256 .fp8e5m2) (x1 : Vec F S6x256 .f32) (x2 : Vec F S1536x512 .fp8e4m3) (x3 : Vec F S6x256 .f32) (x4 : Vec F S6x2880x256 .fp8e4m3) (x5 : Vec F S6x256 .f32) (x6 : Vec F S6x256 .f32) (x7 : Vec F S6x256 .f32) (x8 : Vec F S6x256 .f32) (x9 : Vec F S1x2880 .f32) (x10 : Vec F S2880x128 .f32) (x11 : Vec F S2880x128 .f32) (xs0 : Vec F S2880x1536 .bf16) (xs1 : Vec F S2880x128 .f32) (xs2 : Vec F S2880x128 .f32) : Vec F S2880x1536 .bf16 := xs0

/-- Case C stores nothing into scratch `arg17`: it holds what the point before left. -/
def sout0_C_1 (c : Dev nD) (i : grid0.Coords) (arg1 : Memref sig .tc .vmem S6x2880x256 .fp8e5m2) (harg1 : arg1.IsWhole) (arg2 : Memref sig .tc .vmem S6x256 .f32) (harg2 : arg2.IsWhole) (arg3 : Memref sig .tc .vmem S1536x512 .fp8e4m3) (harg3 : arg3.IsWhole) (arg4 : Memref sig .tc .vmem S6x256 .f32) (harg4 : arg4.IsWhole) (arg5 : Memref sig .tc .vmem S6x2880x256 .fp8e4m3) (harg5 : arg5.IsWhole) (arg6 : Memref sig .tc .vmem S6x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S6x256 .f32) (harg9 : arg9.IsWhole) (arg10 : Memref sig .tc .vmem S1x2880 .f32) (harg10 : arg10.IsWhole) (arg11 : Memref sig .tc .vmem S2880x128 .f32) (harg11 : arg11.IsWhole) (arg12 : Memref sig .tc .vmem S2880x128 .f32) (harg12 : arg12.IsWhole) (arg13 : Memref sig .tc .vmem S2880x512 .bf16) (harg13 : arg13.IsWhole) (arg14 : Memref sig .tc .vmem S1x2880x128 .bf16) (harg14 : arg14.IsWhole) (arg15 : Memref sig .tc .vmem S1x2880 .f32) (harg15 : arg15.IsWhole) (arg16 : Memref sig .tc .vmem S2880x1536 .bf16) (harg16 : arg16.IsWhole) (arg17 : Memref sig .tc .vmem S2880x128 .f32) (harg17 : arg17.IsWhole) (arg18 : Memref sig .tc .vmem S2880x128 .f32) (harg18 : arg18.IsWhole) (hc0 : ¬cond0_0 i) (hc1 : ¬cond0_1 i) (hc2 : ¬cond0_2 i)
    (x0 : Vec F S6x2880x256 .fp8e5m2) (x1 : Vec F S6x256 .f32) (x2 : Vec F S1536x512 .fp8e4m3) (x3 : Vec F S6x256 .f32) (x4 : Vec F S6x2880x256 .fp8e4m3) (x5 : Vec F S6x256 .f32) (x6 : Vec F S6x256 .f32) (x7 : Vec F S6x256 .f32) (x8 : Vec F S6x256 .f32) (x9 : Vec F S1x2880 .f32) (x10 : Vec F S2880x128 .f32) (x11 : Vec F S2880x128 .f32) (xs0 : Vec F S2880x1536 .bf16) (xs1 : Vec F S2880x128 .f32) (xs2 : Vec F S2880x128 .f32) : Vec F S2880x128 .f32 := xs1

/-- Case C stores nothing into scratch `arg18`: it holds what the point before left. -/
def sout0_C_2 (c : Dev nD) (i : grid0.Coords) (arg1 : Memref sig .tc .vmem S6x2880x256 .fp8e5m2) (harg1 : arg1.IsWhole) (arg2 : Memref sig .tc .vmem S6x256 .f32) (harg2 : arg2.IsWhole) (arg3 : Memref sig .tc .vmem S1536x512 .fp8e4m3) (harg3 : arg3.IsWhole) (arg4 : Memref sig .tc .vmem S6x256 .f32) (harg4 : arg4.IsWhole) (arg5 : Memref sig .tc .vmem S6x2880x256 .fp8e4m3) (harg5 : arg5.IsWhole) (arg6 : Memref sig .tc .vmem S6x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S6x256 .f32) (harg9 : arg9.IsWhole) (arg10 : Memref sig .tc .vmem S1x2880 .f32) (harg10 : arg10.IsWhole) (arg11 : Memref sig .tc .vmem S2880x128 .f32) (harg11 : arg11.IsWhole) (arg12 : Memref sig .tc .vmem S2880x128 .f32) (harg12 : arg12.IsWhole) (arg13 : Memref sig .tc .vmem S2880x512 .bf16) (harg13 : arg13.IsWhole) (arg14 : Memref sig .tc .vmem S1x2880x128 .bf16) (harg14 : arg14.IsWhole) (arg15 : Memref sig .tc .vmem S1x2880 .f32) (harg15 : arg15.IsWhole) (arg16 : Memref sig .tc .vmem S2880x1536 .bf16) (harg16 : arg16.IsWhole) (arg17 : Memref sig .tc .vmem S2880x128 .f32) (harg17 : arg17.IsWhole) (arg18 : Memref sig .tc .vmem S2880x128 .f32) (harg18 : arg18.IsWhole) (hc0 : ¬cond0_0 i) (hc1 : ¬cond0_1 i) (hc2 : ¬cond0_2 i)
    (x0 : Vec F S6x2880x256 .fp8e5m2) (x1 : Vec F S6x256 .f32) (x2 : Vec F S1536x512 .fp8e4m3) (x3 : Vec F S6x256 .f32) (x4 : Vec F S6x2880x256 .fp8e4m3) (x5 : Vec F S6x256 .f32) (x6 : Vec F S6x256 .f32) (x7 : Vec F S6x256 .f32) (x8 : Vec F S6x256 .f32) (x9 : Vec F S1x2880 .f32) (x10 : Vec F S2880x128 .f32) (x11 : Vec F S2880x128 .f32) (xs0 : Vec F S2880x1536 .bf16) (xs1 : Vec F S2880x128 .f32) (xs2 : Vec F S2880x128 .f32) : Vec F S2880x128 .f32 := xs2

end C

section D

variable (hc0 : ¬cond0_0 i) (hc1 : ¬cond0_1 i) (hc2 : cond0_2 i)
  (x0 : Vec F S6x2880x256 .fp8e5m2) (x1 : Vec F S6x256 .f32) (x2 : Vec F S1536x512 .fp8e4m3) (x3 : Vec F S6x256 .f32) (x4 : Vec F S6x2880x256 .fp8e4m3) (x5 : Vec F S6x256 .f32) (x6 : Vec F S6x256 .f32) (x7 : Vec F S6x256 .f32) (x8 : Vec F S6x256 .f32) (x9 : Vec F S1x2880 .f32) (x10 : Vec F S2880x128 .f32) (x11 : Vec F S2880x128 .f32)

/-- Case D's pieces for output 12 tile its block (5 stores of `S576x512`), so they cover it. -/
theorem cover0_D_12 (xo13 : Vec F S1x2880x128 .bf16) (xs0 : Vec F S2880x1536 .bf16) (xs1 : Vec F S2880x128 .f32) (xs2 : Vec F S2880x128 .f32) (y : S2880x512.Idx) :
    ∃ pc ∈ (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xo13 xs0 xs1 xs2).1, y ∈ pc.1.set :=
  View.cover_of_tiledL (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xo13 xs0 xs1 xs2).1 S576x512.size (by sl_kernel_rfl) y

/-- What case D leaves in output 12's staging buffer: its pieces read back over junk. -/
def out0_D_12 (xo13 : Vec F S1x2880x128 .bf16) (xs0 : Vec F S2880x1536 .bf16) (xs1 : Vec F S2880x128 .f32) (xs2 : Vec F S2880x128 .f32) : Vec F S2880x512 .bf16 :=
  VO0_12.read (Elt F) (VO0_12.writes (Elt F) VO0_12.junk (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xo13 xs0 xs1 xs2).1)

/-- Case D stores nothing into output 13, a live window: its staging buffer holds what the point before left. -/
def out0_D_13 (c : Dev nD) (i : grid0.Coords) (arg1 : Memref sig .tc .vmem S6x2880x256 .fp8e5m2) (harg1 : arg1.IsWhole) (arg2 : Memref sig .tc .vmem S6x256 .f32) (harg2 : arg2.IsWhole) (arg3 : Memref sig .tc .vmem S1536x512 .fp8e4m3) (harg3 : arg3.IsWhole) (arg4 : Memref sig .tc .vmem S6x256 .f32) (harg4 : arg4.IsWhole) (arg5 : Memref sig .tc .vmem S6x2880x256 .fp8e4m3) (harg5 : arg5.IsWhole) (arg6 : Memref sig .tc .vmem S6x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S6x256 .f32) (harg9 : arg9.IsWhole) (arg10 : Memref sig .tc .vmem S1x2880 .f32) (harg10 : arg10.IsWhole) (arg11 : Memref sig .tc .vmem S2880x128 .f32) (harg11 : arg11.IsWhole) (arg12 : Memref sig .tc .vmem S2880x128 .f32) (harg12 : arg12.IsWhole) (arg13 : Memref sig .tc .vmem S2880x512 .bf16) (harg13 : arg13.IsWhole) (arg14 : Memref sig .tc .vmem S1x2880x128 .bf16) (harg14 : arg14.IsWhole) (arg15 : Memref sig .tc .vmem S1x2880 .f32) (harg15 : arg15.IsWhole) (arg16 : Memref sig .tc .vmem S2880x1536 .bf16) (harg16 : arg16.IsWhole) (arg17 : Memref sig .tc .vmem S2880x128 .f32) (harg17 : arg17.IsWhole) (arg18 : Memref sig .tc .vmem S2880x128 .f32) (harg18 : arg18.IsWhole) (hc0 : ¬cond0_0 i) (hc1 : ¬cond0_1 i) (hc2 : cond0_2 i)
    (x0 : Vec F S6x2880x256 .fp8e5m2) (x1 : Vec F S6x256 .f32) (x2 : Vec F S1536x512 .fp8e4m3) (x3 : Vec F S6x256 .f32) (x4 : Vec F S6x2880x256 .fp8e4m3) (x5 : Vec F S6x256 .f32) (x6 : Vec F S6x256 .f32) (x7 : Vec F S6x256 .f32) (x8 : Vec F S6x256 .f32) (x9 : Vec F S1x2880 .f32) (x10 : Vec F S2880x128 .f32) (x11 : Vec F S2880x128 .f32) (xo13 : Vec F S1x2880x128 .bf16) (xs0 : Vec F S2880x1536 .bf16) (xs1 : Vec F S2880x128 .f32) (xs2 : Vec F S2880x128 .f32) : Vec F S1x2880x128 .bf16 := xo13

/-- Case D's pieces for output 14 tile its block (1 store of `S1x2880`), so they cover it. -/
theorem cover0_D_14 (xo13 : Vec F S1x2880x128 .bf16) (xs0 : Vec F S2880x1536 .bf16) (xs1 : Vec F S2880x128 .f32) (xs2 : Vec F S2880x128 .f32) (y : S1x2880.Idx) :
    ∃ pc ∈ (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xo13 xs0 xs1 xs2).2.2.1, y ∈ pc.1.set :=
  View.cover_of_tiledL (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xo13 xs0 xs1 xs2).2.2.1 S1x2880.size (by sl_kernel_rfl) y

/-- What case D leaves in output 14's staging buffer: its pieces read back over junk. -/
def out0_D_14 (xo13 : Vec F S1x2880x128 .bf16) (xs0 : Vec F S2880x1536 .bf16) (xs1 : Vec F S2880x128 .f32) (xs2 : Vec F S2880x128 .f32) : Vec F S1x2880 .f32 :=
  VO0_14.read (Elt F) (VO0_14.writes (Elt F) VO0_14.junk (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xo13 xs0 xs1 xs2).2.2.1)

/-- Case D stores nothing into scratch `arg16`: it holds what the point before left. -/
def sout0_D_0 (c : Dev nD) (i : grid0.Coords) (arg1 : Memref sig .tc .vmem S6x2880x256 .fp8e5m2) (harg1 : arg1.IsWhole) (arg2 : Memref sig .tc .vmem S6x256 .f32) (harg2 : arg2.IsWhole) (arg3 : Memref sig .tc .vmem S1536x512 .fp8e4m3) (harg3 : arg3.IsWhole) (arg4 : Memref sig .tc .vmem S6x256 .f32) (harg4 : arg4.IsWhole) (arg5 : Memref sig .tc .vmem S6x2880x256 .fp8e4m3) (harg5 : arg5.IsWhole) (arg6 : Memref sig .tc .vmem S6x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S6x256 .f32) (harg9 : arg9.IsWhole) (arg10 : Memref sig .tc .vmem S1x2880 .f32) (harg10 : arg10.IsWhole) (arg11 : Memref sig .tc .vmem S2880x128 .f32) (harg11 : arg11.IsWhole) (arg12 : Memref sig .tc .vmem S2880x128 .f32) (harg12 : arg12.IsWhole) (arg13 : Memref sig .tc .vmem S2880x512 .bf16) (harg13 : arg13.IsWhole) (arg14 : Memref sig .tc .vmem S1x2880x128 .bf16) (harg14 : arg14.IsWhole) (arg15 : Memref sig .tc .vmem S1x2880 .f32) (harg15 : arg15.IsWhole) (arg16 : Memref sig .tc .vmem S2880x1536 .bf16) (harg16 : arg16.IsWhole) (arg17 : Memref sig .tc .vmem S2880x128 .f32) (harg17 : arg17.IsWhole) (arg18 : Memref sig .tc .vmem S2880x128 .f32) (harg18 : arg18.IsWhole) (hc0 : ¬cond0_0 i) (hc1 : ¬cond0_1 i) (hc2 : cond0_2 i)
    (x0 : Vec F S6x2880x256 .fp8e5m2) (x1 : Vec F S6x256 .f32) (x2 : Vec F S1536x512 .fp8e4m3) (x3 : Vec F S6x256 .f32) (x4 : Vec F S6x2880x256 .fp8e4m3) (x5 : Vec F S6x256 .f32) (x6 : Vec F S6x256 .f32) (x7 : Vec F S6x256 .f32) (x8 : Vec F S6x256 .f32) (x9 : Vec F S1x2880 .f32) (x10 : Vec F S2880x128 .f32) (x11 : Vec F S2880x128 .f32) (xo13 : Vec F S1x2880x128 .bf16) (xs0 : Vec F S2880x1536 .bf16) (xs1 : Vec F S2880x128 .f32) (xs2 : Vec F S2880x128 .f32) : Vec F S2880x1536 .bf16 := xs0

/-- Case D stores nothing into scratch `arg17`: it holds what the point before left. -/
def sout0_D_1 (c : Dev nD) (i : grid0.Coords) (arg1 : Memref sig .tc .vmem S6x2880x256 .fp8e5m2) (harg1 : arg1.IsWhole) (arg2 : Memref sig .tc .vmem S6x256 .f32) (harg2 : arg2.IsWhole) (arg3 : Memref sig .tc .vmem S1536x512 .fp8e4m3) (harg3 : arg3.IsWhole) (arg4 : Memref sig .tc .vmem S6x256 .f32) (harg4 : arg4.IsWhole) (arg5 : Memref sig .tc .vmem S6x2880x256 .fp8e4m3) (harg5 : arg5.IsWhole) (arg6 : Memref sig .tc .vmem S6x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S6x256 .f32) (harg9 : arg9.IsWhole) (arg10 : Memref sig .tc .vmem S1x2880 .f32) (harg10 : arg10.IsWhole) (arg11 : Memref sig .tc .vmem S2880x128 .f32) (harg11 : arg11.IsWhole) (arg12 : Memref sig .tc .vmem S2880x128 .f32) (harg12 : arg12.IsWhole) (arg13 : Memref sig .tc .vmem S2880x512 .bf16) (harg13 : arg13.IsWhole) (arg14 : Memref sig .tc .vmem S1x2880x128 .bf16) (harg14 : arg14.IsWhole) (arg15 : Memref sig .tc .vmem S1x2880 .f32) (harg15 : arg15.IsWhole) (arg16 : Memref sig .tc .vmem S2880x1536 .bf16) (harg16 : arg16.IsWhole) (arg17 : Memref sig .tc .vmem S2880x128 .f32) (harg17 : arg17.IsWhole) (arg18 : Memref sig .tc .vmem S2880x128 .f32) (harg18 : arg18.IsWhole) (hc0 : ¬cond0_0 i) (hc1 : ¬cond0_1 i) (hc2 : cond0_2 i)
    (x0 : Vec F S6x2880x256 .fp8e5m2) (x1 : Vec F S6x256 .f32) (x2 : Vec F S1536x512 .fp8e4m3) (x3 : Vec F S6x256 .f32) (x4 : Vec F S6x2880x256 .fp8e4m3) (x5 : Vec F S6x256 .f32) (x6 : Vec F S6x256 .f32) (x7 : Vec F S6x256 .f32) (x8 : Vec F S6x256 .f32) (x9 : Vec F S1x2880 .f32) (x10 : Vec F S2880x128 .f32) (x11 : Vec F S2880x128 .f32) (xo13 : Vec F S1x2880x128 .bf16) (xs0 : Vec F S2880x1536 .bf16) (xs1 : Vec F S2880x128 .f32) (xs2 : Vec F S2880x128 .f32) : Vec F S2880x128 .f32 := xs1

/-- Case D stores nothing into scratch `arg18`: it holds what the point before left. -/
def sout0_D_2 (c : Dev nD) (i : grid0.Coords) (arg1 : Memref sig .tc .vmem S6x2880x256 .fp8e5m2) (harg1 : arg1.IsWhole) (arg2 : Memref sig .tc .vmem S6x256 .f32) (harg2 : arg2.IsWhole) (arg3 : Memref sig .tc .vmem S1536x512 .fp8e4m3) (harg3 : arg3.IsWhole) (arg4 : Memref sig .tc .vmem S6x256 .f32) (harg4 : arg4.IsWhole) (arg5 : Memref sig .tc .vmem S6x2880x256 .fp8e4m3) (harg5 : arg5.IsWhole) (arg6 : Memref sig .tc .vmem S6x256 .f32) (harg6 : arg6.IsWhole) (arg7 : Memref sig .tc .vmem S6x256 .f32) (harg7 : arg7.IsWhole) (arg8 : Memref sig .tc .vmem S6x256 .f32) (harg8 : arg8.IsWhole) (arg9 : Memref sig .tc .vmem S6x256 .f32) (harg9 : arg9.IsWhole) (arg10 : Memref sig .tc .vmem S1x2880 .f32) (harg10 : arg10.IsWhole) (arg11 : Memref sig .tc .vmem S2880x128 .f32) (harg11 : arg11.IsWhole) (arg12 : Memref sig .tc .vmem S2880x128 .f32) (harg12 : arg12.IsWhole) (arg13 : Memref sig .tc .vmem S2880x512 .bf16) (harg13 : arg13.IsWhole) (arg14 : Memref sig .tc .vmem S1x2880x128 .bf16) (harg14 : arg14.IsWhole) (arg15 : Memref sig .tc .vmem S1x2880 .f32) (harg15 : arg15.IsWhole) (arg16 : Memref sig .tc .vmem S2880x1536 .bf16) (harg16 : arg16.IsWhole) (arg17 : Memref sig .tc .vmem S2880x128 .f32) (harg17 : arg17.IsWhole) (arg18 : Memref sig .tc .vmem S2880x128 .f32) (harg18 : arg18.IsWhole) (hc0 : ¬cond0_0 i) (hc1 : ¬cond0_1 i) (hc2 : cond0_2 i)
    (x0 : Vec F S6x2880x256 .fp8e5m2) (x1 : Vec F S6x256 .f32) (x2 : Vec F S1536x512 .fp8e4m3) (x3 : Vec F S6x256 .f32) (x4 : Vec F S6x2880x256 .fp8e4m3) (x5 : Vec F S6x256 .f32) (x6 : Vec F S6x256 .f32) (x7 : Vec F S6x256 .f32) (x8 : Vec F S6x256 .f32) (x9 : Vec F S1x2880 .f32) (x10 : Vec F S2880x128 .f32) (x11 : Vec F S2880x128 .f32) (xo13 : Vec F S1x2880x128 .bf16) (xs0 : Vec F S2880x1536 .bf16) (xs1 : Vec F S2880x128 .f32) (xs2 : Vec F S2880x128 .f32) : Vec F S2880x128 .f32 := xs2

end D

end Cases

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S2880x512 .bf16 × Vec F S1x2880x128 .bf16 × Vec F S1x2880 .f32 × Vec F S2880x1536 .bf16 × Vec F S2880x128 .f32 × Vec F S2880x128 .f32
  | 0, hn => (out0_A_12 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), out0_A_13 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), out0_A_14 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩))
  | n + 1, hn =>
    if h0 : (n + 1) % 15 = 0 then
      if h1 : (n + 1) < 12 then
        if h2 : (n + 1) % 15 = 14 then
          False.elim (by have hN : n + 1 < 15 := lt_of_lt_of_eq hn (show cfg0.N = 15 from N_0); omega)
        else
          (out0_A_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), out0_A_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), out0_A_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩))
      else
        False.elim (by have hN : n + 1 < 15 := lt_of_lt_of_eq hn (show cfg0.N = 15 from N_0); omega)
    else
      if h1 : (n + 1) < 12 then
        if h2 : (n + 1) % 15 = 14 then
          False.elim (by have hN : n + 1 < 15 := lt_of_lt_of_eq hn (show cfg0.N = 15 from N_0); omega)
        else
          (out0_B_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, out0_B_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, out0_B_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2)
      else
        if h2 : (n + 1) % 15 = 14 then
          (out0_D_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.1 (outsAt0 c n (Nat.lt_of_succ_lt hn)).2.2.2.1 (outsAt0 c n (Nat.lt_of_succ_lt hn)).2.2.2.2.1 (outsAt0 c n (Nat.lt_of_succ_lt hn)).2.2.2.2.2, out0_D_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.1 (outsAt0 c n (Nat.lt_of_succ_lt hn)).2.2.2.1 (outsAt0 c n (Nat.lt_of_succ_lt hn)).2.2.2.2.1 (outsAt0 c n (Nat.lt_of_succ_lt hn)).2.2.2.2.2, out0_D_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.1 (outsAt0 c n (Nat.lt_of_succ_lt hn)).2.2.2.1 (outsAt0 c n (Nat.lt_of_succ_lt hn)).2.2.2.2.1 (outsAt0 c n (Nat.lt_of_succ_lt hn)).2.2.2.2.2, sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.1 (outsAt0 c n (Nat.lt_of_succ_lt hn)).2.2.2.1 (outsAt0 c n (Nat.lt_of_succ_lt hn)).2.2.2.2.1 (outsAt0 c n (Nat.lt_of_succ_lt hn)).2.2.2.2.2, sout0_D_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.1 (outsAt0 c n (Nat.lt_of_succ_lt hn)).2.2.2.1 (outsAt0 c n (Nat.lt_of_succ_lt hn)).2.2.2.2.1 (outsAt0 c n (Nat.lt_of_succ_lt hn)).2.2.2.2.2, sout0_D_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.1 (outsAt0 c n (Nat.lt_of_succ_lt hn)).2.2.2.1 (outsAt0 c n (Nat.lt_of_succ_lt hn)).2.2.2.2.1 (outsAt0 c n (Nat.lt_of_succ_lt hn)).2.2.2.2.2)
        else
          (out0_C_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, out0_C_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2 (outsAt0 c n (Nat.lt_of_succ_lt hn)).2.1, out0_C_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2)

/-- `outsAt0` at a point of case A: that case's contents. -/
theorem outsAt0_A (c : Dev nD) (t : Fin cfg0.N) (h0 : t.val % 15 = 0) (h1 : t.val < 12) (h2 : ¬t.val % 15 = 14) :
    outsAt0 m c t.val t.isLt = (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  obtain ⟨n, hn⟩ := t
  cases n with
  | zero => exact rfl
  | succ n => exact (dif_pos h0).trans ((dif_pos h1).trans ((dif_neg h2).trans rfl))

/-- `outsAt0` at a point of case B: that case's contents, over what the point before left. -/
theorem outsAt0_B (c : Dev nD) (t : Fin cfg0.N) (h0 : ¬t.val % 15 = 0) (h1 : t.val < 12) (h2 : ¬t.val % 15 = 14) :
    outsAt0 m c t.val t.isLt = (out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C: that case's contents, over what the point before left. -/
theorem outsAt0_C (c : Dev nD) (t : Fin cfg0.N) (h0 : ¬t.val % 15 = 0) (h1 : ¬t.val < 12) (h2 : ¬t.val % 15 = 14) :
    outsAt0 m c t.val t.isLt = (out0_C_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_C_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (outsAt0 m c (t.val - 1) (Nat.lt_of_le_of_lt (Nat.sub_le _ _) t.isLt)).2.1, out0_C_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_neg h1).trans ((dif_neg h2).trans rfl))

/-- `outsAt0` at a point of case D: that case's contents, over what the point before left. -/
theorem outsAt0_D (c : Dev nD) (t : Fin cfg0.N) (h0 : ¬t.val % 15 = 0) (h1 : ¬t.val < 12) (h2 : t.val % 15 = 14) :
    outsAt0 m c t.val t.isLt = (out0_D_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_D_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_D_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_D_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_D_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_neg h1).trans ((dif_pos h2).trans rfl))

end Cert.DwoutIdeal.Hand

end
-- ==== Proof.DwoutIdeal.Frame.lean ====
/- The frame of this call, with what every output holds. -/
module

public import proofs.«01_k».proof.Proof.DwoutIdeal.Outs
public import Idealize.ShloMosaic.Lib.Claim

@[expose] public section

-- membership in a rectangle of production extents (`View.cover_of_tiled`): the elaborator's structural look
-- recurses once per coordinate of the long axes
set_option maxRecDepth 16384

noncomputable section

namespace Cert.DwoutIdeal.Hand

open Cert.DwoutIdeal Cert.DwoutIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.1) ∗ owns (c : Thread nD τ) scM0_1 fullShare ((outsAt0 m c n hn).2.2.2.2.1) ∗ owns (c : Thread nD τ) scM0_2 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.1) ∗ owns (c : Thread nD τ) scM0_1 fullShare ((outsAt0 m c n hn).2.2.2.2.1) ∗ owns (c : Thread nD τ) scM0_2 fullShare ((outsAt0 m c n hn).2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.1) ∗ owns (c : Thread nD τ) scM0_1 fullShare ((outsAt0 m c (n - 1) (by omega)).2.2.2.2.1) ∗ owns (c : Thread nD τ) scM0_2 fullShare ((outsAt0 m c (n - 1) (by omega)).2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (outsAt0 m c t.val t.isLt).1
    | ⟨13, _⟩ => (outsAt0 m c t.val t.isLt).2.1
    | ⟨14, _⟩ => (outsAt0 m c t.val t.isLt).2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = (outsAt0 m c t.val t.isLt).1 := by dsimp only [dats]
theorem after0_13 (c : Dev nD) (t : Fin cfg0.N) : (dats m 0 c).after 13 t = (outsAt0 m c t.val t.isLt).2.1 := by dsimp only [dats]
theorem after0_14 (c : Dev nD) (t : Fin cfg0.N) : (dats m 0 c).after 14 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-- Output 13's contents CARRY through the points that leave it idle: at such a point, its buffer not fresh, the proof data's
    `after` is the point before's (the case there stores nothing into the window and its term says so; a case that stores
    into it is not idle there by `liveAt0_13_κ`) — the hypothesis of Lib/Pipeline/TableIdle.lean `Dat.before_out_traj`. -/
theorem hcarry0_13 (c : Dev nD) : ∀ (t : Fin cfg0.N) (_ : t.val ≠ 0), cfg0.idle 13 (grid0.coords t) = true → cfg0.fresh 13 t.val = false →
    (dats m 0 c).after 13 t = (dats m 0 c).after 13 ⟨t.val - 1, by omega⟩ := by
  intro t _ hi _
  have hN : t.val < 15 := lt_of_lt_of_eq t.isLt (show cfg0.N = 15 from N_0)
  rw [after0_13, after0_13]
  by_cases h0 : t.val % 15 = 0
  · by_cases h1 : t.val < 12
    · by_cases h2 : t.val % 15 = 14
      · exfalso; omega
      · rw [liveAt0_13_A t ((hcond0_0 t).mpr h0) ((hcond0_1 t).mpr h1) (fun h => h2 ((hcond0_2 t).mp h))] at hi
        exact absurd hi Bool.false_ne_true
    · exfalso; omega
  · by_cases h1 : t.val < 12
    · by_cases h2 : t.val % 15 = 14
      · exfalso; omega
      · rw [liveAt0_13_B t (fun h => h0 ((hcond0_0 t).mp h)) ((hcond0_1 t).mpr h1) (fun h => h2 ((hcond0_2 t).mp h))] at hi
        exact absurd hi Bool.false_ne_true
    · by_cases h2 : t.val % 15 = 14
      · rw [outsAt0_D m c t h0 h1 h2]
        dsimp only
        unfold out0_D_13
        rfl
      · rw [outsAt0_C m c t h0 h1 h2]
        dsimp only
        unfold out0_C_13
        rfl
/-- At a point of case D output 13's current staging buffer holds what the point before left: the buffer is not fresh
    there (`notFresh0_13_D`: stored into since the region's entry or the last write-back, carried through the points that
    leave it idle by `hcarry0_13`; Lib/Pipeline/TableIdle.lean `Dat.before_out_traj`). -/
theorem before0_13_D (c : Dev nD) (t : Fin cfg0.N) (h0 : ¬t.val % 15 = 0) (h1 : ¬t.val < 12) (h2 : t.val % 15 = 14) (d) :
    (dats m 0 c).before 13 t d = (outsAt0 m c (t.val - 1) (Nat.lt_of_le_of_lt (Nat.sub_le _ _) t.isLt)).2.1 := by
  rw [Dat.before_out_traj _ 13 rfl (fun _ _ => rfl) (hcarry0_13 m c) t.val t rfl d,
    if_neg (by rw [notFresh0_13_D t (fun h => h0 ((hcond0_0 t).mp h)) (fun h => h1 ((hcond0_1 t).mp h)) ((hcond0_2 t).mpr h2)]; exact Bool.false_ne_true)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

set_option maxHeartbeats 25600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl]
  rw [show (dats m 0 c).Φ t.succ = PhiS m c (t.val + 1) t.isLt from rfl, PhiS_succ]
  have hN : t.val < 15 := lt_of_lt_of_eq t.isLt (show cfg0.N = 15 from N_0)
  by_cases h0 : t.val % 15 = 0
  · by_cases h1 : t.val < 12
    · by_cases h2 : t.val % 15 = 14
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        rw [show (dats m 0 c).leavesExact 12 t = owns (c : Thread nD τ) (ms0_12 t) fullShare ((dats m 0 c).after 12 t) from by
      unfold Dat.leavesExact; rw [liveAt0_12 t], after0_12]
        rw [show (dats m 0 c).leavesExact 13 t = owns (c : Thread nD τ) (ms0_13 t) fullShare ((dats m 0 c).after 13 t) from by
      unfold Dat.leavesExact; rw [liveAt0_13_A t ((hcond0_0 t).mpr h0) ((hcond0_1 t).mpr h1) (fun h => h2 ((hcond0_2 t).mp h))], after0_13]
        rw [Dat.leavesExact_idle (dats m 0 c) 14 t (idleAt0_14_A t ((hcond0_0 t).mpr h0) ((hcond0_1 t).mpr h1) (fun h => h2 ((hcond0_2 t).mp h))) (noFlush0_14_A t ((hcond0_0 t).mpr h0) ((hcond0_1 t).mpr h1) (fun h => h2 ((hcond0_2 t).mp h)))]
        by_cases hz : t.val = 0
        · rw [PhiS_castSucc m c t, PhiS_zero m c _ _ hz, PhiA0_eq]
          rw [outsAt0_A m c t h0 h1 h2]
          unfold out0_A_12 out0_A_13 sout0_A_0 sout0_A_1 sout0_A_2; (try dsimp only)
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
          iapply ((kernelRun0_A c (grid0.coords t) _ _ _ _ _ _ _ _ _ _ _ _ _ _ _ _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.2.2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexists _; iexact H12
          isplitl [H13]; · iexists _; iexact H13
          isplitl [H14]; · iexact H14
          isplitl [HS0]; · iexact HS0
          isplitl [HS1]; · iexact HS1
          isplitl [HS2]; · iexact HS2
          iintro ⟨H0, H1, H2, H3, H4, H5, H6, H7, H8, H9, H10, H11, ⟨%e12, H12⟩, ⟨%e13, H13⟩, H14, ⟨%es0, HS0⟩, ⟨%es1, HS1⟩, ⟨%es2, HS2⟩⟩
          isplitl [HS0 HS1 HS2 Hg]
          · isplitl [HS0 HS1 HS2]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _)
              unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]
          · unfold owns; iexists _; isplitr
            swap; · iexact H12
            ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _ _ _ _)
          isplitl [H13]
          · unfold owns; iexists _; isplitr
            swap; · iexact H13
            ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _)
          iexists _; iexact H14
        · exfalso; have hN : t.val < 15 := lt_of_lt_of_eq t.isLt (show cfg0.N = 15 from N_0); omega
    · exfalso; omega
  · by_cases h1 : t.val < 12
    · by_cases h2 : t.val % 15 = 14
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        rw [show (dats m 0 c).leavesExact 12 t = owns (c : Thread nD τ) (ms0_12 t) fullShare ((dats m 0 c).after 12 t) from by
      unfold Dat.leavesExact; rw [liveAt0_12 t], after0_12]
        rw [show (dats m 0 c).leavesExact 13 t = owns (c : Thread nD τ) (ms0_13 t) fullShare ((dats m 0 c).after 13 t) from by
      unfold Dat.leavesExact; rw [liveAt0_13_B t (fun h => h0 ((hcond0_0 t).mp h)) ((hcond0_1 t).mpr h1) (fun h => h2 ((hcond0_2 t).mp h))], after0_13]
        rw [Dat.leavesExact_idle (dats m 0 c) 14 t (idleAt0_14_B t (fun h => h0 ((hcond0_0 t).mp h)) ((hcond0_1 t).mpr h1) (fun h => h2 ((hcond0_2 t).mp h))) (noFlush0_14_B t (fun h => h0 ((hcond0_0 t).mp h)) ((hcond0_1 t).mpr h1) (fun h => h2 ((hcond0_2 t).mp h)))]
        by_cases hz : t.val = 0
        · exfalso; have hN : t.val < 15 := lt_of_lt_of_eq t.isLt (show cfg0.N = 15 from N_0); omega
        · rw [PhiS_castSucc m c t, PhiS_pos m c _ _ hz]
          rw [outsAt0_B m c t h0 h1 h2]
          unfold out0_B_12 out0_B_13 sout0_B_0 sout0_B_1 sout0_B_2; (try dsimp only)
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
          iapply ((kernelRun0_B c (grid0.coords t) _ _ _ _ _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ _).2.2.2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexists _; iexact H12
          isplitl [H13]; · iexists _; iexact H13
          isplitl [H14]; · iexact H14
          isplitl [HS0]; · iexact HS0
          isplitl [HS1]; · iexact HS1
          isplitl [HS2]; · iexact HS2
          iintro ⟨H0, H1, H2, H3, H4, H5, H6, H7, H8, H9, H10, H11, ⟨%e12, H12⟩, ⟨%e13, H13⟩, H14, HS0, HS1, ⟨%es2, HS2⟩⟩
          isplitl [HS0 HS1 HS2 Hg]
          · isplitl [HS0 HS1 HS2]
            · isplitl [HS0]
              · iexact HS0
              isplitl [HS1]
              · iexact HS1
              unfold owns; iexists _; isplitr
              swap; · iexact HS2
              ipureintro; exact View.read_writes_of_cover _ _ _ _ _ (scover0_B_2 c _ _ _ _ _ _ _ _ _ _ _ _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]
          · unfold owns; iexists _; isplitr
            swap; · iexact H12
            ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _ _ _ _ _ _ _)
          isplitl [H13]
          · unfold owns; iexists _; isplitr
            swap; · iexact H13
            ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _ _ _ _ _ _)
          iexists _; iexact H14
    · by_cases h2 : t.val % 15 = 14
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        rw [show (dats m 0 c).leavesExact 12 t = owns (c : Thread nD τ) (ms0_12 t) fullShare ((dats m 0 c).after 12 t) from by
      unfold Dat.leavesExact; rw [liveAt0_12 t], after0_12]
        rw [show (dats m 0 c).leavesExact 13 t = owns (c : Thread nD τ) (ms0_13 t) fullShare ((dats m 0 c).after 13 t) from by
      unfold Dat.leavesExact; rw [idleAt0_13_D t (fun h => h0 ((hcond0_0 t).mp h)) (fun h => h1 ((hcond0_1 t).mp h)) ((hcond0_2 t).mpr h2), flush0_13_D t (fun h => h0 ((hcond0_0 t).mp h)) (fun h => h1 ((hcond0_1 t).mp h)) ((hcond0_2 t).mpr h2)], after0_13]
        rw [show (dats m 0 c).leavesExact 14 t = owns (c : Thread nD τ) (ms0_14 t) fullShare ((dats m 0 c).after 14 t) from by
      unfold Dat.leavesExact; rw [liveAt0_14_D t (fun h => h0 ((hcond0_0 t).mp h)) (fun h => h1 ((hcond0_1 t).mp h)) ((hcond0_2 t).mpr h2)], after0_14]
        by_cases hz : t.val = 0
        · exfalso; have hN : t.val < 15 := lt_of_lt_of_eq t.isLt (show cfg0.N = 15 from N_0); omega
        · rw [PhiS_castSucc m c t, PhiS_pos m c _ _ hz]
          rw [outsAt0_D m c t h0 h1 h2]
          simp only [before0_13_D m c t h0 h1 h2]
          unfold out0_D_12 out0_D_13 out0_D_14 sout0_D_0 sout0_D_1 sout0_D_2; (try dsimp only)
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
          iapply ((kernelRun0_D c (grid0.coords t) _ _ _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ _ _).2.2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexists _; iexact H12
          isplitl [H13]; · iexact H13
          isplitl [H14]; · iexists _; iexact H14
          isplitl [HS0]; · iexact HS0
          isplitl [HS1]; · iexact HS1
          isplitl [HS2]; · iexact HS2
          iintro ⟨H0, H1, H2, H3, H4, H5, H6, H7, H8, H9, H10, H11, ⟨%e12, H12⟩, H13, ⟨%e14, H14⟩, HS0, HS1, HS2⟩
          isplitl [HS0 HS1 HS2 Hg]
          · isplitl [HS0 HS1 HS2]
            · isplitl [HS0]
              · iexact HS0
              isplitl [HS1]
              · iexact HS1
              iexact HS2
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]
          · unfold owns; iexists _; isplitr
            swap; · iexact H12
            ipureintro; exact View.read_writes_of_cover _ _ _ _ _ (cover0_D_12 c _ _ _ _ _ _ _ _ _ _ _ _ _ _ _ _ _ _ _ _ _ _ _ _ _ _ _ _ _ _ _ _ _ _ _ _ _ _ _ _ _ _ _ _ _ _ _ _ _ _ _ _ _ _ _ _)
          isplitl [H13]; · iexact H13
          unfold owns; iexists _; isplitr
          swap; · iexact H14
          ipureintro; exact View.read_writes_of_cover _ _ _ _ _ (cover0_D_14 c _ _ _ _ _ _ _ _ _ _ _ _ _ _ _ _ _ _ _ _ _ _ _ _ _ _ _ _ _ _ _ _ _ _ _ _ _ _ _ _ _ _ _ _ _ _ _ _ _ _ _ _ _ _ _ _)
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        rw [show (dats m 0 c).leavesExact 12 t = owns (c : Thread nD τ) (ms0_12 t) fullShare ((dats m 0 c).after 12 t) from by
      unfold Dat.leavesExact; rw [liveAt0_12 t], after0_12]
        rw [Dat.leavesExact_idle (dats m 0 c) 13 t (idleAt0_13_C t (fun h => h0 ((hcond0_0 t).mp h)) (fun h => h1 ((hcond0_1 t).mp h)) (fun h => h2 ((hcond0_2 t).mp h))) (noFlush0_13_C t (fun h => h0 ((hcond0_0 t).mp h)) (fun h => h1 ((hcond0_1 t).mp h)) (fun h => h2 ((hcond0_2 t).mp h)))]
        rw [Dat.leavesExact_idle (dats m 0 c) 14 t (idleAt0_14_C t (fun h => h0 ((hcond0_0 t).mp h)) (fun h => h1 ((hcond0_1 t).mp h)) (fun h => h2 ((hcond0_2 t).mp h))) (noFlush0_14_C t (fun h => h0 ((hcond0_0 t).mp h)) (fun h => h1 ((hcond0_1 t).mp h)) (fun h => h2 ((hcond0_2 t).mp h)))]
        by_cases hz : t.val = 0
        · exfalso; have hN : t.val < 15 := lt_of_lt_of_eq t.isLt (show cfg0.N = 15 from N_0); omega
        · rw [PhiS_castSucc m c t, PhiS_pos m c _ _ hz]
          rw [outsAt0_C m c t h0 h1 h2]
          unfold out0_C_12 sout0_C_0 sout0_C_1 sout0_C_2; (try dsimp only)
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
          iapply ((kernelRun0_C c (grid0.coords t) _ _ _ _ _ _ _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ _).2.2.2.2.2.2 _ _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexists _; iexact H12
          isplitl [H13]; · iexact H13
          isplitl [H14]; · iexact H14
          isplitl [HS0]; · iexact HS0
          isplitl [HS1]; · iexact HS1
          isplitl [HS2]; · iexact HS2
          iintro ⟨H0, H1, H2, H3, H4, H5, H6, H7, H8, H9, H10, H11, ⟨%e12, H12⟩, H13, H14, HS0, HS1, HS2⟩
          isplitl [HS0 HS1 HS2 Hg]
          · isplitl [HS0 HS1 HS2]
            · isplitl [HS0]
              · iexact HS0
              isplitl [HS1]
              · iexact HS1
              iexact HS2
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]
          · unfold owns; iexists _; isplitr
            swap; · iexact H12
            ipureintro; exact View.read_writes_of_cover _ _ _ _ _ (cover0_C_12 c _ _ _ _ _ _ _ _ _ _ _ _ _ _ _ _ _ _ _ _ _ _ _ _ _ _ _ _ _ _ _ _ _ _ _ _ _ _ _ _ _ _ _ _ _ _ _ _ _ _ _ _ _ _ _)
          isplitl [H13]; · iexists _; iexact H13
          iexists _; iexact H14

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 15 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

/-- THE FRAME: `Cert.quiescent_DwoutIdeal`'s statement (Defs.lean) at any `F` — Proof.lean cites it at `Bits`:
    `theorem Cert.Proof.claim : Cert.Claim := ⟨Cert.DwoutIdeal.Gen.facts, fun m ρ _ => Cert.DwoutIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.DwoutIdeal.Hand

end
-- ==== Proof.DwoutIdeal.Value.lean ====
/- The run of this call with its three output arrays named and the arguments unchanged. -/
module

public import proofs.«01_k».proof.Proof.DwoutIdeal.Frame
public import Idealize.ShloMosaic.Lib.Pipeline.Value

@[expose] public section

noncomputable section

namespace Cert.DwoutIdeal.Hand

open Cert.DwoutIdeal Cert.DwoutIdeal.Gen

open Cert.DwoutIdeal Cert.DwoutIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v4_0) = (dats m 0 c).arrAt 12 cfg0.N :=
  (h c).1 12

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v4_1) = (dats m 0 c).arrAt 13 cfg0.N :=
  (h c).1 13

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v4_2) = (dats m 0 c).arrAt 14 cfg0.N :=
  (h c).1 14

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- After the frame run, argument `main_arg7` is as launched: input window 7 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

/-- After the frame run, argument `main_arg8` is as launched: input window 8 stages it and never writes it back. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 8).trans (((dats m 0 c).arrAt_in 8 rfl _).trans ((A_eq m c 8).trans (V_main_arg8 m c)))

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: input window 10 stages it and never writes it back. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).1 10).trans (((dats m 0 c).arrAt_in 10 rfl _).trans ((A_eq m c 10).trans (V_main_arg10 m c)))

/-- After the frame run, argument `main_arg11` is as launched: input window 11 stages it and never writes it back. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).1 11).trans (((dats m 0 c).arrAt_in 11 rfl _).trans ((A_eq m c 11).trans (V_main_arg11 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v4_0) = (dats m 0 c).arrAt 12 cfg0.N
      ∧ r.2.mem ((c : Thread nD τ).loc main_v4_1) = (dats m 0 c).arrAt 13 cfg0.N
      ∧ r.2.mem ((c : Thread nD τ).loc main_v4_2) = (dats m 0 c).arrAt 14 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨post12 m r h c,
      post13 m r h c,
      post14 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c⟩)
    (run_main m ρ)

end Cert.DwoutIdeal.Hand

end
-- ==== Proof.DwoutIdeal.Pay.lean ====
module

public import proofs.«01_k».proof.Proof.Gen.DwoutIdeal.Skeleton
public import Idealize.ShloMosaic.Lib.Pipeline.ValueKit
public import Idealize.ShloMosaic.Lib.Pipeline.ReadBack
public import Idealize.ShloMosaic.Lib.Pointwise

@[expose] public section

set_option maxRecDepth 16384
noncomputable section
open Idealize.ShloMosaic Idealize.ShloMosaic.TcCoe Idealize.SL.Sem
namespace Cert.DwoutIdeal.Hand
open Cert.DwoutIdeal Cert.DwoutIdeal.Gen

/-- A column of the rows a mask keeps, added up. -/
def P (v : IVec S6x128 1) (w : FVec Ideal S6x128 .f32) (l : Fin 128) : EReal :=
  ∑ r : Fin 6, Scalar.select (v (ix2 r l)) (w (ix2 r l)) (0 : EReal)

theorem pay1_at (x : FVec Ideal S576x1536 .bf16) (y : FVec Ideal S1536x512 .fp8e4m3) (d : Fin 576) (f : Fin 512) :
    k0_pay1 (F := Ideal) x y (ix2 d f) = ∑ k, x (ix2 d k) * y (ix2 k f) := by
  pointwise [k0_pay1]

theorem pay12_at (i : BitVec 32) (x : FVec Ideal S2880x128 .f32) (w : FVec Ideal S6x128 .f32) (d : Fin 2880) (l : Fin 128) :
    k0_pay12 (F := Ideal) i x w (ix2 d l) = x (ix2 d l) * P (k0_pay11 i) w l := by
  generalize hv : k0_pay11 i = v
  unfold k0_pay12
  rw [hv]
  pointwise [P]

theorem pay13_at (v : IVec S6x128 1) (x y : FVec Ideal S2880x128 .f32) (w : FVec Ideal S6x128 .f32) (d : Fin 2880) (l : Fin 128) :
    k0_pay13 (F := Ideal) v x y w (ix2 d l) = x (ix2 d l) + y (ix2 d l) * P v w l := by
  pointwise [k0_pay13, P]

theorem pay14_at (v : IVec S6x128 1) (x : FVec Ideal S1x2880x128 .fp8e4m3) (w : FVec Ideal S6x128 .f32) (d : Fin 2880) (l : Fin 128) :
    k0_pay14 (F := Ideal) v x w (ix2 d l) = x (ix3 (0 : Fin 1) d l) * P v w l := by
  pointwise [k0_pay14, P]

/-- The mean over the features, the reciprocal of their number being named. -/
def mean (f : Fin 2880 → EReal) : EReal := (∑ d, f d) * ((1 / 2880 : ℝ) : EReal)

theorem pay18_at (v : IVec S6x128 1) (x y : FVec Ideal S2880x128 .f32) (w : FVec Ideal S6x128 .f32) (g : FVec Ideal S2880x128 .f32) (l : Fin 128) :
    k0_pay18 (F := Ideal) v x y w g (ix2 (0 : Fin 1) l) = mean fun d => k0_pay13 (F := Ideal) v x y w (ix2 d l) * g (ix2 d l) := by
  unfold k0_pay18 k0_pay17
  generalize k0_pay13 (F := Ideal) v x y w = h
  pointwise [mean]
  rw [IdealRules.named_const.ideal_named_scalar _ _ _ _ rfl]

theorem pay19_at (v : IVec S6x128 1) (x y : FVec Ideal S2880x128 .f32) (w : FVec Ideal S6x128 .f32) (z : FVec Ideal S1x2880x128 .fp8e4m3) (u : FVec Ideal S6x128 .f32) (g : FVec Ideal S2880x128 .f32) (l : Fin 128) :
    k0_pay19 (F := Ideal) v x y w z u g (ix2 (0 : Fin 1) l) = mean fun d => k0_pay13 (F := Ideal) v x y w (ix2 d l) * k0_pay14 (F := Ideal) v z u (ix2 d l) * g (ix2 d l) := by
  unfold k0_pay19 k0_pay15
  generalize k0_pay13 (F := Ideal) v x y w = h
  generalize k0_pay14 (F := Ideal) v z u = h'
  pointwise [mean]
  rw [IdealRules.named_const.ideal_named_scalar _ _ _ _ rfl]

theorem pay16_at (v : IVec S6x128 1) (x y : FVec Ideal S2880x128 .f32) (w : FVec Ideal S6x128 .f32) (z : FVec Ideal S1x2880x128 .fp8e4m3) (u : FVec Ideal S6x128 .f32) (g : FVec Ideal S2880x128 .f32) (d : Fin 2880) (l : Fin 128) :
    k0_pay16 (F := Ideal) v x y w z u g (ix2 d l) = g (ix2 d l) + k0_pay13 (F := Ideal) v x y w (ix2 d l) * k0_pay14 (F := Ideal) v z u (ix2 d l) := by
  unfold k0_pay16 k0_pay15
  generalize k0_pay13 (F := Ideal) v x y w = h
  generalize k0_pay14 (F := Ideal) v z u = h'
  pointwise

theorem pay17_at (v : IVec S6x128 1) (x y : FVec Ideal S2880x128 .f32) (w : FVec Ideal S6x128 .f32) (g : FVec Ideal S2880x128 .f32) (d : Fin 2880) (l : Fin 128) :
    k0_pay17 (F := Ideal) v x y w g (ix2 d l) = k0_pay13 (F := Ideal) v x y w (ix2 d l) * g (ix2 d l) := by
  unfold k0_pay17
  generalize k0_pay13 (F := Ideal) v x y w = h
  pointwise

theorem pay2_at (v : IVec S6x128 1) (xh dxh : FVec Ideal S2880x128 .f32) (m1 m2 : FVec Ideal S1x128 .f32) (dy : FVec Ideal S1x2880x128 .fp8e5m2) (u w : FVec Ideal S6x128 .f32) (d : Fin 2880) (l : Fin 128) :
    k0_pay2 (F := Ideal) v xh dxh m1 m2 dy u w (ix3 (0 : Fin 1) d l) =
      dy (ix3 (0 : Fin 1) d l) * P v u l + P v w l * (dxh (ix2 d l) - m1 (ix2 (0 : Fin 1) l) - xh (ix2 d l) * m2 (ix2 (0 : Fin 1) l)) := by
  pointwise [k0_pay2, P]

theorem pay3_at (g : FVec Ideal S2880x128 .f32) (d : Fin 2880) : k0_pay3 (F := Ideal) g (ix2 (0 : Fin 1) d) = ∑ l, g (ix2 d l) := by
  pointwise [k0_pay3]

theorem pay21_at (g : FVec Ideal S1x2880 .f32) (d : Fin 2880) (l : Fin 128) : k0_pay21 (F := Ideal) g (ix2 d l) = g (ix2 (0 : Fin 1) d) := by
  pointwise [k0_pay21]

theorem pay22_at (j : S2880x128.Idx) : k0_pay22 (F := Ideal) j = 0 := by
  pointwise [k0_pay22]

/-- The mask of a point keeps the row of its batch entry. -/
theorem mask_at (t : Fin 15) (r : Fin 6) (l : Fin 128) :
    k0_pay11 (BitVec.ofNat 32 t.val) (ix2 r l) = if r.val = t.val / 2 then 1#1 else 0#1 := by
  pointwise [k0_pay11]
  revert t r
  decide +kernel

theorem P_eq (t : Fin 15) (w : FVec Ideal S6x128 .f32) (l : Fin 128) (h : t.val / 2 < 6) :
    P (k0_pay11 (BitVec.ofNat 32 t.val)) w l = w (ix2 ⟨t.val / 2, h⟩ l) := by
  unfold P
  rw [Finset.sum_eq_single ⟨t.val / 2, h⟩]
  · rw [mask_at, if_pos rfl]; rfl
  · intro b _ hb
    rw [mask_at, if_neg (fun e => hb (Fin.ext e))]; rfl
  · intro h'; exact absurd (Finset.mem_univ _) h'

end Cert.DwoutIdeal.Hand
-- ==== Proof.DwoutIdeal.Elem.lean ====
module

public import proofs.«01_k».proof.Proof.DwoutIdeal.Pay

@[expose] public section

noncomputable section
open Idealize.ShloMosaic Idealize.ShloMosaic.TcCoe
namespace Cert.DwoutIdeal.Hand
open Cert.DwoutIdeal

/-- Batch entry and place in it of a token, and the token at a place. -/
def tb (k : Fin 1536) : Fin 6 := ⟨k.val / 256, by omega⟩
def ts (k : Fin 1536) : Fin 256 := ⟨k.val % 256, by omega⟩
def tok (b : Fin 6) (s : Fin 256) : Fin 1536 := ⟨b.val * 256 + s.val, by omega⟩

theorem tok_tb_ts (k : Fin 1536) : tok (tb k) (ts k) = k := Fin.ext (by simp only [tok, tb, ts]; omega)

/-- The gradient of the layer norm's output at a feature and a token. -/
def hE (a6 a7 : FVec Ideal S6x256 .f32) (a10 a11 : FVec Ideal S2880x1536 .f32) (d : Fin 2880) (b : Fin 6) (s : Fin 256) : EReal :=
  a10 (ix2 d (tok b s)) * a6 (ix2 b s) + a11 (ix2 d (tok b s)) * a7 (ix2 b s)

/-- The normalised value at a feature and a token. -/
def xE (a4 : FVec Ideal S6x256x2880 .fp8e4m3) (a5 : FVec Ideal S6x256 .f32) (d : Fin 2880) (b : Fin 6) (s : Fin 256) : EReal :=
  a4 (ix3 b s d) * a5 (ix2 b s)

/-- The layer norm's backward formula at a feature `d`, from the gradients `h` and values `x` of a token's features. -/
def lnE (dy r : EReal) (h x g : Fin 2880 → EReal) (d : Fin 2880) : EReal :=
  dy + r * (h d * g d - (mean fun e => h e * g e) - x d * mean fun e => h e * x e * g e)

/-- The input's gradient, element by element. -/
def dxE (a0 : FVec Ideal S6x256x2880 .fp8e5m2) (a1 : FVec Ideal S6x256 .f32) (a4 : FVec Ideal S6x256x2880 .fp8e4m3) (a5 a6 a7 a8 : FVec Ideal S6x256 .f32)
    (a9 : FVec Ideal S2880 .f32) (a10 a11 : FVec Ideal S2880x1536 .f32) (b : Fin 6) (d : Fin 2880) (s : Fin 256) : EReal :=
  lnE (a0 (ix3 b s d) * a1 (ix2 b s)) (a8 (ix2 b s)) (fun e => hE a6 a7 a10 a11 e b s) (fun e => xE a4 a5 e b s) (fun e => a9 (ix1 e)) d

/-- The gain's gradient, element by element. -/
def dgE (a4 : FVec Ideal S6x256x2880 .fp8e4m3) (a5 a6 a7 : FVec Ideal S6x256 .f32) (a10 a11 : FVec Ideal S2880x1536 .f32) (d : Fin 2880) : EReal :=
  ∑ k : Fin 1536, hE a6 a7 a10 a11 d (tb k) (ts k) * xE a4 a5 d (tb k) (ts k)

/-- The output weights' gradient, element by element. -/
def dwE (a0 : FVec Ideal S6x256x2880 .fp8e5m2) (a1 : FVec Ideal S6x256 .f32) (a2 : FVec Ideal S6x256x7680 .fp8e4m3) (a3 : FVec Ideal S6x256 .f32)
    (d : Fin 2880) (f : Fin 7680) : EReal :=
  ∑ k : Fin 1536, a0 (ix3 (tb k) (ts k) d) * (a3 (ix2 (tb k) (ts k)) * a1 (ix2 (tb k) (ts k))) * a2 (ix3 (tb k) (ts k) f)

end Cert.DwoutIdeal.Hand
-- ==== Proof.DwoutIdeal.State.lean ====
module

public import proofs.«01_k».proof.Proof.DwoutIdeal.Value
public import proofs.«01_k».proof.Proof.DwoutIdeal.Elem
public import proofs.«01_k».proof.Proof.Mlp.State
public import Idealize.ShloMosaic.Lib.Pipeline.ValueKit
public import Idealize.ShloMosaic.Lib.Pipeline.ReadBack
public import Idealize.ShloMosaic.Lib.Pointwise

@[expose] public section

set_option maxRecDepth 16384
noncomputable section
open Idealize.ShloMosaic Idealize.ShloMosaic.TcCoe Idealize.SL.Sem
open Idealize.ShloMosaic.Pipeline (Dat)
namespace Cert.DwoutIdeal.Hand
open Cert.DwoutIdeal Cert.DwoutIdeal.Gen
open Cert.MlpIdeal.Hand (readCov_whole ld_rows canon_drop)
variable (m : (ℓ : Loc nD τ sig) → Buf (Elt Ideal) ℓ)

/-- The arguments, at their shapes. -/
abbrev A0 (c : Dev nD) : FVec Ideal S6x256x2880 .fp8e5m2 := m ((c : Thread nD τ).loc main_arg0)
abbrev A1 (c : Dev nD) : FVec Ideal S6x256 .f32 := m ((c : Thread nD τ).loc main_arg1)
abbrev A2 (c : Dev nD) : FVec Ideal S6x256x7680 .fp8e4m3 := m ((c : Thread nD τ).loc main_arg2)
abbrev A3 (c : Dev nD) : FVec Ideal S6x256 .f32 := m ((c : Thread nD τ).loc main_arg3)
abbrev A4 (c : Dev nD) : FVec Ideal S6x256x2880 .fp8e4m3 := m ((c : Thread nD τ).loc main_arg4)
abbrev A5 (c : Dev nD) : FVec Ideal S6x256 .f32 := m ((c : Thread nD τ).loc main_arg5)
abbrev A6 (c : Dev nD) : FVec Ideal S6x256 .f32 := m ((c : Thread nD τ).loc main_arg6)
abbrev A7 (c : Dev nD) : FVec Ideal S6x256 .f32 := m ((c : Thread nD τ).loc main_arg7)
abbrev A8 (c : Dev nD) : FVec Ideal S6x256 .f32 := m ((c : Thread nD τ).loc main_arg8)
abbrev A9 (c : Dev nD) : FVec Ideal S2880 .f32 := m ((c : Thread nD τ).loc main_arg9)
abbrev A10 (c : Dev nD) : FVec Ideal S2880x1536 .f32 := m ((c : Thread nD τ).loc main_arg10)
abbrev A11 (c : Dev nD) : FVec Ideal S2880x1536 .f32 := m ((c : Thread nD τ).loc main_arg11)

theorem idx' : ∀ t : Fin cfg0.N, win0_0.index t = ![0, 0, 0] ∧ win0_1.index t = ![0, 0] ∧ win0_2.index t = ![0, t.val] ∧ win0_3.index t = ![0, 0] ∧
    win0_4.index t = ![0, 0, 0] ∧ win0_5.index t = ![0, 0] ∧ win0_6.index t = ![0, 0] ∧ win0_7.index t = ![0, 0] ∧ win0_8.index t = ![0, 0] ∧
    win0_9.index t = ![0, 0] ∧ win0_10.index t = ![0, min t.val 11] ∧ win0_11.index t = ![0, min t.val 11] ∧ win0_12.index t = ![0, t.val] ∧
    win0_13.index t = ![min t.val 11 / 2, 0, min t.val 11 % 2] ∧ win0_14.index t = ![0, 0] :=
  (by decide +kernel : ∀ t : Fin grid0.N, _)

theorem co : ∀ t : Fin cfg0.N, (grid0.coords t 0).val = t.val := (by decide +kernel : ∀ t : Fin grid0.N, _)
theorem off1 : ∀ t : Fin cfg0.N, t.val < 12 → k0_off1 (grid0.coords t) = ![0, t.val % 2 * 128] := (by decide +kernel : ∀ t : Fin grid0.N, _)
theorem off2 : ∀ t : Fin cfg0.N, t.val < 12 → k0_off2 (grid0.coords t) = ![t.val / 2, 0, t.val % 2 * 128] := (by decide +kernel : ∀ t : Fin grid0.N, _)

/-- Batch entry and place in it of a lane of a point. -/
def bOf (n : ℕ) (h : n < 12) : Fin 6 := ⟨n / 2, by omega⟩
def sOf (n : ℕ) (l : Fin 128) : Fin 256 := ⟨n % 2 * 128 + l.val, by omega⟩

theorem b0 (c : Dev nD) (t : Fin cfg0.N) (b : Fin 6) (d : Fin 2880) (s : Fin 256) : iblk m c 0 t (ix3 b d s) = A0 m c (ix3 b s d) := by
  have e : iblk m c 0 t (ix3 b d s) = V m c main_v0 (ix3 b d s) := by blk_ext [iblk, idx' t]
  rw [e]; entry_read; pointwise
theorem b4 (c : Dev nD) (t : Fin cfg0.N) (b : Fin 6) (d : Fin 2880) (s : Fin 256) : iblk m c 4 t (ix3 b d s) = A4 m c (ix3 b s d) := by
  have e : iblk m c 4 t (ix3 b d s) = V m c main_v1 (ix3 b d s) := by blk_ext [iblk, idx' t]
  rw [e]; entry_read; pointwise
theorem b9 (c : Dev nD) (t : Fin cfg0.N) (d : Fin 2880) : iblk m c 9 t (ix2 (0 : Fin 1) d) = A9 m c (ix1 d) := by
  have e : iblk m c 9 t (ix2 (0 : Fin 1) d) = V m c main_v3 (ix2 (0 : Fin 1) d) := by blk_ext [iblk, idx' t]
  rw [e]; entry_read; pointwise
theorem b2 (c : Dev nD) (t : Fin cfg0.N) (k : Fin 1536) (f : Fin 512) (j : Fin 7680) (h : j.val = t.val * 512 + f.val) :
    iblk m c 2 t (ix2 k f) = A2 m c (ix3 (tb k) (ts k) j) := by
  have e : iblk m c 2 t (ix2 k f) = V m c main_v2 (ix2 k j) := by blk_ext [iblk, idx' t]
  rw [e]; entry_read; pointwise
  rfl
theorem b1 (c : Dev nD) (t : Fin cfg0.N) (b : Fin 6) (s : Fin 256) : iblk m c 1 t (ix2 b s) = A1 m c (ix2 b s) := by
  blk_ext [iblk, V, idx' t]
theorem b3 (c : Dev nD) (t : Fin cfg0.N) (b : Fin 6) (s : Fin 256) : iblk m c 3 t (ix2 b s) = A3 m c (ix2 b s) := by
  blk_ext [iblk, V, idx' t]
theorem b5 (c : Dev nD) (t : Fin cfg0.N) (b : Fin 6) (s : Fin 256) : iblk m c 5 t (ix2 b s) = A5 m c (ix2 b s) := by
  blk_ext [iblk, V, idx' t]
theorem b6 (c : Dev nD) (t : Fin cfg0.N) (b : Fin 6) (s : Fin 256) : iblk m c 6 t (ix2 b s) = A6 m c (ix2 b s) := by
  blk_ext [iblk, V, idx' t]
theorem b7 (c : Dev nD) (t : Fin cfg0.N) (b : Fin 6) (s : Fin 256) : iblk m c 7 t (ix2 b s) = A7 m c (ix2 b s) := by
  blk_ext [iblk, V, idx' t]
theorem b8 (c : Dev nD) (t : Fin cfg0.N) (b : Fin 6) (s : Fin 256) : iblk m c 8 t (ix2 b s) = A8 m c (ix2 b s) := by
  blk_ext [iblk, V, idx' t]
theorem b10 (c : Dev nD) (t : Fin cfg0.N) (h : t.val < 12) (d : Fin 2880) (l : Fin 128) :
    iblk m c 10 t (ix2 d l) = A10 m c (ix2 d (tok (bOf t.val h) (sOf t.val l))) := by
  blk_ext [iblk, V, idx' t, tok, bOf, sOf]
theorem b11 (c : Dev nD) (t : Fin cfg0.N) (h : t.val < 12) (d : Fin 2880) (l : Fin 128) :
    iblk m c 11 t (ix2 d l) = A11 m c (ix2 d (tok (bOf t.val h) (sOf t.val l))) := by
  blk_ext [iblk, V, idx' t, tok, bOf, sOf]

/-- The lanes a point loads of a block of token scales. -/
theorem ld1 (w : FVec Ideal S6x256 .f32) (t : Fin cfg0.N) (h : t.val < 12) (inb : ∀ a, (k0_off1 (grid0.coords t)) a + S6x128.size a ≤ S6x256.size a) (b : Fin 6) (l : Fin 128) :
    (View.ld w (Rect.unit (s := S6x256) (k0_off1 (grid0.coords t)) S6x128.size inb) : Vec Ideal S6x128 .f32) (ix2 b l) = w (ix2 b (sOf t.val l)) := by
  refine congrArg w (funext fun a => Fin.ext ?_)
  have e := off1 t h
  fin_cases a
  · show k0_off1 (grid0.coords t) 0 + 1 * b.val = b.val
    rw [e]; show 0 + 1 * b.val = b.val; omega
  · show k0_off1 (grid0.coords t) 1 + 1 * l.val = t.val % 2 * 128 + l.val
    rw [e]; show t.val % 2 * 128 + 1 * l.val = _; omega

theorem ld2 (w : FVec Ideal S6x2880x256 .fp8e5m2) (t : Fin cfg0.N) (h : t.val < 12) (inb : ∀ a, (k0_off2 (grid0.coords t)) a + S1x2880x128.size a ≤ S6x2880x256.size a) (d : Fin 2880) (l : Fin 128) :
    (View.ld w (Rect.unit (s := S6x2880x256) (k0_off2 (grid0.coords t)) S1x2880x128.size inb) : Vec Ideal S1x2880x128 .fp8e5m2) (ix3 (0 : Fin 1) d l) = w (ix3 (bOf t.val h) d (sOf t.val l)) := by
  refine congrArg w (funext fun a => Fin.ext ?_)
  have e := off2 t h
  fin_cases a
  · show k0_off2 (grid0.coords t) 0 + 1 * 0 = t.val / 2
    rw [e]; show t.val / 2 + 1 * 0 = _; omega
  · show k0_off2 (grid0.coords t) 1 + 1 * d.val = d.val
    rw [e]; show 0 + 1 * d.val = _; omega
  · show k0_off2 (grid0.coords t) 2 + 1 * l.val = t.val % 2 * 128 + l.val
    rw [e]; show t.val % 2 * 128 + 1 * l.val = _; omega

theorem ld4 (w : FVec Ideal S6x2880x256 .fp8e4m3) (t : Fin cfg0.N) (h : t.val < 12) (inb : ∀ a, (k0_off2 (grid0.coords t)) a + S1x2880x128.size a ≤ S6x2880x256.size a) (d : Fin 2880) (l : Fin 128) :
    (View.ld w (Rect.unit (s := S6x2880x256) (k0_off2 (grid0.coords t)) S1x2880x128.size inb) : Vec Ideal S1x2880x128 .fp8e4m3) (ix3 (0 : Fin 1) d l) = w (ix3 (bOf t.val h) d (sOf t.val l)) := by
  refine congrArg w (funext fun a => Fin.ext ?_)
  have e := off2 t h
  fin_cases a
  · show k0_off2 (grid0.coords t) 0 + 1 * 0 = t.val / 2
    rw [e]; show t.val / 2 + 1 * 0 = _; omega
  · show k0_off2 (grid0.coords t) 1 + 1 * d.val = d.val
    rw [e]; show 0 + 1 * d.val = _; omega
  · show k0_off2 (grid0.coords t) 2 + 1 * l.val = t.val % 2 * 128 + l.val
    rw [e]; show t.val % 2 * 128 + 1 * l.val = _; omega

/-- The row of a block of token scales that a point's mask keeps. -/
theorem Pld (w : FVec Ideal S6x256 .f32) (t : Fin cfg0.N) (h : t.val < 12) (inb : ∀ a, (k0_off1 (grid0.coords t)) a + S6x128.size a ≤ S6x256.size a) (l : Fin 128) :
    P (k0_pay11 (BitVec.ofNat 32 (grid0.coords t 0).val)) (View.ld w (Rect.unit (s := S6x256) (k0_off1 (grid0.coords t)) S6x128.size inb) : Vec Ideal S6x128 .f32) l
      = w (ix2 (bOf t.val h) (sOf t.val l)) := by
  rw [co t]
  exact (P_eq ⟨t.val, by omega⟩ _ l (by dsimp only; omega)).trans (ld1 w t h inb _ l)

section
variable (c : Dev nD) (t : Fin cfg0.N) (h : t.val < 12)
  (i1 i2 i3 i4 i5 i6 : ∀ a, (k0_off1 (grid0.coords t)) a + S6x128.size a ≤ S6x256.size a)
  (j1 j2 : ∀ a, (k0_off2 (grid0.coords t)) a + S1x2880x128.size a ≤ S6x2880x256.size a)

/-- The gradient of the layer norm's output in a point's lanes. -/
def HB : FVec Ideal S2880x128 .f32 :=
  k0_pay13 (F := Ideal) (k0_pay11 (BitVec.ofNat 32 (grid0.coords t 0).val))
    (k0_pay12 (F := Ideal) (BitVec.ofNat 32 (grid0.coords t 0).val) (iblk m c 10 t)
      (View.ld (iblk m c 6 t : FVec Ideal S6x256 .f32) (Rect.unit (s := S6x256) (k0_off1 (grid0.coords t)) S6x128.size i1) : Vec Ideal S6x128 .f32))
    (iblk m c 11 t) (View.ld (iblk m c 7 t : FVec Ideal S6x256 .f32) (Rect.unit (s := S6x256) (k0_off1 (grid0.coords t)) S6x128.size i2) : Vec Ideal S6x128 .f32)

theorem HB_at (d : Fin 2880) (l : Fin 128) : HB m c t i1 i2 (ix2 d l) = hE (A6 m c) (A7 m c) (A10 m c) (A11 m c) d (bOf t.val h) (sOf t.val l) := by
  unfold HB hE
  refine (pay13_at _ _ _ _ d l).trans (congrArg₂ (fun a b : EReal => a + b) ((pay12_at _ _ _ d l).trans ?_) ?_)
  · exact congrArg₂ (fun a b : EReal => a * b) (b10 m c t h d l) ((Pld _ t h i1 l).trans (b6 m c t _ _))
  · exact congrArg₂ (fun a b : EReal => a * b) (b11 m c t h d l) ((Pld _ t h i2 l).trans (b7 m c t _ _))

/-- The normalised value in a point's lanes. -/
def XB : FVec Ideal S2880x128 .f32 :=
  k0_pay14 (F := Ideal) (k0_pay11 (BitVec.ofNat 32 (grid0.coords t 0).val))
    (View.ld (iblk m c 4 t : FVec Ideal S6x2880x256 .fp8e4m3) (Rect.unit (s := S6x2880x256) (k0_off2 (grid0.coords t)) S1x2880x128.size j1) : Vec Ideal S1x2880x128 .fp8e4m3)
    (View.ld (iblk m c 5 t : FVec Ideal S6x256 .f32) (Rect.unit (s := S6x256) (k0_off1 (grid0.coords t)) S6x128.size i3) : Vec Ideal S6x128 .f32)

theorem XB_at (d : Fin 2880) (l : Fin 128) : XB m c t i3 j1 (ix2 d l) = xE (A4 m c) (A5 m c) d (bOf t.val h) (sOf t.val l) := by
  unfold XB xE
  refine (pay14_at _ _ _ d l).trans ?_
  exact congrArg₂ (fun a b : EReal => a * b) ((ld4 _ t h j1 d l).trans (b4 m c t _ _ _)) ((Pld _ t h i3 l).trans (b5 m c t _ _))

end

theorem lhs_B (c : Dev nD) (t : Fin cfg0.N) (h0 : ¬ t.val % 15 = 0) :
    (outsAt0 m c t.val t.isLt).2.2.2.1 = (outsAt0 m c (t.val - 1) (Nat.lt_of_le_of_lt (Nat.sub_le _ _) t.isLt)).2.2.2.1 := by
  by_cases h1 : t.val < 12
  · rw [outsAt0_B m c t h0 h1 (by omega)]; rfl
  · by_cases h2 : t.val % 15 = 14
    · rw [outsAt0_D m c t h0 h1 h2]; rfl
    · rw [outsAt0_C m c t h0 h1 h2]; rfl

theorem gcol_B (c : Dev nD) (t : Fin cfg0.N) (h0 : ¬ t.val % 15 = 0) :
    (outsAt0 m c t.val t.isLt).2.2.2.2.1 = (outsAt0 m c (t.val - 1) (Nat.lt_of_le_of_lt (Nat.sub_le _ _) t.isLt)).2.2.2.2.1 := by
  by_cases h1 : t.val < 12
  · rw [outsAt0_B m c t h0 h1 (by omega)]; rfl
  · by_cases h2 : t.val % 15 = 14
    · rw [outsAt0_D m c t h0 h1 h2]; rfl
    · rw [outsAt0_C m c t h0 h1 h2]; rfl

theorem dx_C (c : Dev nD) (t : Fin cfg0.N) (h1 : ¬ t.val < 12) :
    (outsAt0 m c t.val t.isLt).2.1 = (outsAt0 m c (t.val - 1) (Nat.lt_of_le_of_lt (Nat.sub_le _ _) t.isLt)).2.1 := by
  have hN : t.val < 15 := lt_of_lt_of_eq t.isLt N_0
  by_cases h2 : t.val % 15 = 14
  · rw [outsAt0_D m c t (by omega) h1 h2]; rfl
  · rw [outsAt0_C m c t (by omega) h1 h2]; rfl

theorem dg_C (c : Dev nD) (t : Fin cfg0.N) (h1 : ¬ t.val < 12) :
    (outsAt0 m c t.val t.isLt).2.2.2.2.2 = (outsAt0 m c (t.val - 1) (Nat.lt_of_le_of_lt (Nat.sub_le _ _) t.isLt)).2.2.2.2.2 := by
  have hN : t.val < 15 := lt_of_lt_of_eq t.isLt N_0
  by_cases h2 : t.val % 15 = 14
  · rw [outsAt0_D m c t (by omega) h1 h2]; rfl
  · rw [outsAt0_C m c t (by omega) h1 h2]; rfl

theorem dgamma_D (c : Dev nD) (t : Fin cfg0.N) (h : t.val = 14) (d : Fin 2880) :
    (outsAt0 m c t.val t.isLt).2.2.1 (ix2 (0 : Fin 1) d) = ∑ l : Fin 128, (outsAt0 m c (t.val - 1) (Nat.lt_of_le_of_lt (Nat.sub_le _ _) t.isLt)).2.2.2.2.2 (ix2 d l) := by
  rw [outsAt0_D m c t (by omega) (by omega) (by omega)]; frame_out; simp only [read_unread_whole]
  exact pay3_at _ d

/-- One element of the left operand. -/
def lE (c : Dev nD) (d : Fin 2880) (k : Fin 1536) : EReal :=
  A0 m c (ix3 (tb k) (ts k) d) * (A3 m c (ix2 (tb k) (ts k)) * A1 m c (ix2 (tb k) (ts k)))

theorem pay23_at (x : FVec Ideal S576x1536 .bf16) (y : FVec Ideal S1536x512 .fp8e4m3) (d : Fin 576) (f : Fin 512) :
    k0_pay23 (F := Ideal) x y (ix2 d f) = ∑ k, x (ix2 d k) * y (ix2 k f) := by
  pointwise [k0_pay23]
theorem pay24_at (x : FVec Ideal S576x1536 .bf16) (y : FVec Ideal S1536x512 .fp8e4m3) (d : Fin 576) (f : Fin 512) :
    k0_pay24 (F := Ideal) x y (ix2 d f) = ∑ k, x (ix2 d k) * y (ix2 k f) := by
  pointwise [k0_pay24]
theorem pay25_at (x : FVec Ideal S576x1536 .bf16) (y : FVec Ideal S1536x512 .fp8e4m3) (d : Fin 576) (f : Fin 512) :
    k0_pay25 (F := Ideal) x y (ix2 d f) = ∑ k, x (ix2 d k) * y (ix2 k f) := by
  pointwise [k0_pay25]
theorem pay26_at (x : FVec Ideal S576x1536 .bf16) (y : FVec Ideal S1536x512 .fp8e4m3) (d : Fin 576) (f : Fin 512) :
    k0_pay26 (F := Ideal) x y (ix2 d f) = ∑ k, x (ix2 d k) * y (ix2 k f) := by
  pointwise [k0_pay26]

/-- A tile of rows of the left operand. -/
theorem ldL (w : FVec Ideal S2880x1536 .bf16) (o : ℕ) (inb : ∀ a, (![o, 0] : Fin 2 → ℕ) a + (![576, 1536] : Fin 2 → ℕ) a ≤ S2880x1536.size a)
    (x : Fin 576) (k : Fin 1536) (d : Fin 2880) (h : d.val = o + x.val) :
    (View.ld w (Rect.unit (s := S2880x1536) ![o, 0] ![576, 1536] inb) : Vec Ideal S576x1536 .bf16) (ix2 x k) = w (ix2 d k) := by
  refine congrArg w (funext fun a => Fin.ext ?_)
  fin_cases a
  · show o + 1 * x.val = d.val
    omega
  · show 0 + 1 * k.val = k.val
    omega

theorem dw_B (c : Dev nD) (t : Fin cfg0.N) (h0 : ¬ t.val % 15 = 0) (h1 : t.val < 12) (d : Fin 2880) (f : Fin 512) :
    (outsAt0 m c t.val t.isLt).1 (ix2 d f) = ∑ k : Fin 1536, (outsAt0 m c (t.val - 1) (Nat.lt_of_le_of_lt (Nat.sub_le _ _) t.isLt)).2.2.2.1 (ix2 d k) * iblk m c 2 t (ix2 k f) := by
  rw [outsAt0_B m c t h0 h1 (by omega)]; frame_out; simp only [read_unread_whole]
  canon_tiles x hx
  all_goals idx_vars x
  all_goals obtain rfl : f = x1 := Fin.ext (by omega)
  all_goals first
    | exact (pay1_at _ _ x0 f).trans (Finset.sum_congr rfl fun k _ => congrArg (fun z : EReal => z * iblk m c 2 t (ix2 k f)) (ldL _ 2304 _ x0 k d (by omega)))
    | exact (pay26_at _ _ x0 f).trans (Finset.sum_congr rfl fun k _ => congrArg (fun z : EReal => z * iblk m c 2 t (ix2 k f)) (ldL _ 1728 _ x0 k d (by omega)))
    | exact (pay25_at _ _ x0 f).trans (Finset.sum_congr rfl fun k _ => congrArg (fun z : EReal => z * iblk m c 2 t (ix2 k f)) (ldL _ 1152 _ x0 k d (by omega)))
    | exact (pay24_at _ _ x0 f).trans (Finset.sum_congr rfl fun k _ => congrArg (fun z : EReal => z * iblk m c 2 t (ix2 k f)) (ldL _ 576 _ x0 k d (by omega)))
    | exact (pay23_at _ _ x0 f).trans (Finset.sum_congr rfl fun k _ => congrArg (fun z : EReal => z * iblk m c 2 t (ix2 k f)) (ldL _ 0 _ x0 k d (by omega)))

theorem dw_C (c : Dev nD) (t : Fin cfg0.N) (h0 : ¬ t.val % 15 = 0) (h1 : ¬ t.val < 12) (h2 : ¬ t.val % 15 = 14) (d : Fin 2880) (f : Fin 512) :
    (outsAt0 m c t.val t.isLt).1 (ix2 d f) = ∑ k : Fin 1536, (outsAt0 m c (t.val - 1) (Nat.lt_of_le_of_lt (Nat.sub_le _ _) t.isLt)).2.2.2.1 (ix2 d k) * iblk m c 2 t (ix2 k f) := by
  rw [outsAt0_C m c t h0 h1 h2]; frame_out; simp only [read_unread_whole]
  canon_tiles x hx
  all_goals idx_vars x
  all_goals obtain rfl : f = x1 := Fin.ext (by omega)
  all_goals first
    | exact (pay1_at _ _ x0 f).trans (Finset.sum_congr rfl fun k _ => congrArg (fun z : EReal => z * iblk m c 2 t (ix2 k f)) (ldL _ 2304 _ x0 k d (by omega)))
    | exact (pay26_at _ _ x0 f).trans (Finset.sum_congr rfl fun k _ => congrArg (fun z : EReal => z * iblk m c 2 t (ix2 k f)) (ldL _ 1728 _ x0 k d (by omega)))
    | exact (pay25_at _ _ x0 f).trans (Finset.sum_congr rfl fun k _ => congrArg (fun z : EReal => z * iblk m c 2 t (ix2 k f)) (ldL _ 1152 _ x0 k d (by omega)))
    | exact (pay24_at _ _ x0 f).trans (Finset.sum_congr rfl fun k _ => congrArg (fun z : EReal => z * iblk m c 2 t (ix2 k f)) (ldL _ 576 _ x0 k d (by omega)))
    | exact (pay23_at _ _ x0 f).trans (Finset.sum_congr rfl fun k _ => congrArg (fun z : EReal => z * iblk m c 2 t (ix2 k f)) (ldL _ 0 _ x0 k d (by omega)))

theorem dw_D (c : Dev nD) (t : Fin cfg0.N) (h0 : ¬ t.val % 15 = 0) (h1 : ¬ t.val < 12) (h2 : t.val % 15 = 14) (d : Fin 2880) (f : Fin 512) :
    (outsAt0 m c t.val t.isLt).1 (ix2 d f) = ∑ k : Fin 1536, (outsAt0 m c (t.val - 1) (Nat.lt_of_le_of_lt (Nat.sub_le _ _) t.isLt)).2.2.2.1 (ix2 d k) * iblk m c 2 t (ix2 k f) := by
  rw [outsAt0_D m c t h0 h1 h2]; frame_out; simp only [read_unread_whole]
  canon_tiles x hx
  all_goals idx_vars x
  all_goals obtain rfl : f = x1 := Fin.ext (by omega)
  all_goals first
    | exact (pay1_at _ _ x0 f).trans (Finset.sum_congr rfl fun k _ => congrArg (fun z : EReal => z * iblk m c 2 t (ix2 k f)) (ldL _ 2304 _ x0 k d (by omega)))
    | exact (pay26_at _ _ x0 f).trans (Finset.sum_congr rfl fun k _ => congrArg (fun z : EReal => z * iblk m c 2 t (ix2 k f)) (ldL _ 1728 _ x0 k d (by omega)))
    | exact (pay25_at _ _ x0 f).trans (Finset.sum_congr rfl fun k _ => congrArg (fun z : EReal => z * iblk m c 2 t (ix2 k f)) (ldL _ 1152 _ x0 k d (by omega)))
    | exact (pay24_at _ _ x0 f).trans (Finset.sum_congr rfl fun k _ => congrArg (fun z : EReal => z * iblk m c 2 t (ix2 k f)) (ldL _ 576 _ x0 k d (by omega)))
    | exact (pay23_at _ _ x0 f).trans (Finset.sum_congr rfl fun k _ => congrArg (fun z : EReal => z * iblk m c 2 t (ix2 k f)) (ldL _ 0 _ x0 k d (by omega)))

theorem dg_B (c : Dev nD) (t : Fin cfg0.N) (h0 : ¬ t.val % 15 = 0) (h1 : t.val < 12) (d : Fin 2880) (l : Fin 128) :
    (outsAt0 m c t.val t.isLt).2.2.2.2.2 (ix2 d l) = (outsAt0 m c (t.val - 1) (Nat.lt_of_le_of_lt (Nat.sub_le _ _) t.isLt)).2.2.2.2.2 (ix2 d l)
      + hE (A6 m c) (A7 m c) (A10 m c) (A11 m c) d (bOf t.val h1) (sOf t.val l) * xE (A4 m c) (A5 m c) d (bOf t.val h1) (sOf t.val l) := by
  rw [outsAt0_B m c t h0 h1 (by omega)]; frame_out; simp only [read_unread_whole]
  refine (pay16_at _ _ _ _ _ _ _ d l).trans (congrArg (fun z : EReal => _ + z) ?_)
  exact congrArg₂ (fun a b : EReal => a * b) (HB_at m c t h1 _ _ d l) (XB_at m c t h1 _ _ d l)

/-- The gain's column, lane by lane. -/
def gB (c : Dev nD) (n : ℕ) (hn : n < cfg0.N) (d : Fin 2880) (l : Fin 128) : EReal := (outsAt0 m c n hn).2.2.2.2.1 (ix2 d l)

theorem dx_gen (c : Dev nD) (t : Fin cfg0.N) (h1 : t.val < 12) (G : Fin 2880 → EReal) (d : Fin 2880) (l : Fin 128)
    (i4 i5 : ∀ a, (k0_off1 (grid0.coords t)) a + S6x128.size a ≤ S6x256.size a)
    (j2 : ∀ a, (k0_off2 (grid0.coords t)) a + S1x2880x128.size a ≤ S6x2880x256.size a) (xb dxh : FVec Ideal S2880x128 .f32) (m1 m2 : FVec Ideal S1x128 .f32)
    (hx : xb (ix2 d l) = xE (A4 m c) (A5 m c) d (bOf t.val h1) (sOf t.val l))
    (hd : dxh (ix2 d l) = hE (A6 m c) (A7 m c) (A10 m c) (A11 m c) d (bOf t.val h1) (sOf t.val l) * G d)
    (h1' : m1 (ix2 (0 : Fin 1) l) = mean fun e => hE (A6 m c) (A7 m c) (A10 m c) (A11 m c) e (bOf t.val h1) (sOf t.val l) * G e)
    (h2' : m2 (ix2 (0 : Fin 1) l) = mean fun e => hE (A6 m c) (A7 m c) (A10 m c) (A11 m c) e (bOf t.val h1) (sOf t.val l) * xE (A4 m c) (A5 m c) e (bOf t.val h1) (sOf t.val l) * G e) :
    k0_pay2 (F := Ideal) (k0_pay11 (BitVec.ofNat 32 (grid0.coords t 0).val)) xb dxh m1 m2
      (View.ld (iblk m c 0 t : FVec Ideal S6x2880x256 .fp8e5m2) (Rect.unit (s := S6x2880x256) (k0_off2 (grid0.coords t)) S1x2880x128.size j2) : Vec Ideal S1x2880x128 .fp8e5m2)
      (View.ld (iblk m c 1 t : FVec Ideal S6x256 .f32) (Rect.unit (s := S6x256) (k0_off1 (grid0.coords t)) S6x128.size i4) : Vec Ideal S6x128 .f32)
      (View.ld (iblk m c 8 t : FVec Ideal S6x256 .f32) (Rect.unit (s := S6x256) (k0_off1 (grid0.coords t)) S6x128.size i5) : Vec Ideal S6x128 .f32) (ix3 (0 : Fin 1) d l)
    = lnE (A0 m c (ix3 (bOf t.val h1) (sOf t.val l) d) * A1 m c (ix2 (bOf t.val h1) (sOf t.val l))) (A8 m c (ix2 (bOf t.val h1) (sOf t.val l)))
        (fun e => hE (A6 m c) (A7 m c) (A10 m c) (A11 m c) e (bOf t.val h1) (sOf t.val l)) (fun e => xE (A4 m c) (A5 m c) e (bOf t.val h1) (sOf t.val l)) G d := by
  refine (pay2_at _ _ _ _ _ _ _ _ d l).trans ?_
  rw [hx, hd, h1', h2']
  unfold lnE
  refine congrArg₂ (fun a b : EReal => a + b) (congrArg₂ (fun a b : EReal => a * b) ?_ ?_) (congrArg (fun z : EReal => z * _) ?_)
  · exact (ld2 _ t h1 j2 d l).trans (b0 m c t _ _ _)
  · exact (Pld _ t h1 i4 l).trans (b1 m c t _ _)
  · exact (Pld _ t h1 i5 l).trans (b8 m c t _ _)

theorem dx_B (c : Dev nD) (t : Fin cfg0.N) (h0 : ¬ t.val % 15 = 0) (h1 : t.val < 12) (d : Fin 2880) (l : Fin 128) :
    (outsAt0 m c t.val t.isLt).2.1 (ix3 (0 : Fin 1) d l) =
      lnE (A0 m c (ix3 (bOf t.val h1) (sOf t.val l) d) * A1 m c (ix2 (bOf t.val h1) (sOf t.val l))) (A8 m c (ix2 (bOf t.val h1) (sOf t.val l)))
        (fun e => hE (A6 m c) (A7 m c) (A10 m c) (A11 m c) e (bOf t.val h1) (sOf t.val l)) (fun e => xE (A4 m c) (A5 m c) e (bOf t.val h1) (sOf t.val l))
        (fun e => gB m c (t.val - 1) (Nat.lt_of_le_of_lt (Nat.sub_le _ _) t.isLt) e l) d := by
  rw [outsAt0_B m c t h0 h1 (by omega)]; frame_out; simp only [read_unread_whole]
  refine dx_gen m c t h1 _ d l _ _ _ _ _ _ _ ?_ ?_ ?_ ?_
  · exact XB_at m c t h1 _ _ d l
  · exact (pay17_at _ _ _ _ _ d l).trans (congrArg (fun z : EReal => z * _) (HB_at m c t h1 _ _ d l))
  · exact (pay18_at _ _ _ _ _ l).trans (congrArg mean (funext fun e => congrArg (fun z : EReal => z * _) (HB_at m c t h1 _ _ e l)))
  · exact (pay19_at _ _ _ _ _ _ _ l).trans (congrArg mean (funext fun e => congrArg (fun z : EReal => z * _) (congrArg₂ (fun a b : EReal => a * b) (HB_at m c t h1 _ _ e l) (XB_at m c t h1 _ _ e l))))

/-- A row of a block of token scales, and a batch entry of a block of gradients. -/
theorem ldS (w : FVec Ideal S6x256 .f32) (o : ℕ) (b : Fin 6) (hb : b.val = o) (inb : ∀ a, (![o, 0] : Fin 2 → ℕ) a + (![1, 256] : Fin 2 → ℕ) a ≤ S6x256.size a) (s : Fin 256) :
    (View.ld w (Rect.unit (s := S6x256) ![o, 0] ![1, 256] inb) : Vec Ideal S1x256 .f32) (ix2 (0 : Fin 1) s) = w (ix2 b s) := by
  refine congrArg w (funext fun a => Fin.ext ?_)
  fin_cases a
  · show o + 1 * 0 = b.val
    omega
  · show 0 + 1 * s.val = s.val
    omega
theorem ldD (w : FVec Ideal S6x2880x256 .fp8e5m2) (o : ℕ) (b : Fin 6) (hb : b.val = o) (inb : ∀ a, (![o, 0, 0] : Fin 3 → ℕ) a + (![1, 2880, 256] : Fin 3 → ℕ) a ≤ S6x2880x256.size a)
    (d : Fin 2880) (s : Fin 256) :
    (View.ld w (Rect.unit (s := S6x2880x256) ![o, 0, 0] ![1, 2880, 256] inb) : Vec Ideal S1x2880x256 .fp8e5m2) (ix3 (0 : Fin 1) d s) = w (ix3 b d s) := by
  refine congrArg w (funext fun a => Fin.ext ?_)
  fin_cases a
  · show o + 1 * 0 = b.val
    omega
  · show 0 + 1 * d.val = d.val
    omega
  · show 0 + 1 * s.val = s.val
    omega

theorem pay4_at (a b : FVec Ideal S1x256 .f32) (y : FVec Ideal S1x2880x256 .fp8e5m2) (d : Fin 2880) (s : Fin 256) :
    k0_pay4 (F := Ideal) a b y (ix2 d s) = y (ix3 (0 : Fin 1) d s) * (a (ix2 (0 : Fin 1) s) * b (ix2 (0 : Fin 1) s)) := by
  pointwise [k0_pay4]

theorem lhs_piece (c : Dev nD) (t : Fin cfg0.N) (o : ℕ) (b : Fin 6) (hb : b.val = o)
    (i : ∀ a, (![o, 0, 0] : Fin 3 → ℕ) a + (![1, 2880, 256] : Fin 3 → ℕ) a ≤ S6x2880x256.size a) (i1 i2 : ∀ a, (![o, 0] : Fin 2 → ℕ) a + (![1, 256] : Fin 2 → ℕ) a ≤ S6x256.size a)
    (d : Fin 2880) (x : Fin 256) (k : Fin 1536) (hk : k.val = 256 * o + x.val) :
    k0_pay4 (F := Ideal) (View.ld (iblk m c 3 t : FVec Ideal S6x256 .f32) (Rect.unit (s := S6x256) ![o, 0] ![1, 256] i1) : Vec Ideal S1x256 .f32)
      (View.ld (iblk m c 1 t : FVec Ideal S6x256 .f32) (Rect.unit (s := S6x256) ![o, 0] ![1, 256] i2) : Vec Ideal S1x256 .f32)
      (View.ld (iblk m c 0 t : FVec Ideal S6x2880x256 .fp8e5m2) (Rect.unit (s := S6x2880x256) ![o, 0, 0] ![1, 2880, 256] i) : Vec Ideal S1x2880x256 .fp8e5m2) (ix2 d x) = lE m c d k := by
  refine (pay4_at _ _ _ d x).trans ?_
  unfold lE
  obtain rfl : tb k = b := Fin.ext (by simp only [tb]; omega)
  obtain rfl : ts k = x := Fin.ext (by simp only [ts]; omega)
  exact congrArg₂ (fun a b : EReal => a * b) ((ldD _ o _ hb i d _).trans (b0 m c t _ _ _))
    (congrArg₂ (fun a b : EReal => a * b) ((ldS _ o _ hb i1 _).trans (b3 m c t _ _)) ((ldS _ o _ hb i2 _).trans (b1 m c t _ _)))

theorem lhs_A (c : Dev nD) (t : Fin cfg0.N) (h0 : t.val % 15 = 0) (h1 : t.val < 12) (d : Fin 2880) (k : Fin 1536) :
    (outsAt0 m c t.val t.isLt).2.2.2.1 (ix2 d k) = lE m c d k := by
  rw [outsAt0_A m c t h0 h1 (by omega)]; frame_out
  canon_tiles x hx
  all_goals
    idx_vars x
    obtain rfl : d = x0 := Fin.ext (by omega)
  · exact lhs_piece m c t 5 5 rfl _ _ _ d x1 k (by omega)
  · exact lhs_piece m c t 4 4 rfl _ _ _ d x1 k (by omega)
  · exact lhs_piece m c t 3 3 rfl _ _ _ d x1 k (by omega)
  · exact lhs_piece m c t 2 2 rfl _ _ _ d x1 k (by omega)
  · exact lhs_piece m c t 1 1 rfl _ _ _ d x1 k (by omega)
  · exact lhs_piece m c t 0 0 rfl _ _ _ d x1 k (by omega)

theorem g_at (c : Dev nD) (t : Fin cfg0.N) (d : Fin 2880) (l : Fin 128) : k0_pay21 (F := Ideal) (iblk m c 9 t) (ix2 d l) = A9 m c (ix1 d) :=
  (pay21_at _ d l).trans (b9 m c t d)

theorem gcol_A (c : Dev nD) (t : Fin cfg0.N) (h0 : t.val % 15 = 0) (h1 : t.val < 12) (d : Fin 2880) (l : Fin 128) :
    (outsAt0 m c t.val t.isLt).2.2.2.2.1 (ix2 d l) = A9 m c (ix1 d) := by
  rw [outsAt0_A m c t h0 h1 (by omega)]; frame_out
  exact (pay21_at _ d l).trans (b9 m c t d)

theorem dg_A (c : Dev nD) (t : Fin cfg0.N) (h0 : t.val % 15 = 0) (h1 : t.val < 12) (d : Fin 2880) (l : Fin 128) :
    (outsAt0 m c t.val t.isLt).2.2.2.2.2 (ix2 d l) = 0
      + hE (A6 m c) (A7 m c) (A10 m c) (A11 m c) d (bOf t.val h1) (sOf t.val l) * xE (A4 m c) (A5 m c) d (bOf t.val h1) (sOf t.val l) := by
  rw [outsAt0_A m c t h0 h1 (by omega)]; frame_open
  simp (discharger := decide) only [↓View.readCov_skip, ↓View.readCov_fill]
  frame_out
  refine (pay16_at _ _ _ _ _ _ _ d l).trans (congrArg₂ (fun a b : EReal => a + b) (pay22_at _) ?_)
  exact congrArg₂ (fun a b : EReal => a * b) (HB_at m c t h1 _ _ d l) (XB_at m c t h1 _ _ d l)

theorem dx_A (c : Dev nD) (t : Fin cfg0.N) (h0 : t.val % 15 = 0) (h1 : t.val < 12) (d : Fin 2880) (l : Fin 128) :
    (outsAt0 m c t.val t.isLt).2.1 (ix3 (0 : Fin 1) d l) =
      lnE (A0 m c (ix3 (bOf t.val h1) (sOf t.val l) d) * A1 m c (ix2 (bOf t.val h1) (sOf t.val l))) (A8 m c (ix2 (bOf t.val h1) (sOf t.val l)))
        (fun e => hE (A6 m c) (A7 m c) (A10 m c) (A11 m c) e (bOf t.val h1) (sOf t.val l)) (fun e => xE (A4 m c) (A5 m c) e (bOf t.val h1) (sOf t.val l))
        (fun e => A9 m c (ix1 e)) d := by
  rw [outsAt0_A m c t h0 h1 (by omega)]; frame_open
  simp (discharger := decide) only [↓View.readCov_skip, ↓View.readCov_fill]
  frame_out
  refine dx_gen m c t h1 _ d l _ _ _ _ _ _ _ ?_ ?_ ?_ ?_
  · exact XB_at m c t h1 _ _ d l
  · exact (pay17_at _ _ _ _ _ d l).trans (congrArg₂ (fun a b : EReal => a * b) (HB_at m c t h1 _ _ d l) (g_at m c t d l))
  · exact (pay18_at _ _ _ _ _ l).trans (congrArg mean (funext fun e => congrArg₂ (fun a b : EReal => a * b) (HB_at m c t h1 _ _ e l) (g_at m c t e l)))
  · exact (pay19_at _ _ _ _ _ _ _ l).trans (congrArg mean (funext fun e => congrArg₂ (fun a b : EReal => a * b) (congrArg₂ (fun a b : EReal => a * b) (HB_at m c t h1 _ _ e l) (XB_at m c t h1 _ _ e l)) (g_at m c t e l)))

theorem dw_A (c : Dev nD) (t : Fin cfg0.N) (h0 : t.val % 15 = 0) (h1 : t.val < 12) (d : Fin 2880) (f : Fin 512) :
    (outsAt0 m c t.val t.isLt).1 (ix2 d f) = ∑ k : Fin 1536, (outsAt0 m c t.val t.isLt).2.2.2.1 (ix2 d k) * iblk m c 2 t (ix2 k f) := by
  generalize hI : (outsAt0 m c t.val t.isLt).2.2.2.1 = I
  rw [outsAt0_A m c t h0 h1 (by omega)] at hI
  frame_out at hI
  rw [outsAt0_A m c t h0 h1 (by omega)]; frame_out
  simp only [View.readCov_eq_canon']
  rw [hI]
  canon_tiles x hx
  all_goals idx_vars x
  all_goals obtain rfl : f = x1 := Fin.ext (by omega)
  all_goals first
    | exact (pay1_at _ _ x0 f).trans (Finset.sum_congr rfl fun k _ => congrArg (fun z : EReal => z * iblk m c 2 t (ix2 k f)) (ldL _ 2304 _ x0 k d (by omega)))
    | exact (pay26_at _ _ x0 f).trans (Finset.sum_congr rfl fun k _ => congrArg (fun z : EReal => z * iblk m c 2 t (ix2 k f)) (ldL _ 1728 _ x0 k d (by omega)))
    | exact (pay25_at _ _ x0 f).trans (Finset.sum_congr rfl fun k _ => congrArg (fun z : EReal => z * iblk m c 2 t (ix2 k f)) (ldL _ 1152 _ x0 k d (by omega)))
    | exact (pay24_at _ _ x0 f).trans (Finset.sum_congr rfl fun k _ => congrArg (fun z : EReal => z * iblk m c 2 t (ix2 k f)) (ldL _ 576 _ x0 k d (by omega)))
    | exact (pay23_at _ _ x0 f).trans (Finset.sum_congr rfl fun k _ => congrArg (fun z : EReal => z * iblk m c 2 t (ix2 k f)) (ldL _ 0 _ x0 k d (by omega)))

end Cert.DwoutIdeal.Hand
-- ==== Proof.DwoutIdeal.Close.lean ====
module

public import proofs.«01_k».proof.Proof.DwoutIdeal.State
public import Idealize.ShloMosaic.Lib.Pipeline.ValueKit
public import Idealize.ShloMosaic.Lib.Pipeline.ReadBack
public import Idealize.ShloMosaic.Lib.Pointwise

@[expose] public section

set_option maxRecDepth 16384
noncomputable section
open Idealize.ShloMosaic Idealize.ShloMosaic.TcCoe Idealize.SL.Sem
open Idealize.ShloMosaic.Pipeline (Dat)
namespace Cert.DwoutIdeal.Hand
open Cert.DwoutIdeal Cert.DwoutIdeal.Gen
variable (m : (ℓ : Loc nD τ sig) → Buf (Elt Ideal) ℓ)

/-- The left operand at every point. -/
theorem lhs_at (c : Dev nD) (n : ℕ) (hn : n < cfg0.N) (d : Fin 2880) (k : Fin 1536) : (outsAt0 m c n hn).2.2.2.1 (ix2 d k) = lE m c d k := by
  have hN : n < 15 := lt_of_lt_of_eq hn N_0
  induction n with
  | zero => exact lhs_A m c ⟨0, hn⟩ rfl (by dsimp only; omega) d k
  | succ n ih =>
    rw [lhs_B m c ⟨n + 1, hn⟩ (by dsimp only; omega)]
    exact ih (by omega) (by omega)

/-- The gain at every point. -/
theorem gcol_at (c : Dev nD) (n : ℕ) (hn : n < cfg0.N) (d : Fin 2880) (l : Fin 128) : (outsAt0 m c n hn).2.2.2.2.1 (ix2 d l) = A9 m c (ix1 d) := by
  have hN : n < 15 := lt_of_lt_of_eq hn N_0
  induction n with
  | zero => exact gcol_A m c ⟨0, hn⟩ rfl (by dsimp only; omega) d l
  | succ n ih =>
    rw [gcol_B m c ⟨n + 1, hn⟩ (by dsimp only; omega)]
    exact ih (by omega) (by omega)

theorem dw_at (c : Dev nD) (t : Fin cfg0.N) (d : Fin 2880) (f : Fin 512) :
    (outsAt0 m c t.val t.isLt).1 (ix2 d f) = ∑ k : Fin 1536, lE m c d k * iblk m c 2 t (ix2 k f) := by
  have hN : t.val < 15 := lt_of_lt_of_eq t.isLt N_0
  by_cases h0 : t.val % 15 = 0
  · refine (dw_A m c t h0 (by omega) d f).trans (Finset.sum_congr rfl fun k _ => ?_)
    exact congrArg (fun z : EReal => z * iblk m c 2 t (ix2 k f)) (lhs_at m c _ _ d k)
  · by_cases h1 : t.val < 12
    · refine (dw_B m c t h0 h1 d f).trans (Finset.sum_congr rfl fun k _ => ?_)
      exact congrArg (fun z : EReal => z * iblk m c 2 t (ix2 k f)) (lhs_at m c _ _ d k)
    · by_cases h2 : t.val % 15 = 14
      · refine (dw_D m c t h0 h1 h2 d f).trans (Finset.sum_congr rfl fun k _ => ?_)
        exact congrArg (fun z : EReal => z * iblk m c 2 t (ix2 k f)) (lhs_at m c _ _ d k)
      · refine (dw_C m c t h0 h1 h2 d f).trans (Finset.sum_congr rfl fun k _ => ?_)
        exact congrArg (fun z : EReal => z * iblk m c 2 t (ix2 k f)) (lhs_at m c _ _ d k)

theorem dw_out (c : Dev nD) (t : Fin cfg0.N) (d : Fin 2880) (f : Fin 512) (j : Fin 7680) (h : j.val = t.val * 512 + f.val) :
    (outsAt0 m c t.val t.isLt).1 (ix2 d f) = dwE (A0 m c) (A1 m c) (A2 m c) (A3 m c) d j := by
  rw [dw_at]
  exact Finset.sum_congr rfl fun k _ => congrArg (fun z : EReal => lE m c d k * z) (b2 m c t k f j h)

/-- The input's gradient in a point's lanes, for the points that compute it. -/
theorem dx_at (c : Dev nD) (t : Fin cfg0.N) (h1 : t.val < 12) (d : Fin 2880) (l : Fin 128) :
    (outsAt0 m c t.val t.isLt).2.1 (ix3 (0 : Fin 1) d l) = dxE (A0 m c) (A1 m c) (A4 m c) (A5 m c) (A6 m c) (A7 m c) (A8 m c) (A9 m c) (A10 m c) (A11 m c) (bOf t.val h1) d (sOf t.val l) := by
  by_cases h0 : t.val % 15 = 0
  · exact dx_A m c t h0 h1 d l
  · refine (dx_B m c t h0 h1 d l).trans ?_
    have e : (fun e => gB m c (t.val - 1) (Nat.lt_of_le_of_lt (Nat.sub_le _ _) t.isLt) e l) = fun e => A9 m c (ix1 e) :=
      funext fun e => gcol_at m c _ _ e l
    rw [e]
    rfl

/-- A later point leaves what point 11 computed. -/
theorem dx_late (c : Dev nD) (n : ℕ) (hn : n < cfg0.N) (h : 11 ≤ n) :
    (outsAt0 m c n hn).2.1 = (outsAt0 m c 11 (by omega)).2.1 := by
  induction n with
  | zero => omega
  | succ n ih =>
    by_cases e : n + 1 = 11
    · obtain rfl : n = 10 := by omega
      rfl
    · rw [dx_C m c ⟨n + 1, hn⟩ (by dsimp only; omega)]
      exact ih (by omega) (by omega)

theorem dx_out (c : Dev nD) (t : Fin cfg0.N) (d : Fin 2880) (l : Fin 128) (b : Fin 6) (s : Fin 256) (hb : b.val = min t.val 11 / 2) (hs : s.val = min t.val 11 % 2 * 128 + l.val) :
    (outsAt0 m c t.val t.isLt).2.1 (ix3 (0 : Fin 1) d l) = dxE (A0 m c) (A1 m c) (A4 m c) (A5 m c) (A6 m c) (A7 m c) (A8 m c) (A9 m c) (A10 m c) (A11 m c) b d s := by
  have hN : cfg0.N = 15 := N_0
  by_cases h : t.val < 12
  · rw [dx_at m c t h]
    obtain rfl : bOf t.val h = b := Fin.ext (by simp only [bOf]; omega)
    obtain rfl : sOf t.val l = s := Fin.ext (by simp only [sOf]; omega)
    rfl
  · rw [dx_late m c t.val t.isLt (by omega)]
    refine (dx_at m c ⟨11, by omega⟩ (by dsimp only; omega) d l).trans ?_
    have e : bOf 11 (by omega) = b := Fin.ext (by simp only [bOf]; omega)
    have e' : sOf 11 l = s := Fin.ext (by simp only [sOf]; omega)
    rw [← e, ← e']

/-- One token's term of the gain's gradient. -/
def gT (c : Dev nD) (d : Fin 2880) (k : Fin 1536) : EReal := hE (A6 m c) (A7 m c) (A10 m c) (A11 m c) d (tb k) (ts k) * xE (A4 m c) (A5 m c) d (tb k) (ts k)

theorem gT_eq (c : Dev nD) (n : ℕ) (h : n < 12) (d : Fin 2880) (l : Fin 128) :
    hE (A6 m c) (A7 m c) (A10 m c) (A11 m c) d (bOf n h) (sOf n l) * xE (A4 m c) (A5 m c) d (bOf n h) (sOf n l) = gT m c d ⟨n * 128 + l.val, by omega⟩ := by
  have e : bOf n h = tb ⟨n * 128 + l.val, by omega⟩ := Fin.ext (by simp only [bOf, tb]; omega)
  have e' : sOf n l = ts ⟨n * 128 + l.val, by omega⟩ := Fin.ext (by simp only [sOf, ts]; omega)
  rw [e, e']
  rfl

/-- The gain's gradient, lane by lane, after `n + 1` points. -/
theorem dg_at (c : Dev nD) (n : ℕ) (hn : n < cfg0.N) (h : n < 12) (d : Fin 2880) (l : Fin 128) :
    (outsAt0 m c n hn).2.2.2.2.2 (ix2 d l) = ∑ u : Fin (n + 1), gT m c d ⟨u.val * 128 + l.val, by omega⟩ := by
  induction n with
  | zero =>
    rw [dg_A m c ⟨0, hn⟩ rfl h, zero_add, Fin.sum_univ_one]
    exact gT_eq m c 0 _ d l
  | succ n ih =>
    rw [dg_B m c ⟨n + 1, hn⟩ (by dsimp only; omega) h, gT_eq m c (n + 1) h d l]
    refine Eq.trans ?_ (Fin.sum_univ_castSucc _).symm
    exact congrArg (fun z : EReal => z + _) (ih (by omega) (by omega))

theorem dg_late (c : Dev nD) (n : ℕ) (hn : n < cfg0.N) (h : 11 ≤ n) :
    (outsAt0 m c n hn).2.2.2.2.2 = (outsAt0 m c 11 (by omega)).2.2.2.2.2 := by
  induction n with
  | zero => omega
  | succ n ih =>
    by_cases e : n + 1 = 11
    · obtain rfl : n = 10 := by omega
      rfl
    · rw [dg_C m c ⟨n + 1, hn⟩ (by dsimp only; omega)]
      exact ih (by omega) (by omega)

theorem dgamma_out (c : Dev nD) (t : Fin cfg0.N) (h : t.val = 14) (d : Fin 2880) :
    (outsAt0 m c t.val t.isLt).2.2.1 (ix2 (0 : Fin 1) d) = dgE (A4 m c) (A5 m c) (A6 m c) (A7 m c) (A10 m c) (A11 m c) d := by
  have hN : cfg0.N = 15 := N_0
  rw [dgamma_D m c t h d]
  refine Eq.trans (Finset.sum_congr rfl fun l _ => ?_) ((Finset.sum_comm (s := Finset.univ) (t := Finset.univ) (f := fun (l : Fin 128) (u : Fin 12) => gT m c d ⟨u.val * 128 + l.val, by omega⟩)).trans
    (Fin.sum_univ_tiles (N := 1536) 12 128 (by norm_num) (gT m c d)).symm)
  rw [dg_late m c (t.val - 1) _ (by omega)]
  exact dg_at m c 11 (by omega) (by omega) d l

end Cert.DwoutIdeal.Hand
-- ==== Proof.DwoutIdeal.Final.lean ====
module

public import proofs.«01_k».proof.Proof.DwoutIdeal.Close
public import Idealize.ShloMosaic.Lib.Pipeline.ValueKit
public import Idealize.ShloMosaic.Lib.Pipeline.ReadBack
public import Idealize.ShloMosaic.Lib.Pointwise

@[expose] public section

set_option maxRecDepth 16384
noncomputable section
open Idealize.ShloMosaic Idealize.ShloMosaic.TcCoe Idealize.SL.Sem
open Idealize.ShloMosaic.Pipeline (Dat)
namespace Cert.DwoutIdeal.Hand
open Cert.DwoutIdeal Cert.DwoutIdeal.Gen
variable (m : (ℓ : Loc nD τ sig) → Buf (Elt Ideal) ℓ)

theorem point12 (c : Dev nD) (t : Fin cfg0.N) (y : S2880x512.Idx) (j : S2880x7680.Idx) (h0 : (j 0).val = (y 0).val) (h1 : (j 1).val = t.val * 512 + (y 1).val) :
    (outsAt0 m c t.val t.isLt).1 y = dwE (A0 m c) (A1 m c) (A2 m c) (A3 m c) (j 0) (j 1) := by
  idx_vars y
  idx_vars j
  obtain rfl : j0 = y0 := Fin.ext h0
  exact dw_out m c t _ _ _ h1

theorem final12 (c : Dev nD) : (dats m 0 c).arrAt 12 (cfgs 0).N = fun j => dwE (A0 m c) (A1 m c) (A2 m c) (A3 m c) (j 0) (j 1) := by
  refine (dats m 0 c).arrAt_eq_of_covers 12 _ (by decide +kernel) fun t hf y => ?_
  blk_simp
  rw [after0_12]
  exact point12 m c t y _ (by blk_simp [idx' t]) (by blk_simp [idx' t])

theorem point13 (c : Dev nD) (t : Fin cfg0.N) (y : S1x2880x128.Idx) (j : S6x2880x256.Idx) (h0 : (j 0).val = min t.val 11 / 2) (h1 : (j 1).val = (y 1).val)
    (h2 : (j 2).val = min t.val 11 % 2 * 128 + (y 2).val) :
    (outsAt0 m c t.val t.isLt).2.1 y = dxE (A0 m c) (A1 m c) (A4 m c) (A5 m c) (A6 m c) (A7 m c) (A8 m c) (A9 m c) (A10 m c) (A11 m c) (j 0) (j 1) (j 2) := by
  idx_vars y
  idx_vars j
  obtain rfl : j1 = y1 := Fin.ext h1
  obtain rfl : y0 = 0 := Subsingleton.elim _ _
  exact dx_out m c t _ _ _ _ h0 h2

theorem final13 (c : Dev nD) : (dats m 0 c).arrAt 13 (cfgs 0).N = fun j => dxE (A0 m c) (A1 m c) (A4 m c) (A5 m c) (A6 m c) (A7 m c) (A8 m c) (A9 m c) (A10 m c) (A11 m c) (j 0) (j 1) (j 2) := by
  refine (dats m 0 c).arrAt_eq_of_covers 13 _ (by decide +kernel) fun t hf y => ?_
  blk_simp
  rw [after0_13]
  exact point13 m c t y _ (by blk_simp [idx' t]) (by blk_simp [idx' t]) (by blk_simp [idx' t])

theorem point14 (c : Dev nD) (t : Fin cfg0.N) (h : t.val = 14) (y j : S1x2880.Idx) (h1 : (j 1).val = (y 1).val) :
    (outsAt0 m c t.val t.isLt).2.2.1 y = dgE (A4 m c) (A5 m c) (A6 m c) (A7 m c) (A10 m c) (A11 m c) (j 1) := by
  idx_vars y
  idx_vars j
  obtain rfl : j1 = y1 := Fin.ext h1
  obtain rfl : y0 = 0 := Subsingleton.elim _ _
  exact dgamma_out m c t h _

theorem final14 (c : Dev nD) : (dats m 0 c).arrAt 14 (cfgs 0).N = fun j => dgE (A4 m c) (A5 m c) (A6 m c) (A7 m c) (A10 m c) (A11 m c) (j 1) := by
  refine (dats m 0 c).arrAt_eq_of_covers 14 _ (by decide +kernel) fun t hf y => ?_
  blk_simp
  rw [after0_14]
  exact point14 m c t (by have := (flush0_14 t).mp hf; have := t.isLt; have : cfg0.N = 15 := N_0; omega) y _ (by blk_simp [idx' t])

end Cert.DwoutIdeal.Hand
-- ==== Proof.DwoutIdeal.Ref.lean ====
module

public import proofs.«01_k».proof.Proof.Gen.DwoutRefIdeal.Value
public import proofs.«01_k».proof.Proof.DwoutIdeal.Elem
public import Idealize.ShloMosaic.Lib.Pipeline.ValueKit
public import Idealize.ShloMosaic.Lib.Pipeline.ReadBack
public import Idealize.ShloMosaic.Lib.Pointwise

@[expose] public section

set_option maxRecDepth 16384
noncomputable section
open Idealize.ShloMosaic Idealize.ShloMosaic.TcCoe Idealize.SL.Sem
namespace Cert.DwoutRefIdeal.Hand
open Cert.DwoutRefIdeal Cert.DwoutRefIdeal.Gen
open Cert.DwoutIdeal.Hand (dwE dxE dgE hE xE tb ts tok mean lnE)

variable (m : (ℓ : Loc nD τ sig) → Buf (Elt Ideal) ℓ)

theorem pay5_at (x : FVec Ideal S6x256x2880 .f32) (u : FVec Ideal S6x256 .f32) (y : FVec Ideal S6x256x2880 .f32) (v : FVec Ideal S6x256 .f32)
    (b : Fin 6) (s : Fin 256) (d : Fin 2880) :
    k0_pay5 (F := Ideal) x u y v (ix3 b s d) = x (ix3 b s d) * u (ix2 b s) + y (ix3 b s d) * v (ix2 b s) := by
  pointwise [k0_pay5]

theorem pay1_at (x : FVec Ideal S6x256x2880 .fp8e4m3) (u : FVec Ideal S6x256 .f32) (b : Fin 6) (s : Fin 256) (d : Fin 2880) :
    k0_pay1 (F := Ideal) x u (ix3 b s d) = x (ix3 b s d) * u (ix2 b s) := by
  pointwise [k0_pay1]

/-- The two groupings of a term's four factors. -/
theorem term_eq (a b c d : EReal) : a * b * (c * d) = a * (d * b) * c := by ac_rfl

/-- The number of features. -/
theorem ofBits_2880 : Ideal.ofBits .f32 1161035776#32 = ((2880 : ℝ) : EReal) := by
  simp [Ideal.ofBits, Ideal.ieee, -EReal.coe_mul]; norm_num

theorem pay4_at (a0 : FVec Ideal S6x256x2880 .fp8e5m2) (a1 : FVec Ideal S6x256 .f32) (a2 : FVec Ideal S6x256x7680 .fp8e4m3) (a3 : FVec Ideal S6x256 .f32)
    (d : Fin 2880) (f : Fin 7680) : k0_pay4 (F := Ideal) a0 a1 a2 a3 (ix2 d f) = dwE a0 a1 a2 a3 d f := by
  pointwise [k0_pay4]
  unfold dwE
  refine Finset.sum_congr rfl fun k _ => ?_
  exact term_eq _ _ _ _

theorem pay2_at (h : FVec Ideal S6x256x2880 .f32) (x : FVec Ideal S6x256x2880 .fp8e4m3) (u : FVec Ideal S6x256 .f32) (d : Fin 2880) :
    k0_pay2 (F := Ideal) h x u (ix2 (0 : Fin 1) d) = ∑ k : Fin 1536, h (ix3 (tb k) (ts k) d) * xE x u d (tb k) (ts k) := by
  pointwise [k0_pay2, k0_pay1]
  rfl

theorem pay3_at (v0 : FVec Ideal S6x256x2880 .fp8e5m2) (v1 : FVec Ideal S6x256 .f32) (g : FVec Ideal S2880 .f32) (h : FVec Ideal S6x256x2880 .f32)
    (x : FVec Ideal S6x256x2880 .fp8e4m3) (u r : FVec Ideal S6x256 .f32) (b : Fin 6) (d : Fin 2880) (s : Fin 256) :
    k0_pay3 (F := Ideal) v0 v1 g h x u r (ix3 b d s) = lnE (v0 (ix3 b s d) * v1 (ix2 b s)) (r (ix2 b s)) (fun e => h (ix3 b s e)) (fun e => xE x u e b s) (fun e => g (ix1 e)) d := by
  pointwise [k0_pay3, k0_pay1]
  unfold lnE mean xE
  rw [ofBits_2880, Ideal.div_coe (by norm_num), Ideal.div_coe (by norm_num)]
  have e : ∀ k : Fin 2880, h (ix3 b s k) * g (ix1 k) * (x (ix3 b s k) * u (ix2 b s)) = h (ix3 b s k) * (x (ix3 b s k) * u (ix2 b s)) * g (ix1 k) := fun k => by ac_rfl
  rw [Finset.sum_congr rfl fun k _ => e k]

theorem idx' : ∀ t : Fin cfg0.N, win0_0.index t = ![0, 0, 0] ∧ win0_1.index t = ![0, 0] ∧ win0_2.index t = ![0, 0, 0] ∧ win0_3.index t = ![0, 0] ∧ win0_4.index t = ![0, 0, 0] ∧ win0_5.index t = ![0, 0] ∧ win0_6.index t = ![0, 0] ∧ win0_7.index t = ![0, 0] ∧ win0_8.index t = ![0, 0] ∧ win0_9.index t = ![0] ∧ win0_10.index t = ![0, 0, 0] ∧ win0_11.index t = ![0, 0, 0] ∧ win0_12.index t = ![0, 0] ∧ win0_13.index t = ![0, 0, 0] ∧ win0_14.index t = ![0, 0] :=
  (by decide +kernel : ∀ t : Fin grid0.N, _)

theorem blk0 (c : Dev nD) (t : Fin cfg0.N) : (iblk m c 0 t : FVec Ideal S6x256x2880 .fp8e5m2) = m ((c : Thread nD τ).loc main_arg0) := by
  funext j
  blk_ext [iblk, V, idx' t]
theorem blk1 (c : Dev nD) (t : Fin cfg0.N) : (iblk m c 1 t : FVec Ideal S6x256 .f32) = m ((c : Thread nD τ).loc main_arg1) := by
  funext j
  blk_ext [iblk, V, idx' t]
theorem blk2 (c : Dev nD) (t : Fin cfg0.N) : (iblk m c 2 t : FVec Ideal S6x256x7680 .fp8e4m3) = m ((c : Thread nD τ).loc main_arg2) := by
  funext j
  blk_ext [iblk, V, idx' t]
theorem blk3 (c : Dev nD) (t : Fin cfg0.N) : (iblk m c 3 t : FVec Ideal S6x256 .f32) = m ((c : Thread nD τ).loc main_arg3) := by
  funext j
  blk_ext [iblk, V, idx' t]
theorem blk4 (c : Dev nD) (t : Fin cfg0.N) : (iblk m c 4 t : FVec Ideal S6x256x2880 .fp8e4m3) = m ((c : Thread nD τ).loc main_arg4) := by
  funext j
  blk_ext [iblk, V, idx' t]
theorem blk5 (c : Dev nD) (t : Fin cfg0.N) : (iblk m c 5 t : FVec Ideal S6x256 .f32) = m ((c : Thread nD τ).loc main_arg5) := by
  funext j
  blk_ext [iblk, V, idx' t]
theorem blk6 (c : Dev nD) (t : Fin cfg0.N) : (iblk m c 6 t : FVec Ideal S6x256 .f32) = m ((c : Thread nD τ).loc main_arg6) := by
  funext j
  blk_ext [iblk, V, idx' t]
theorem blk7 (c : Dev nD) (t : Fin cfg0.N) : (iblk m c 7 t : FVec Ideal S6x256 .f32) = m ((c : Thread nD τ).loc main_arg7) := by
  funext j
  blk_ext [iblk, V, idx' t]
theorem blk8 (c : Dev nD) (t : Fin cfg0.N) : (iblk m c 8 t : FVec Ideal S6x256 .f32) = m ((c : Thread nD τ).loc main_arg8) := by
  funext j
  blk_ext [iblk, V, idx' t]
theorem blk9 (c : Dev nD) (t : Fin cfg0.N) : (iblk m c 9 t : FVec Ideal S2880 .f32) = m ((c : Thread nD τ).loc main_arg9) := by
  funext j
  blk_ext [iblk, V, idx' t]
theorem blk10 (c : Dev nD) (t : Fin cfg0.N) (b : Fin 6) (s : Fin 256) (d : Fin 2880) :
    iblk m c 10 t (ix3 b s d) = (m ((c : Thread nD τ).loc main_arg10) : FVec Ideal S2880x1536 .f32) (ix2 d (tok b s)) := by
  have e : iblk m c 10 t (ix3 b s d) = V m c main_v1 (ix3 b s d) := by blk_ext [iblk, idx' t]
  rw [e]; entry_read; pointwise
  rfl
theorem blk11 (c : Dev nD) (t : Fin cfg0.N) (b : Fin 6) (s : Fin 256) (d : Fin 2880) :
    iblk m c 11 t (ix3 b s d) = (m ((c : Thread nD τ).loc main_arg11) : FVec Ideal S2880x1536 .f32) (ix2 d (tok b s)) := by
  have e : iblk m c 11 t (ix3 b s d) = V m c main_v3 (ix3 b s d) := by blk_ext [iblk, idx' t]
  rw [e]; entry_read; pointwise
  rfl

theorem pay6_eq (x0 : FVec Ideal S6x256x2880 .fp8e5m2) (x1 : FVec Ideal S6x256 .f32) (x2 : FVec Ideal S6x256x7680 .fp8e4m3) (x3 : FVec Ideal S6x256 .f32) (x4 : FVec Ideal S6x256x2880 .fp8e4m3) (x5 : FVec Ideal S6x256 .f32) (x6 : FVec Ideal S6x256 .f32) (x7 : FVec Ideal S6x256 .f32) (x8 : FVec Ideal S6x256 .f32) (x9 : FVec Ideal S2880 .f32) (x10 : FVec Ideal S6x256x2880 .f32) (x11 : FVec Ideal S6x256x2880 .f32) :
    k0_pay6 (F := Ideal) x0 x1 x2 x3 x4 x5 x6 x7 x8 x9 x10 x11 = k0_pay5 (F := Ideal) x10 x6 x11 x7 := by
  unfold k0_pay6
  frame_out

theorem h_at (c : Dev nD) (t : Fin cfg0.N) (b : Fin 6) (s : Fin 256) (d : Fin 2880) :
    k0_pay5 (F := Ideal) (iblk m c 10 t) (iblk m c 6 t) (iblk m c 11 t) (iblk m c 7 t) (ix3 b s d) = hE (m ((c : Thread nD τ).loc main_arg6)) (m ((c : Thread nD τ).loc main_arg7)) (m ((c : Thread nD τ).loc main_arg10)) (m ((c : Thread nD τ).loc main_arg11)) d b s := by
  rw [pay5_at, blk10, blk11, blk6, blk7]
  rfl

theorem point12 (c : Dev nD) (t : Fin cfg0.N) (y j : S2880x7680.Idx) (h0 : (j 0).val = (y 0).val) (h1 : (j 1).val = (y 1).val) :
    out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y
      = dwE (m ((c : Thread nD τ).loc main_arg0)) (m ((c : Thread nD τ).loc main_arg1)) (m ((c : Thread nD τ).loc main_arg2)) (m ((c : Thread nD τ).loc main_arg3)) (j 0) (j 1) := by
  idx_vars y
  idx_vars j
  obtain rfl : j0 = y0 := Fin.ext h0
  obtain rfl : j1 = y1 := Fin.ext h1
  frame_out
  rw [blk0, blk1, blk2, blk3]
  exact pay4_at _ _ _ _ _ _

theorem point13 (c : Dev nD) (t : Fin cfg0.N) (y j : S6x2880x256.Idx) (h0 : (j 0).val = (y 0).val) (h1 : (j 1).val = (y 1).val) (h2 : (j 2).val = (y 2).val) :
    out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y
      = dxE (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (j 0) (j 1) (j 2) := by
  idx_vars y
  idx_vars j
  obtain rfl : j0 = y0 := Fin.ext h0
  obtain rfl : j1 = y1 := Fin.ext h1
  obtain rfl : j2 = y2 := Fin.ext h2
  frame_out
  rw [pay6_eq]
  refine (pay3_at _ _ _ _ _ _ _ j0 j1 j2).trans ?_
  unfold dxE
  rw [blk0, blk1, blk4, blk5, blk8, blk9]
  exact congrArg (fun h => lnE _ _ h _ _ j1) (funext fun e => h_at m c t j0 j2 e)

theorem point14 (c : Dev nD) (t : Fin cfg0.N) (y j : S1x2880.Idx) (h1 : (j 1).val = (y 1).val) :
    out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y
      = dgE (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) (j 1) := by
  idx_vars y
  idx_vars j
  obtain rfl : j1 = y1 := Fin.ext h1
  frame_out
  rw [pay6_eq]
  obtain rfl : y0 = 0 := Subsingleton.elim _ _
  rw [pay2_at]
  unfold dgE
  rw [blk4, blk5]
  exact Finset.sum_congr rfl fun k _ => congrArg (fun z : EReal => z * _) (h_at m c t _ _ j1)

theorem final12 (c : Dev nD) : (dats m 0 c).arrAt 12 (cfgs 0).N = fun j => dwE (m ((c : Thread nD τ).loc main_arg0)) (m ((c : Thread nD τ).loc main_arg1)) (m ((c : Thread nD τ).loc main_arg2)) (m ((c : Thread nD τ).loc main_arg3)) (j 0) (j 1) := by
  refine (dats m 0 c).arrAt_eq_of_covers 12 _ (by decide +kernel) fun t hf y => ?_
  blk_simp
  rw [after0_12]
  exact point12 m c t y _ (by blk_simp [idx' t]) (by blk_simp [idx' t])

theorem final13 (c : Dev nD) : (dats m 0 c).arrAt 13 (cfgs 0).N = fun j => dxE (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (j 0) (j 1) (j 2) := by
  refine (dats m 0 c).arrAt_eq_of_covers 13 _ (by decide +kernel) fun t hf y => ?_
  blk_simp
  rw [after0_13]
  exact point13 m c t y _ (by blk_simp [idx' t]) (by blk_simp [idx' t]) (by blk_simp [idx' t])

theorem final14 (c : Dev nD) : (dats m 0 c).arrAt 14 (cfgs 0).N = fun j => dgE (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) (j 1) := by
  refine (dats m 0 c).arrAt_eq_of_covers 14 _ (by decide +kernel) fun t hf y => ?_
  blk_simp
  rw [after0_14]
  exact point14 m c t y _ (by blk_simp [idx' t])

end Cert.DwoutRefIdeal.Hand
-- ==== Proof.DwoutIdeal.Claim.lean ====
module

public import proofs.«01_k».proof.Proof.DwoutIdeal.Final
public import proofs.«01_k».proof.Proof.DwoutIdeal.Ref
public import proofs.«01_k».proof.Defs
public import Idealize.ShloMosaic.Lib.Claim

@[expose] public section

noncomputable section
open Idealize.ShloMosaic Idealize.ShloMosaic.TcCoe Idealize.SL.Sem
namespace Cert.DwoutIdeal.Hand

/-- The three results follow their arguments. -/
theorem dw_congr {a0 b0 : FVec Ideal S6x256x2880 .fp8e5m2} {a1 b1 : FVec Ideal S6x256 .f32} {a2 b2 : FVec Ideal S6x256x7680 .fp8e4m3} {a3 b3 : FVec Ideal S6x256 .f32}
    (e0 : a0 = b0) (e1 : a1 = b1) (e2 : a2 = b2) (e3 : a3 = b3) :
    (fun j : S2880x7680.Idx => dwE a0 a1 a2 a3 (j 0) (j 1)) = fun j => dwE b0 b1 b2 b3 (j 0) (j 1) := by
  subst e0 e1 e2 e3; rfl

theorem dx_congr {a0 b0 : FVec Ideal S6x256x2880 .fp8e5m2} {a1 b1 : FVec Ideal S6x256 .f32} {a4 b4 : FVec Ideal S6x256x2880 .fp8e4m3}
    {a5 b5 a6 b6 a7 b7 a8 b8 : FVec Ideal S6x256 .f32} {a9 b9 : FVec Ideal S2880 .f32} {a10 b10 a11 b11 : FVec Ideal S2880x1536 .f32}
    (e0 : a0 = b0) (e1 : a1 = b1) (e4 : a4 = b4) (e5 : a5 = b5) (e6 : a6 = b6) (e7 : a7 = b7) (e8 : a8 = b8) (e9 : a9 = b9) (e10 : a10 = b10) (e11 : a11 = b11) :
    (fun j : S6x2880x256.Idx => dxE a0 a1 a4 a5 a6 a7 a8 a9 a10 a11 (j 0) (j 1) (j 2)) = fun j => dxE b0 b1 b4 b5 b6 b7 b8 b9 b10 b11 (j 0) (j 1) (j 2) := by
  subst e0 e1 e4 e5 e6 e7 e8 e9 e10 e11; rfl

theorem dg_congr {a4 b4 : FVec Ideal S6x256x2880 .fp8e4m3} {a5 b5 a6 b6 a7 b7 : FVec Ideal S6x256 .f32} {a10 b10 a11 b11 : FVec Ideal S2880x1536 .f32}
    (e4 : a4 = b4) (e5 : a5 = b5) (e6 : a6 = b6) (e7 : a7 = b7) (e10 : a10 = b10) (e11 : a11 = b11) :
    (fun j : S1x2880.Idx => dgE a4 a5 a6 a7 a10 a11 (j 1)) = fun j => dgE b4 b5 b6 b7 b10 b11 (j 1) := by
  subst e4 e5 e6 e7 e10 e11; rfl

/-- Kernel and reference end with the same three arrays. -/
theorem algebraic : Cert.algebraic_DwoutIdeal_DwoutRefIdeal (hDwoutIdeal := Cert.DwoutIdeal.Gen.facts) (hDwoutRefIdeal := Cert.DwoutRefIdeal.Gen.facts) := by
  intro m g m' g' _ hag
  refine ⟨_, _, _, (θ_run _ _ _).mono (fun r h c => h c) (run_blocks m g), (θ_run _ _ _).mono (fun r h c => ?_) (Cert.DwoutRefIdeal.Value.run_blocks m' g')⟩
  obtain ⟨h12, h13, h14, hk⟩ := h c
  obtain ⟨e0, e1, e2, e3, e4, e5, e6, e7, e8, e9, e10, e11⟩ := hag c
  refine ⟨h12.trans ?_, h13.trans ?_, h14.trans ?_, hk⟩
  · refine (Cert.DwoutRefIdeal.Hand.final12 m' c).trans (Eq.trans ?_ (final12 m c).symm)
    exact dw_congr e0 e1 e2 e3
  · refine (Cert.DwoutRefIdeal.Hand.final13 m' c).trans (Eq.trans ?_ (final13 m c).symm)
    exact dx_congr e0 e1 e4 e5 e6 e7 e8 e9 e10 e11
  · refine (Cert.DwoutRefIdeal.Hand.final14 m' c).trans (Eq.trans ?_ (final14 m c).symm)
    exact dg_congr e4 e5 e6 e7 e10 e11

theorem preserves : Cert.preserves_Dwout_DwoutIdeal := by
  exact IdealRules.named_const.statement Cert.DwoutIdeal.κ "inv_d" .f32 0x39B60B61#32 _ rfl

end Cert.DwoutIdeal.Hand
-- ==== Proof.lean ====
module

public import proofs.«01_k».proof.Defs
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpRefIdeal
public import proofs.«01_k».proof.Proof.Gen.MlpRefIdeal.Skeleton
public import proofs.«01_k».proof.Proof.Gen.MlpRefIdeal.Launch
public import proofs.«01_k».proof.Proof.Gen.MlpRefIdeal.Points
public import proofs.«01_k».proof.Proof.Gen.MlpRefIdeal.Frame
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.AttnRefIdeal.Skeleton
public import proofs.«01_k».proof.Proof.Gen.AttnRefIdeal.Launch
public import proofs.«01_k».proof.Proof.Gen.AttnRefIdeal.Points
public import proofs.«01_k».proof.Proof.Gen.AttnRefIdeal.Frame
public import proofs.«01_k».proof.Proof.Gen.Dwout
public import proofs.«01_k».proof.Proof.Gen.Dwout.Skeleton
public import proofs.«01_k».proof.Proof.Gen.Dwout.Launch
public import proofs.«01_k».proof.Proof.Gen.Dwout.Points
public import proofs.«01_k».proof.Proof.Gen.Dwout.Frame
public import proofs.«01_k».proof.Proof.Gen.DwoutIdeal
public import proofs.«01_k».proof.Proof.Gen.DwoutIdeal.Skeleton
public import proofs.«01_k».proof.Proof.Gen.DwoutIdeal.Launch
public import proofs.«01_k».proof.Proof.Gen.DwoutIdeal.Points
public import proofs.«01_k».proof.Proof.Gen.DwoutIdeal.Frame
public import proofs.«01_k».proof.Proof.Gen.DwoutRefIdeal
public import proofs.«01_k».proof.Proof.Gen.DwoutRefIdeal.Skeleton
public import proofs.«01_k».proof.Proof.Gen.DwoutRefIdeal.Launch
public import proofs.«01_k».proof.Proof.Gen.DwoutRefIdeal.Points
public import proofs.«01_k».proof.Proof.Gen.DwoutRefIdeal.Frame
public import proofs.«01_k».proof.Proof.Mlp.Claim
public import proofs.«01_k».proof.Proof.Attn.Frame
public import proofs.«01_k».proof.Proof.AttnIdeal.Frame
public import proofs.«01_k».proof.Proof.AttnIdeal.Claim
public import proofs.«01_k».proof.Proof.Dwout.Frame
public import proofs.«01_k».proof.Proof.DwoutIdeal.Frame
public import proofs.«01_k».proof.Proof.DwoutIdeal.Claim
public import Idealize.ShloMosaic.Adequacy
public import Idealize.ShloMosaic.Init

@[expose] public section

noncomputable section

namespace Cert.Proof

open Idealize.ShloMosaic Idealize.SL.Sem Cert.Mlp

theorem claim : Cert.Claim := ⟨Cert.Mlp.Gen.facts, Cert.MlpIdeal.Gen.facts, Cert.MlpRefIdeal.Gen.facts, Cert.Attn.Gen.facts, Cert.AttnIdeal.Gen.facts, Cert.AttnRefIdeal.Gen.facts, Cert.Dwout.Gen.facts, Cert.DwoutIdeal.Gen.facts, Cert.DwoutRefIdeal.Gen.facts, fun m ρ _ => Cert.Mlp.Gen.frame m ρ,
  fun m ρ _ => Cert.MlpIdeal.Gen.frame m ρ,
  fun m ρ _ => Cert.MlpRefIdeal.Gen.frame m ρ,
  fun m ρ _ => Cert.Attn.Hand.frame m ρ,
  fun m ρ _ => Cert.AttnIdeal.Hand.frame m ρ,
  fun m ρ _ => Cert.AttnRefIdeal.Gen.frame m ρ,
  fun m ρ _ => Cert.Dwout.Hand.frame m ρ,
  fun m ρ _ => Cert.DwoutIdeal.Hand.frame m ρ,
  fun m ρ _ => Cert.DwoutRefIdeal.Gen.frame m ρ,
  trivial,
  Cert.MlpIdeal.Hand.algebraic,
  trivial,
  Cert.AttnIdeal.Hand.algebraic,
  Cert.DwoutIdeal.Hand.preserves,
  Cert.DwoutIdeal.Hand.algebraic⟩

end Cert.Proof

end
